-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_KernelIdeal [hPre_pre_KernelIdeal : Cert.Pre_pre_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_ReferenceIdeal [hPre_pre_ReferenceIdeal : Cert.Pre_pre_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_KernelIdeal [hKernelIdeal : Cert.KernelIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_ReferenceIdeal [hReferenceIdeal : Cert.ReferenceIdeal.Facts] [hPre_pre_ReferenceIdeal : Cert.Pre_pre_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre_KernelIdeal [hKernelIdeal : Cert.KernelIdeal.Facts] [hReferenceIdeal : Cert.ReferenceIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![4096]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 1024, 2048]⟩ ⟨3, ![8, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 2048, 1024]⟩ ⟨3, ![8, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre_KernelIdeal : Cert.Pre_pre_KernelIdeal.Facts) (hPre_pre_ReferenceIdeal : Cert.Pre_pre_ReferenceIdeal.Facts),
    quiescent_Kernel (hKernel := hKernel)
    ∧ quiescent_KernelIdeal (hKernelIdeal := hKernelIdeal)
    ∧ quiescent_KernelIdeal_pre_pre_KernelIdeal (hKernelIdeal := hKernelIdeal) (hPre_pre_KernelIdeal := hPre_pre_KernelIdeal)
    ∧ quiescent_ReferenceIdeal (hReferenceIdeal := hReferenceIdeal)
    ∧ quiescent_ReferenceIdeal_pre_pre_ReferenceIdeal (hReferenceIdeal := hReferenceIdeal) (hPre_pre_ReferenceIdeal := hPre_pre_ReferenceIdeal)
    ∧ preserves_Kernel_KernelIdeal
    ∧ algebraic_KernelIdeal_ReferenceIdeal_pre_pre_KernelIdeal (hKernelIdeal := hKernelIdeal) (hReferenceIdeal := hReferenceIdeal) (hPre_pre_KernelIdeal := hPre_pre_KernelIdeal)
-- ==== Pre_pre_KernelIdeal.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S_ : Shape := ⟨0, ![]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  reducesTo_S1024_S_d0 : S1024.ReducesTo [0] S_
  h_S_ : 0 < S_.numel
  reducesTo_S1024x8_S8_d0 : S1024x8.ReducesTo [0] S8
  bcast_S_S8 : S_.BroadcastsInDim S8 (![] : Fin 0 → Fin S8.rank)
  reducesTo_S8_S_d0 : S8.ReducesTo [0] S_

variable [Facts]

def fn {F : FTy → Type} [FloatOps F] (main_arg0 : FVec F S1024x1024 .f32) (main_arg1 : IVec S1024 32) (main_arg2 : FVec F S2x1024x2048 .f32) (main_arg3 : FVec F S2x2048x1024 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 8#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : IVec S1024x1 32 := broadcastInDim S1024x1 ![0] bcast_S1024_S1024x1_0 main_arg1
  let main_v6 : IVec S8 32 := iotaInDim S8 32 0
  let main_v7 : IVec S1x8 32 := broadcastInDim S1x8 ![1] bcast_S8_S1x8_1 main_v6
  let main_v8 : IVec S1024x8 32 := broadcastInDim S1024x8 ![0, 1] bcast_S1024x1_S1024x8_0_1 main_v5
  let main_v9 : IVec S1024x8 32 := broadcastInDim S1024x8 ![0, 1] bcast_S1x8_S1024x8_0_1 main_v7
  let main_v10 : IVec S1024x8 1 := cmpi .eq main_v8 main_v9
  let main_v11 : IVec S1024x8 32 := (extui 32 · natLt_1_32) main_v10
  let main_c_1 : IVec S_ 1 := constantI S_ 1 1#1
  let main_v12 : IVec S_ 1 := (fun x v => Host.reduce IntOp.andi x v reducesTo_S1024_S_d0 h_S_) main_v4 main_c_1
  let main_c_2 : IVec S_ 32 := constantI S_ 32 0#32
  let main_v13 : IVec S8 32 := (fun x v => Host.reduce IntOp.addi x v reducesTo_S1024x8_S8_d0 h_S_) main_v11 main_c_2
  let main_c_3 : IVec S_ 32 := constantI S_ 32 160#32
  let main_v14 : IVec S8 32 := broadcastInDim S8 ![] bcast_S_S8 main_c_3
  let main_v15 : IVec S8 1 := cmpi .sle main_v13 main_v14
  let main_c_4 : IVec S_ 1 := constantI S_ 1 1#1
  let main_v16 : IVec S_ 1 := (fun x v => Host.reduce IntOp.andi x v reducesTo_S8_S_d0 h_S_) main_v15 main_c_4
  let main_v17 : IVec S_ 1 := andi main_v12 main_v16
  main_v17
-- ==== Pre_pre_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  natLt_1_32 : 1 < 32
  reducesTo_S4096_S_d0 : S4096.ReducesTo [0] S_
  h_S_ : 0 < S_.numel
  reducesTo_S4096x8_S8_d0 : S4096x8.ReducesTo [0] S8
  bcast_S_S8 : S_.BroadcastsInDim S8 (![] : Fin 0 → Fin S8.rank)
  reducesTo_S8_S_d0 : S8.ReducesTo [0] S_

variable [Facts]

def fn {F : FTy → Type} [FloatOps F] (main_arg0 : FVec F S4096x1024 .f32) (main_arg1 : IVec S4096 32) (main_arg2 : FVec F S8x1024x2048 .f32) (main_arg3 : FVec F S8x2048x1024 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8#32
  let main_v2 : IVec S4096 32 := broadcastInDim S4096 ![] bcast_S_S4096 main_c_0
  let main_v3 : IVec S4096 1 := cmpi .slt main_arg1 main_v2
  let main_v4 : IVec S4096 1 := andi main_v1 main_v3
  let main_v5 : IVec S4096x1 32 := broadcastInDim S4096x1 ![0] bcast_S4096_S4096x1_0 main_arg1
  let main_v6 : IVec S8 32 := iotaInDim S8 32 0
  let main_v7 : IVec S1x8 32 := broadcastInDim S1x8 ![1] bcast_S8_S1x8_1 main_v6
  let main_v8 : IVec S4096x8 32 := broadcastInDim S4096x8 ![0, 1] bcast_S4096x1_S4096x8_0_1 main_v5
  let main_v9 : IVec S4096x8 32 := broadcastInDim S4096x8 ![0, 1] bcast_S1x8_S4096x8_0_1 main_v7
  let main_v10 : IVec S4096x8 1 := cmpi .eq main_v8 main_v9
  let main_v11 : IVec S4096x8 32 := (extui 32 · natLt_1_32) main_v10
  let main_c_1 : IVec S_ 1 := constantI S_ 1 1#1
  let main_v12 : IVec S_ 1 := (fun x v => Host.reduce IntOp.andi x v reducesTo_S4096_S_d0 h_S_) main_v4 main_c_1
  let main_c_2 : IVec S_ 32 := constantI S_ 32 0#32
  let main_v13 : IVec S8 32 := (fun x v => Host.reduce IntOp.addi x v reducesTo_S4096x8_S8_d0 h_S_) main_v11 main_c_2
  let main_c_3 : IVec S_ 32 := constantI S_ 32 160#32
  let main_v14 : IVec S8 32 := broadcastInDim S8 ![] bcast_S_S8 main_c_3
  let main_v15 : IVec S8 1 := cmpi .sle main_v13 main_v14
  let main_c_4 : IVec S_ 1 := constantI S_ 1 1#1
  let main_v16 : IVec S_ 1 := (fun x v => Host.reduce IntOp.andi x v reducesTo_S8_S_d0 h_S_) main_v15 main_c_4
  let main_v17 : IVec S_ 1 := andi main_v12 main_v16
  main_v17
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩
abbrev S_ : Shape := ⟨0, ![]⟩
abbrev S1x1024 : Shape := ⟨2, ![1, 1024]⟩
abbrev S1280x1024 : Shape := ⟨2, ![1280, 1024]⟩
abbrev S3x320x1024 : Shape := ⟨3, ![3, 320, 1024]⟩
abbrev S4x256x2048 : Shape := ⟨3, ![4, 256, 2048]⟩
abbrev S4 : Shape := ⟨1, ![4]⟩
abbrev S1 : Shape := ⟨1, ![1]⟩
abbrev S1x256x2048 : Shape := ⟨3, ![1, 256, 2048]⟩
abbrev S256x2048 : Shape := ⟨2, ![256, 2048]⟩
abbrev S320x1024 : Shape := ⟨2, ![320, 1024]⟩
abbrev S1x256x1024 : Shape := ⟨3, ![1, 256, 1024]⟩
abbrev S256x1024 : Shape := ⟨2, ![256, 1024]⟩
abbrev S160x1024 : Shape := ⟨2, ![160, 1024]⟩
abbrev S1x1024x2048 : Shape := ⟨3, ![1, 1024, 2048]⟩
abbrev S1024x2048 : Shape := ⟨2, ![1024, 2048]⟩
abbrev S160x2048 : Shape := ⟨2, ![160, 2048]⟩
abbrev S1x2048x1024 : Shape := ⟨3, ![1, 2048, 1024]⟩
abbrev S2048x1024 : Shape := ⟨2, ![2048, 1024]⟩
abbrev S1024x320 : Shape := ⟨2, ![1024, 320]⟩
abbrev S1x160x1024 : Shape := ⟨3, ![1, 160, 1024]⟩
abbrev S1x320x1024 : Shape := ⟨3, ![1, 320, 1024]⟩

abbrev nBuf : Space → Nat
  | .hbm => 28
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024, .i32⟩
  | .hbm, ⟨2, _⟩ => ⟨S2x1024x2048, .f32⟩
  | .hbm, ⟨3, _⟩ => ⟨S2x2048x1024, .f32⟩
  | .hbm, ⟨4, _⟩ => ⟨S1024x1024, .bf16⟩
  | .hbm, ⟨5, _⟩ => ⟨S1024x1, .i32⟩
  | .hbm, ⟨6, _⟩ => ⟨S8, .i32⟩
  | .hbm, ⟨7, _⟩ => ⟨S1x8, .i32⟩
  | .hbm, ⟨8, _⟩ => ⟨S1024x8, .i32⟩
  | .hbm, ⟨9, _⟩ => ⟨S1024x8, .i32⟩
  | .hbm, ⟨10, _⟩ => ⟨S1024x8, .i1⟩
  | .hbm, ⟨11, _⟩ => ⟨S1024x8, .i32⟩
  | .hbm, ⟨12, _⟩ => ⟨S_, .i32⟩
  | .hbm, ⟨13, _⟩ => ⟨S_, .i32⟩
  | .hbm, ⟨14, _⟩ => ⟨S1024x8, .i32⟩
  | .hbm, ⟨15, _⟩ => ⟨S1024x8, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1x1024, .i32⟩
  | .hbm, ⟨26, _⟩ => ⟨S1024x1, .i32⟩
  | .hbm, ⟨27, _⟩ => ⟨S1024x1024, .f32⟩
  | .local _ .vmem, ⟨0, _⟩ => ⟨S1024x1024, .bf16⟩
  | .local _ .vmem, ⟨1, _⟩ => ⟨S1x1024, .i32⟩
  | .local _ .vmem, ⟨2, _⟩ => ⟨S1024x1, .i32⟩
  | .local _ .vmem, ⟨3, _⟩ => ⟨S1024x1024, .f32⟩
  | .local _ .vmem, ⟨4, _⟩ => ⟨S1280x1024, .bf16⟩
  | .local _ .vmem, ⟨5, _⟩ => ⟨S1280x1024, .bf16⟩
  | .local _ .vmem, ⟨6, _⟩ => ⟨S3x320x1024, .bf16⟩
  | .local _ .vmem, ⟨7, _⟩ => ⟨S1280x1024, .bf16⟩
  | .local _ .vmem, ⟨8, _⟩ => ⟨S2x1024x2048, .bf16⟩
  | .local _ .vmem, ⟨9, _⟩ => ⟨S2x2048x1024, .bf16⟩
  | .local _ .vmem, ⟨10, _⟩ => ⟨S4x256x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_c : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v28 : BitVec 32 := Scalar.addi v2 c1_i32_22
  let c4_i32_23 : BitVec 32 := 4#32
  let c0_i32_24 : BitVec 32 := 0#32
  let v29 : BitVec 1 := Scalar.cmpi .eq c4_i32_23 c0_i32_24
  let c1_i32_25 : BitVec 32 := 1#32
  let v30 : BitVec 32 := Scalar.select v29 c1_i32_25 c4_i32_23
  let v31 : BitVec 32 := Scalar.remsi v28 v30
  let c0_i32_27 : BitVec 32 := 0#32
  let v33 : BitVec 1 := Scalar.cmpi .slt v31 c0_i32_27
  let c0_i32_28 : BitVec 32 := 0#32
  let v34 : BitVec 1 := Scalar.cmpi .slt v30 c0_i32_28
  let v35 : BitVec 1 := Scalar.xori v33 v34
  let c0_i32_26 : BitVec 32 := 0#32
  let v32 : BitVec 1 := Scalar.cmpi .ne v31 c0_i32_26
  let v36 : BitVec 1 := Scalar.andi v35 v32
  let v37 : BitVec 32 := Scalar.addi v31 v30
  let v38 : BitVec 32 := Scalar.select v36 v37 v31
  let c1_i32_30 : BitVec 32 := 1#32
  let v39 : BitVec 32 := Scalar.muli v38 c1_i32_30
  let v40 : BitVec 32 := Scalar.addi c0_i32_31 v39
  v40.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v41 : BitVec 32 := Scalar.addi v2 c2_i32_32
  let c4_i32_33 : BitVec 32 := 4#32
  let c0_i32_34 : BitVec 32 := 0#32
  let v42 : BitVec 1 := Scalar.cmpi .eq c4_i32_33 c0_i32_34
  let c1_i32_35 : BitVec 32 := 1#32
  let v43 : BitVec 32 := Scalar.select v42 c1_i32_35 c4_i32_33
  let v44 : BitVec 32 := Scalar.remsi v41 v43
  let c0_i32_37 : BitVec 32 := 0#32
  let v46 : BitVec 1 := Scalar.cmpi .slt v44 c0_i32_37
  let c0_i32_38 : BitVec 32 := 0#32
  let v47 : BitVec 1 := Scalar.cmpi .slt v43 c0_i32_38
  let v48 : BitVec 1 := Scalar.xori v46 v47
  let c0_i32_36 : BitVec 32 := 0#32
  let v45 : BitVec 1 := Scalar.cmpi .ne v44 c0_i32_36
  let v49 : BitVec 1 := Scalar.andi v48 v45
  let v50 : BitVec 32 := Scalar.addi v44 v43
  let v51 : BitVec 32 := Scalar.select v49 v50 v44
  let c1_i32_40 : BitVec 32 := 1#32
  let v52 : BitVec 32 := Scalar.muli v51 c1_i32_40
  let v53 : BitVec 32 := Scalar.addi c0_i32_41 v52
  v53.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v54 : BitVec 32 := Scalar.addi v2 c3_i32_42
  let c4_i32_43 : BitVec 32 := 4#32
  let c0_i32_44 : BitVec 32 := 0#32
  let v55 : BitVec 1 := Scalar.cmpi .eq c4_i32_43 c0_i32_44
  let c1_i32_45 : BitVec 32 := 1#32
  let v56 : BitVec 32 := Scalar.select v55 c1_i32_45 c4_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c1_i32_50 : BitVec 32 := 1#32
  let v65 : BitVec 32 := Scalar.muli v64 c1_i32_50
  let v66 : BitVec 32 := Scalar.addi c0_i32_51 v65
  v66.toNat
def k0_off1 (d0 : Dev nD) (c1_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.addi v2 c1_i32_53
  let c4_i32_54 : BitVec 32 := 4#32
  let c0_i32_55 : BitVec 32 := 0#32
  let v68 : BitVec 1 := Scalar.cmpi .eq c4_i32_54 c0_i32_55
  let c1_i32_56 : BitVec 32 := 1#32
  let v69 : BitVec 32 := Scalar.select v68 c1_i32_56 c4_i32_54
  let v70 : BitVec 32 := Scalar.remsi v67 v69
  let c0_i32_58 : BitVec 32 := 0#32
  let v72 : BitVec 1 := Scalar.cmpi .slt v70 c0_i32_58
  let c0_i32_59 : BitVec 32 := 0#32
  let v73 : BitVec 1 := Scalar.cmpi .slt v69 c0_i32_59
  let v74 : BitVec 1 := Scalar.xori v72 v73
  let c0_i32_57 : BitVec 32 := 0#32
  let v71 : BitVec 1 := Scalar.cmpi .ne v70 c0_i32_57
  let v75 : BitVec 1 := Scalar.andi v74 v71
  let v76 : BitVec 32 := Scalar.addi v70 v69
  let v77 : BitVec 32 := Scalar.select v75 v76 v70
  let c320_i32_63 : BitVec 32 := 320#32
  let v93 : BitVec 32 := Scalar.muli v77 c320_i32_63
  let v94 : Index := Scalar.indexCast v93
  let c0_64 : Index := 0#32
  ![v94.toNat, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_66 : BitVec 32 := 320#32
  let v99 : BitVec 32 := Scalar.muli v2 c320_i32_66
  let c0_i32_70 : BitVec 32 := 0#32
  ![v99.toNat, 0]
def k0_off4 (d0 : Dev nD) (c1_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v67 : BitVec 32 := Scalar.addi v2 c1_i32_53
  let c4_i32_54 : BitVec 32 := 4#32
  let c0_i32_55 : BitVec 32 := 0#32
  let v68 : BitVec 1 := Scalar.cmpi .eq c4_i32_54 c0_i32_55
  let c1_i32_56 : BitVec 32 := 1#32
  let v69 : BitVec 32 := Scalar.select v68 c1_i32_56 c4_i32_54
  let v70 : BitVec 32 := Scalar.remsi v67 v69
  let c0_i32_58 : BitVec 32 := 0#32
  let v72 : BitVec 1 := Scalar.cmpi .slt v70 c0_i32_58
  let c0_i32_59 : BitVec 32 := 0#32
  let v73 : BitVec 1 := Scalar.cmpi .slt v69 c0_i32_59
  let v74 : BitVec 1 := Scalar.xori v72 v73
  let c0_i32_57 : BitVec 32 := 0#32
  let v71 : BitVec 1 := Scalar.cmpi .ne v70 c0_i32_57
  let v75 : BitVec 1 := Scalar.andi v74 v71
  let v76 : BitVec 32 := Scalar.addi v70 v69
  let v77 : BitVec 32 := Scalar.select v75 v76 v70
  let c320_i32_65 : BitVec 32 := 320#32
  let v98 : BitVec 32 := Scalar.muli v77 c320_i32_65
  let c0_i32_71 : BitVec 32 := 0#32
  ![v98.toNat, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v67 : BitVec 32 := Scalar.addi v2 c1_i32_53
  let c4_i32_54 : BitVec 32 := 4#32
  let c0_i32_55 : BitVec 32 := 0#32
  let v68 : BitVec 1 := Scalar.cmpi .eq c4_i32_54 c0_i32_55
  let c1_i32_56 : BitVec 32 := 1#32
  let v69 : BitVec 32 := Scalar.select v68 c1_i32_56 c4_i32_54
  let v70 : BitVec 32 := Scalar.remsi v67 v69
  let c0_i32_58 : BitVec 32 := 0#32
  let v72 : BitVec 1 := Scalar.cmpi .slt v70 c0_i32_58
  let c0_i32_59 : BitVec 32 := 0#32
  let v73 : BitVec 1 := Scalar.cmpi .slt v69 c0_i32_59
  let v74 : BitVec 1 := Scalar.xori v72 v73
  let c0_i32_57 : BitVec 32 := 0#32
  let v71 : BitVec 1 := Scalar.cmpi .ne v70 c0_i32_57
  let v75 : BitVec 1 := Scalar.andi v74 v71
  let v76 : BitVec 32 := Scalar.addi v70 v69
  let v77 : BitVec 32 := Scalar.select v75 v76 v70
  let c1_i32_68 : BitVec 32 := 1#32
  let v100 : BitVec 32 := Scalar.muli v77 c1_i32_68
  let v101 : BitVec 32 := Scalar.addi c0_i32_69 v100
  v101.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_72 : BitVec 32 := 2#32
  let v108 : BitVec 32 := Scalar.addi v2 c2_i32_72
  let c4_i32_73 : BitVec 32 := 4#32
  let c0_i32_74 : BitVec 32 := 0#32
  let v109 : BitVec 1 := Scalar.cmpi .eq c4_i32_73 c0_i32_74
  let c1_i32_75 : BitVec 32 := 1#32
  let v110 : BitVec 32 := Scalar.select v109 c1_i32_75 c4_i32_73
  let v111 : BitVec 32 := Scalar.remsi v108 v110
  let c0_i32_77 : BitVec 32 := 0#32
  let v113 : BitVec 1 := Scalar.cmpi .slt v111 c0_i32_77
  let c0_i32_78 : BitVec 32 := 0#32
  let v114 : BitVec 1 := Scalar.cmpi .slt v110 c0_i32_78
  let v115 : BitVec 1 := Scalar.xori v113 v114
  let c0_i32_76 : BitVec 32 := 0#32
  let v112 : BitVec 1 := Scalar.cmpi .ne v111 c0_i32_76
  let v116 : BitVec 1 := Scalar.andi v115 v112
  let v117 : BitVec 32 := Scalar.addi v111 v110
  let v118 : BitVec 32 := Scalar.select v116 v117 v111
  let c1_i32_90 : BitVec 32 := 1#32
  let v141 : BitVec 32 := Scalar.muli v118 c1_i32_90
  let v142 : BitVec 32 := Scalar.addi c0_i32_91 v141
  v142.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_94 : BitVec 32 := 3#32
  let v149 : BitVec 32 := Scalar.addi v2 c3_i32_94
  let c4_i32_95 : BitVec 32 := 4#32
  let c0_i32_96 : BitVec 32 := 0#32
  let v150 : BitVec 1 := Scalar.cmpi .eq c4_i32_95 c0_i32_96
  let c1_i32_97 : BitVec 32 := 1#32
  let v151 : BitVec 32 := Scalar.select v150 c1_i32_97 c4_i32_95
  let v152 : BitVec 32 := Scalar.remsi v149 v151
  let c0_i32_99 : BitVec 32 := 0#32
  let v154 : BitVec 1 := Scalar.cmpi .slt v152 c0_i32_99
  let c0_i32_100 : BitVec 32 := 0#32
  let v155 : BitVec 1 := Scalar.cmpi .slt v151 c0_i32_100
  let v156 : BitVec 1 := Scalar.xori v154 v155
  let c0_i32_98 : BitVec 32 := 0#32
  let v153 : BitVec 1 := Scalar.cmpi .ne v152 c0_i32_98
  let v157 : BitVec 1 := Scalar.andi v156 v153
  let v158 : BitVec 32 := Scalar.addi v152 v151
  let v159 : BitVec 32 := Scalar.select v157 v158 v152
  let c1_i32_112 : BitVec 32 := 1#32
  let v182 : BitVec 32 := Scalar.muli v159 c1_i32_112
  let v183 : BitVec 32 := Scalar.addi c0_i32_113 v182
  v183.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_122 : BitVec 32 := 320#32
  let v205 : BitVec 32 := Scalar.muli v2 c320_i32_122
  let v206 : Index := Scalar.indexCast v205
  let c0_123 : Index := 0#32
  ![v206.toNat, 0]
def k0_off6 (d0 : Dev nD) (c0_i32_351 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_350 : BitVec 32 := 320#32
  let v426 : BitVec 32 := Scalar.muli v2 c320_i32_350
  let v427 : BitVec 32 := Scalar.addi v426 c0_i32_351
  let v428 : Index := Scalar.indexCast v427
  let c0_352 : Index := 0#32
  ![v428.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_362 : BitVec 32 := 320#32
  let v440 : BitVec 32 := Scalar.muli v2 c320_i32_362
  let v441 : Index := Scalar.indexCast v440
  let c0_363 : Index := 0#32
  ![v441.toNat, 0]
def k0_off8 (d0 : Dev nD) (c3_i32_598 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v673 : BitVec 32 := Scalar.addi v2 c3_i32_598
  let c4_i32_599 : BitVec 32 := 4#32
  let c0_i32_600 : BitVec 32 := 0#32
  let v674 : BitVec 1 := Scalar.cmpi .eq c4_i32_599 c0_i32_600
  let c1_i32_601 : BitVec 32 := 1#32
  let v675 : BitVec 32 := Scalar.select v674 c1_i32_601 c4_i32_599
  let v676 : BitVec 32 := Scalar.remsi v673 v675
  let c0_i32_603 : BitVec 32 := 0#32
  let v678 : BitVec 1 := Scalar.cmpi .slt v676 c0_i32_603
  let c0_i32_604 : BitVec 32 := 0#32
  let v679 : BitVec 1 := Scalar.cmpi .slt v675 c0_i32_604
  let v680 : BitVec 1 := Scalar.xori v678 v679
  let c0_i32_602 : BitVec 32 := 0#32
  let v677 : BitVec 1 := Scalar.cmpi .ne v676 c0_i32_602
  let v681 : BitVec 1 := Scalar.andi v680 v677
  let v682 : BitVec 32 := Scalar.addi v676 v675
  let v683 : BitVec 32 := Scalar.select v681 v682 v676
  ![v683.toNat]
def k0_off9 (d0 : Dev nD) (c3_i32_598 : BitVec 32) (c0_i32_612 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v673 : BitVec 32 := Scalar.addi v2 c3_i32_598
  let c4_i32_599 : BitVec 32 := 4#32
  let c0_i32_600 : BitVec 32 := 0#32
  let v674 : BitVec 1 := Scalar.cmpi .eq c4_i32_599 c0_i32_600
  let c1_i32_601 : BitVec 32 := 1#32
  let v675 : BitVec 32 := Scalar.select v674 c1_i32_601 c4_i32_599
  let v676 : BitVec 32 := Scalar.remsi v673 v675
  let c0_i32_603 : BitVec 32 := 0#32
  let v678 : BitVec 1 := Scalar.cmpi .slt v676 c0_i32_603
  let c0_i32_604 : BitVec 32 := 0#32
  let v679 : BitVec 1 := Scalar.cmpi .slt v675 c0_i32_604
  let v680 : BitVec 1 := Scalar.xori v678 v679
  let c0_i32_602 : BitVec 32 := 0#32
  let v677 : BitVec 1 := Scalar.cmpi .ne v676 c0_i32_602
  let v681 : BitVec 1 := Scalar.andi v680 v677
  let v682 : BitVec 32 := Scalar.addi v676 v675
  let v683 : BitVec 32 := Scalar.select v681 v682 v676
  let c320_i32_611 : BitVec 32 := 320#32
  let v692 : BitVec 32 := Scalar.muli v683 c320_i32_611
  let v693 : BitVec 32 := Scalar.addi v692 c0_i32_612
  let v694 : Index := Scalar.indexCast v693
  let c0_613 : Index := 0#32
  ![v694.toNat, 0]
def k0_dev7 (d0 : Dev nD) : Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_598 : BitVec 32 := 3#32
  let v673 : BitVec 32 := Scalar.addi v2 c3_i32_598
  let c4_i32_599 : BitVec 32 := 4#32
  let c0_i32_600 : BitVec 32 := 0#32
  let v674 : BitVec 1 := Scalar.cmpi .eq c4_i32_599 c0_i32_600
  let c1_i32_601 : BitVec 32 := 1#32
  let v675 : BitVec 32 := Scalar.select v674 c1_i32_601 c4_i32_599
  let v676 : BitVec 32 := Scalar.remsi v673 v675
  let c0_i32_603 : BitVec 32 := 0#32
  let v678 : BitVec 1 := Scalar.cmpi .slt v676 c0_i32_603
  let c0_i32_604 : BitVec 32 := 0#32
  let v679 : BitVec 1 := Scalar.cmpi .slt v675 c0_i32_604
  let v680 : BitVec 1 := Scalar.xori v678 v679
  let c0_i32_602 : BitVec 32 := 0#32
  let v677 : BitVec 1 := Scalar.cmpi .ne v676 c0_i32_602
  let v681 : BitVec 1 := Scalar.andi v680 v677
  let v682 : BitVec 32 := Scalar.addi v676 v675
  let v683 : BitVec 32 := Scalar.select v681 v682 v676
  let c1_i32_643 : BitVec 32 := 1#32
  let v727 : BitVec 32 := Scalar.muli v683 c1_i32_643
  let v728 : BitVec 32 := Scalar.addi c0_i32_644 v727
  v728.toNat
def k0_dev8 (d0 : Dev nD) : Nat :=
  let c0_i32_695 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_648 : BitVec 32 := 2#32
  let v736 : BitVec 32 := Scalar.addi v2 c2_i32_648
  let c4_i32_649 : BitVec 32 := 4#32
  let c0_i32_650 : BitVec 32 := 0#32
  let v737 : BitVec 1 := Scalar.cmpi .eq c4_i32_649 c0_i32_650
  let c1_i32_651 : BitVec 32 := 1#32
  let v738 : BitVec 32 := Scalar.select v737 c1_i32_651 c4_i32_649
  let v739 : BitVec 32 := Scalar.remsi v736 v738
  let c0_i32_653 : BitVec 32 := 0#32
  let v741 : BitVec 1 := Scalar.cmpi .slt v739 c0_i32_653
  let c0_i32_654 : BitVec 32 := 0#32
  let v742 : BitVec 1 := Scalar.cmpi .slt v738 c0_i32_654
  let v743 : BitVec 1 := Scalar.xori v741 v742
  let c0_i32_652 : BitVec 32 := 0#32
  let v740 : BitVec 1 := Scalar.cmpi .ne v739 c0_i32_652
  let v744 : BitVec 1 := Scalar.andi v743 v740
  let v745 : BitVec 32 := Scalar.addi v739 v738
  let v746 : BitVec 32 := Scalar.select v744 v745 v739
  let c1_i32_694 : BitVec 32 := 1#32
  let v790 : BitVec 32 := Scalar.muli v746 c1_i32_694
  let v791 : BitVec 32 := Scalar.addi c0_i32_695 v790
  v791.toNat
def k0_dev9 (d0 : Dev nD) : Nat :=
  let c0_i32_746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_699 : BitVec 32 := 1#32
  let v799 : BitVec 32 := Scalar.addi v2 c1_i32_699
  let c4_i32_700 : BitVec 32 := 4#32
  let c0_i32_701 : BitVec 32 := 0#32
  let v800 : BitVec 1 := Scalar.cmpi .eq c4_i32_700 c0_i32_701
  let c1_i32_702 : BitVec 32 := 1#32
  let v801 : BitVec 32 := Scalar.select v800 c1_i32_702 c4_i32_700
  let v802 : BitVec 32 := Scalar.remsi v799 v801
  let c0_i32_704 : BitVec 32 := 0#32
  let v804 : BitVec 1 := Scalar.cmpi .slt v802 c0_i32_704
  let c0_i32_705 : BitVec 32 := 0#32
  let v805 : BitVec 1 := Scalar.cmpi .slt v801 c0_i32_705
  let v806 : BitVec 1 := Scalar.xori v804 v805
  let c0_i32_703 : BitVec 32 := 0#32
  let v803 : BitVec 1 := Scalar.cmpi .ne v802 c0_i32_703
  let v807 : BitVec 1 := Scalar.andi v806 v803
  let v808 : BitVec 32 := Scalar.addi v802 v801
  let v809 : BitVec 32 := Scalar.select v807 v808 v802
  let c1_i32_745 : BitVec 32 := 1#32
  let v853 : BitVec 32 := Scalar.muli v809 c1_i32_745
  let v854 : BitVec 32 := Scalar.addi c0_i32_746 v853
  v854.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S4096x1 : Shape := ⟨2, ![4096, 1]⟩
abbrev S1x1024x2048 : Shape := ⟨3, ![1, 1024, 2048]⟩
abbrev S1024x2048 : Shape := ⟨2, ![1024, 2048]⟩
abbrev S4096x2048 : Shape := ⟨2, ![4096, 2048]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S4096x1, .i1⟩
  | .hbm, ⟨10, _⟩ => ⟨S1x1024x2048, .f32⟩
  | .hbm, ⟨11, _⟩ => ⟨S1024x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096x1, .i1⟩
  | .hbm, ⟨25, _⟩ => ⟨S1x1024x2048, .f32⟩
  | .hbm, ⟨26, _⟩ => ⟨S1024x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096x1, .i1⟩
  | .hbm, ⟨40, _⟩ => ⟨S1x1024x2048, .f32⟩
  | .hbm, ⟨41, _⟩ => ⟨S1024x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S4096x1, .i1⟩
  | .hbm, ⟨55, _⟩ => ⟨S1x1024x2048, .f32⟩
  | .hbm, ⟨56, _⟩ => ⟨S1024x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S4096x1, .i1⟩
  | .hbm, ⟨70, _⟩ => ⟨S1x1024x2048, .f32⟩
  | .hbm, ⟨71, _⟩ => ⟨S1024x2048, .f32⟩
  | .hbm, ⟨72, _⟩ => ⟨S4096x2048, .f32⟩
  | .hbm, ⟨73, _⟩ => ⟨S_, .f32⟩
  | .hbm, ⟨74, _⟩ => ⟨S4096x2048, .f32⟩
  | .hbm, ⟨75, _⟩ => ⟨S4096x2048, .f32⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S4096x1, .i1⟩
  | .hbm, ⟨85, _⟩ => ⟨S1x1024x2048, .f32⟩
  | .hbm, ⟨86, _⟩ => ⟨S1024x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S4096x1, .i1⟩
  | .hbm, ⟨100, _⟩ => ⟨S1x1024x2048, .f32⟩
  | .hbm, ⟨101, _⟩ => ⟨S1024x2048, .f32⟩
  | .hbm, ⟨102, _⟩ => ⟨S4096x2048, .f32⟩
  | .hbm, ⟨103, _⟩ => ⟨S_, .f32⟩
  | .hbm, ⟨104, _⟩ => ⟨S4096x2048, .f32⟩
  | .hbm, ⟨105, _⟩ => ⟨S4096x2048, .f32⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S_, .i32⟩
  | .hbm, ⟨112, _⟩ => ⟨S4096, .i32⟩
  | .hbm, ⟨113, _⟩ => ⟨S4096, .i1⟩
  | .hbm, ⟨114, _⟩ => ⟨S4096x1, .i1⟩
  | .hbm, ⟨115, _⟩ => ⟨S1x1024x2048, .f32⟩
  | .hbm, ⟨116, _⟩ => ⟨S1024x2048, .f32⟩
  | .hbm, ⟨117, _⟩ => ⟨S4096x2048, .f32⟩
  | .hbm, ⟨118, _⟩ => ⟨S_, .f32⟩
  | .hbm, ⟨119, _⟩ => ⟨S4096x2048, .f32⟩
  | .hbm, ⟨120, _⟩ => ⟨S4096x2048, .f32⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Ops.lean ====
module

public import Idealize.ShloMosaic.Lib.Memref
public import Idealize.ShloMosaic.Lib.MemrefSat
public import Idealize.ShloMosaic.Lib.ViewIndex
public import Idealize.ShloMosaic.Lib.Writes
public import Idealize.ShloMosaic.Lib.Transfers
public import Idealize.ShloMosaic.Lib.Rounds
public import Idealize.ShloMosaic.Lib.Pipeline.Regions
public import Idealize.ShloMosaic.Lib.Pipeline.Kit
public import Idealize.ShloMosaic.Lib.Tactic

@[expose] public section

noncomputable section

namespace Cert.Ops

open Idealize.ShloMosaic
open Idealize.SL Idealize.SL.RA Idealize.SL.BI
open scoped Idealize.SL.BI
open Idealize.SL.BI.BIBase Idealize.SL.BI.Laws Idealize.SL.ProofMode Idealize.SL.Sem

/-! ## Loads and stores at windows of a memref

The rules for a vector load and a vector store when the thread owns a window of a memref at stated
values. The window the access names and the window owned may be written differently; an embedding of
indices says where the one lies in the other. -/

section

variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants)
variable {α : Type} (c : Thread nD τ) {Q : α → sProp (MT nD τ sig Ix Val Name U Lvl)}

local notation "𝕄" => MT nD τ sig Ix Val Name U Lvl

variable (bd : Option 𝒱.V) (E : Set Name)
variable {cs : CoreSpace} {s : Shape} {e : EltTy} {m : Memref sig c.2.kind cs s e}

/-- The elements a window's access touches, where the window lies in another one. -/
theorem access_subset {κ : Kind} {sp : Space} {s : Shape} {e : EltTy} (v : View sig κ sp s e) (r₁ r₂ : Rect s)
    (g : r₂.shape.Idx → r₁.shape.Idx) (hg : ∀ i, r₂.emb i = r₁.emb (g i)) : (v.slice r₂).set ⊆ (v.slice r₁).set := by
  intro x hx
  rw [View.set, Finset.mem_map] at hx ⊢
  obtain ⟨i, -, rfl⟩ := hx
  refine ⟨g i, Finset.mem_univ _, ?_⟩
  show v.emb (r₁.emb (g i)) = v.emb (r₂.emb i)
  rw [hg]

/-- A load at a window that lies in an owned one returns the owned values there. -/
theorem wp_load_in {r₁ r₂ : Rect s} (h₁ : ∀ a, r₁.stride a = 1) {hl : m.view.LoadsAt r₂.toLoadRect}
    {k : (r₂.shape.Idx → Val e) → Prog (TpuEff nD τ sig Val Λ c.2) α} {q : PosShare TreeShare} {X : r₁.shape.Idx → Val e}
    (g : r₂.shape.Idx → r₁.shape.Idx) (hg : ∀ i, r₂.emb i = r₁.emb (g i)) :
    (owns c (m.slice r₁ h₁) q X : sProp 𝕄)
      ⊢ iprop((owns c (m.slice r₁ h₁) q X -∗ wp frame (wpE defs 𝒱 c bd) E (k (fun i => X (g i))) Q)
        -∗ wp frame (wpE defs 𝒱 c bd) E (.op (.load m r₂.toLoadRect hl) k) Q) := by
  unfold owns
  iintro ⟨%f, %hf, H⟩ Hk
  have hv : (m.access r₂).read Val f = fun i => X (g i) := by
    funext i
    rw [← hf, View.read_apply, View.read_apply]
    have : (m.access r₂).emb i = (m.slice r₁ h₁).view.emb (g i) := by
      show m.view.emb (r₂.emb i) = m.view.emb (r₁.emb (g i)); rw [hg]
    rw [this]
  iapply (wp_load_rect 𝒱 c bd E (hl := hl) (access_subset m.view r₁ r₂ g hg)) $$ [H]
  · iexact H
  iintro H
  rw [hv]
  iapply Hk
  iexists f
  isplitr; · ipureintro; exact hf
  iexact H

/-- A store at a window that lies in an owned one leaves the owned window at the new values. -/
theorem wp_store_in {r₁ r₂ : Rect s} (h₁ : ∀ a, r₁.stride a = 1) {w : r₂.shape.Idx → Val e}
    {hx : (m.access r₂).Stores Finset.univ} {hm : (Finset.univ : Finset r₂.shape.Idx) = Finset.univ ∨ ∀ a, r₂.stride a = 1}
    {k : PUnit → Prog (TpuEff nD τ sig Val Λ c.2) α} {X : r₁.shape.Idx → Val e} (X' : r₁.shape.Idx → Val e)
    (g : r₂.shape.Idx → r₁.shape.Idx) (hg : ∀ i, r₂.emb i = r₁.emb (g i))
    (hin : ∀ i, X' (g i) = w i) (hout : ∀ j, (∀ i, g i ≠ j) → X' j = X j) :
    (owns c (m.slice r₁ h₁) fullShare X : sProp 𝕄)
      ⊢ iprop((owns c (m.slice r₁ h₁) fullShare X' -∗ wp frame (wpE defs 𝒱 c bd) E (k ⟨⟩) Q)
        -∗ wp frame (wpE defs 𝒱 c bd) E (.op (.store m r₂ w Finset.univ hx hm) k) Q) := by
  unfold owns
  iintro ⟨%f, %hf, H⟩ Hk
  iapply (wp_store 𝒱 c bd E (hx := hx) (hm := hm) (access_subset m.view r₁ r₂ g hg)) $$ [H]
  · iexact H
  iintro H
  iapply Hk
  iexists _
  isplitr [H]
  rotate_left
  · iexact H
  · ipureintro
    funext j
    by_cases hj : ∃ i, g i = j
    · obtain ⟨i, rfl⟩ := hj
      rw [hin, View.read_apply]
      have h2 : (m.slice r₁ h₁).view.emb (g i) = (m.access r₂).emb i := by
        show m.view.emb (r₁.emb (g i)) = m.view.emb (r₂.emb i); rw [hg]
      rw [h2, ← View.read_apply]
      exact View.read_write_of_mem _ _ (Finset.mem_univ i)
    · push Not at hj
      rw [hout j hj, ← hf, View.read_apply, View.read_apply, View.write_of_not_mem]
      intro hmem
      rw [View.setOn, Finset.mem_map] at hmem
      obtain ⟨i, -, hi⟩ := hmem
      have h3 : m.view.emb (r₂.emb i) = m.view.emb (r₁.emb j) := hi
      rw [hg] at h3
      exact hj i (r₁.emb.injective (m.view.emb.injective h3))

/-- A load at the owned window, written with another offset. -/
theorem wp_load_at {o o' size : Fin s.rank → ℕ} {h : ∀ a, o a + size a ≤ s.size a} {h' : ∀ a, o' a + size a ≤ s.size a}
    (ho : o' = o) {hl : m.view.LoadsAt (Rect.unit o' size h').toLoadRect}
    {k : ((Rect.unit o' size h').shape.Idx → Val e) → Prog (TpuEff nD τ sig Val Λ c.2) α} {q : PosShare TreeShare}
    {X : (Rect.unit o size h).shape.Idx → Val e} :
    (owns c (m.slice (Rect.unit o size h) (fun _ => rfl)) q X : sProp 𝕄)
      ⊢ iprop((owns c (m.slice (Rect.unit o size h) (fun _ => rfl)) q X -∗ wp frame (wpE defs 𝒱 c bd) E (k X) Q)
        -∗ wp frame (wpE defs 𝒱 c bd) E (.op (.load m (Rect.unit o' size h').toLoadRect hl) k) Q) := by
  subst ho
  exact wp_load_in 𝒱 c bd E (fun _ => rfl) (fun i => i) (fun _ => rfl)

/-- A store at the owned window, written with another offset. -/
theorem wp_store_at {o o' size : Fin s.rank → ℕ} {h : ∀ a, o a + size a ≤ s.size a} {h' : ∀ a, o' a + size a ≤ s.size a}
    (ho : o' = o) {w : (Rect.unit o' size h').shape.Idx → Val e}
    {hx : (m.access (Rect.unit o' size h')).Stores Finset.univ}
    {hm : (Finset.univ : Finset (Rect.unit o' size h').shape.Idx) = Finset.univ ∨ ∀ a, (Rect.unit o' size h').stride a = 1}
    {k : PUnit → Prog (TpuEff nD τ sig Val Λ c.2) α} {X : (Rect.unit o size h).shape.Idx → Val e} :
    (owns c (m.slice (Rect.unit o size h) (fun _ => rfl)) fullShare X : sProp 𝕄)
      ⊢ iprop((owns c (m.slice (Rect.unit o size h) (fun _ => rfl)) fullShare w -∗ wp frame (wpE defs 𝒱 c bd) E (k ⟨⟩) Q)
        -∗ wp frame (wpE defs 𝒱 c bd) E (.op (.store m (Rect.unit o' size h') w Finset.univ hx hm) k) Q) := by
  subst ho
  exact wp_store_in 𝒱 c bd E (fun _ => rfl) w (fun i => i) (fun _ => rfl) (fun _ => rfl) (fun j hj => absurd rfl (hj j))

/-- A load at a window of an owned memref returns the owned values there. -/
theorem wp_load_of {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun i => X (r.emb i))) Q)
        -∗ wp frame (wpE defs 𝒱 c bd) E (.op (.load m r.toLoadRect hl) k) Q) := by
  unfold owns
  iintro ⟨%f, %hf, H⟩ Hk
  have hv : (m.access r).read Val f = fun i => X (r.emb i) := by
    funext i; rw [← hf]; rfl
  iapply (wp_load_rect 𝒱 c bd E (hl := hl) (View.set_slice_subset m.view r)) $$ [H]
  · iexact H
  iintro H
  rw [hv]
  iapply Hk
  iexists f
  isplitr; · ipureintro; exact hf
  iexact H

/-- A store at a window of an owned memref leaves it at the new values. -/
theorem wp_store_of {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} (X' : s.Idx → Val e)
    (hin : ∀ i, X' (r.emb i) = w i) (hout : ∀ j, (∀ i, r.emb i ≠ j) → X' j = X j) :
    (owns c m fullShare X : sProp 𝕄)
      ⊢ iprop((owns c m fullShare X' -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (hx := hx) (hm := hm) (View.set_slice_subset m.view r)) $$ [H]
  · iexact H
  iintro H
  iapply Hk
  iexists _
  isplitr [H]
  rotate_left
  · iexact H
  · ipureintro
    funext j
    by_cases hj : ∃ i, r.emb i = j
    · obtain ⟨i, rfl⟩ := hj
      rw [hin]
      exact View.read_slice_write_emb _ _ _ (Finset.mem_univ i)
    · push Not at hj
      rw [hout j hj, ← hf]
      refine View.read_slice_write_of_not_mem _ _ _ _ fun hmem => ?_
      obtain ⟨i, -, hi⟩ := Finset.mem_map.mp hmem
      exact hj i hi

end

/-! ## Windows of an owned memref, and squeezed ones -/

section

variable {nD : Nat} {τ : Topo} {sig : RefSig} {Val : EltTy → Type}
variable {Ix : Type} [DecidableEq Ix] {Name : Type} [DecidableEq Name] {U : Type} [URA U] {Lvl : Type} [Preorder Lvl]
variable (c : Thread nD τ) {sp : Space} {s s' : Shape} {e : EltTy} (m : Memref sig c.2.kind sp s e)

local notation "𝕄" => MT nD τ sig Ix Val Name U Lvl

/-- An owned memref lends a window and takes it back unchanged. -/
theorem owns_lend (q : PosShare TreeShare) (r : Rect s) (hr : ∀ a, r.stride a = 1) (X : s.Idx → Val e) :
    (owns c m q X : sProp 𝕄) ⊢ iprop(owns c (m.slice r hr) q (fun i => X (r.emb i))
      ∗ (owns c (m.slice r hr) q (fun i => X (r.emb i)) -∗ owns c m q X)) := by
  iintro H
  ihave H2 := (owns_slice_split c m q r hr X) $$ H
  icases H2 with ⟨Hs, %f, %hf, Hr⟩
  isplitl [Hs]; · iexact Hs
  iintro Hs
  have h : (owns c m q (r.overlay (m.view.read Val f) (fun i => X (r.emb i))) : sProp 𝕄) ⊢ owns c m q X := by
    rw [hf]
    have : r.overlay X (fun i => X (r.emb i)) = X := by
      funext j
      by_cases hj : j ∈ r.set
      · obtain ⟨i, rfl⟩ := r.exists_idx_of_mem hj
        exact Rect.overlay_emb _ _ _ _
      · exact Rect.overlay_of_not_mem _ _ _ hj
    rw [this]
  iapply h
  iapply (owns_slice_join c m q r hr (fun i => X (r.emb i)) f)
  isplitl [Hs]; · iexact Hs
  iexact Hr

/-- A squeezed memref is owned at the values re-indexed. -/
theorem owns_squeeze (q : PosShare TreeShare) (h : s.Squeezes s') (X : s.Idx → Val e) :
    (owns c m q X : sProp 𝕄) ⊣⊢ owns c (m.squeeze s' h) q (fun i => X (Shape.reshapeEquiv h.numel_eq i)) := by
  have hset : (m.squeeze s' h).view.set = m.view.set := View.set_reshape _ _
  have hread : ∀ f, (m.squeeze s' h).view.read Val f = fun i => m.view.read Val f (Shape.reshapeEquiv h.numel_eq i) := fun _ => rfl
  constructor
  · unfold owns
    iintro ⟨%f, %hf, H⟩
    iexists f
    isplitr
    · ipureintro; rw [hread, hf]
    rw [hset]; iexact H
  · unfold owns
    iintro ⟨%f, %hf, H⟩
    iexists f
    isplitr
    · ipureintro
      rw [hread] at hf
      funext j
      have := congrFun hf ((Shape.reshapeEquiv h.numel_eq).symm j)
      simpa using this
    rw [hset]; iexact H

/-- A memref written through at values `X` is owned at them. -/
theorem owns_written (f : m.view.ty.Contents Val) {w X : s.Idx → Val e} (h : w = X) :
    (m.view.loc c ↦[m.view.set]{fullShare} (m.view.write Val f w Finset.univ) : sProp 𝕄) ⊢ owns c m fullShare X := by
  have := owns_intro (Ix := Ix) (Name := Name) (U := U) (Lvl := Lvl) c m fullShare (m.view.write Val f w Finset.univ)
  subst h
  rwa [View.read_write_univ] at this

/-- The elements `S` of a memref's buffer at contents whose window `r` reads `Y`. -/
def holds (S : Finset (Idx (m.view.loc c))) (r : Rect s) (hr : ∀ a, r.stride a = 1) (Y : r.shape.Idx → Val e) : sProp 𝕄 :=
  iprop(∃ f, ⌜(m.slice r hr).view.read Val f = Y⌝ ∗ m.view.loc c ↦[S]{fullShare} f)

end

/-! ## Copies -/

section

variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants)
variable {α : Type} (c : Thread nD τ) {Q : α → sProp (MT nD τ sig Ix Val Name U Lvl)}

local notation "𝕄" => MT nD τ sig Ix Val Name U Lvl

variable (bd : Option 𝒱.V)

/-- A load at the window a transfer has filled. -/
theorem wp_load_holds (E : Set Name) {cs : CoreSpace} {s : Shape} {e : EltTy} {m : Memref sig c.2.kind cs s e}
    {S : Finset (Idx (m.view.loc c))} {o o' size : Fin s.rank → ℕ} {h : ∀ a, o a + size a ≤ s.size a}
    {h' : ∀ a, o' a + size a ≤ s.size a} (ho : o' = o)
    (hS : (m.view.slice (Rect.unit o size h)).set ⊆ S)
    {hl : m.view.LoadsAt (Rect.unit o' size h').toLoadRect}
    {k : ((Rect.unit o' size h').shape.Idx → Val e) → Prog (TpuEff nD τ sig Val Λ c.2) α}
    {Y : (Rect.unit o size h).shape.Idx → Val e} :
    (holds c m S (Rect.unit o size h) (fun _ => rfl) Y : sProp 𝕄)
      ⊢ iprop((holds c m S (Rect.unit o size h) (fun _ => rfl) Y -∗ wp frame (wpE defs 𝒱 c bd) E (k Y) Q)
        -∗ wp frame (wpE defs 𝒱 c bd) E (.op (.load m (Rect.unit o' size h').toLoadRect hl) k) Q) := by
  subst ho
  unfold holds
  iintro ⟨%f, %hf, H⟩ Hk
  have hv : (m.access (Rect.unit o' size h')).read Val f = Y := hf
  iapply (wp_load_rect 𝒱 c bd E (hl := hl) hS) $$ [H]
  · iexact H
  iintro H
  rw [hv]
  iapply Hk
  iexists f
  isplitr; · ipureintro; exact hf
  iexact H

variable (EC : UEmb Counters (MT nD τ sig Ix Val Name U Lvl))

/-- A local copy of a window of an owned memref into a window of another one, both squeezed alike: what is in
    flight gives, at its wait, the window filled and the source back. -/
theorem wp_start [Infinite Name] [EC.toEmb.LandsIn (upEmb : UEmb _ 𝕄)] {n : ℕ} {z₁ z₂ sz o₁ o₂ : Fin n → ℕ} {s' : Shape}
    {e : EltTy} {sp sp' : Space} {ms : Memref sig c.2.kind sp ⟨n, z₁⟩ e} {md : Memref sig c.2.kind sp' ⟨n, z₂⟩ e}
    {h₁ : ∀ a, o₁ a + sz a ≤ z₁ a} {h₂ : ∀ a, o₂ a + sz a ≤ z₂ a} {hs hs' : Shape.Squeezes ⟨n, sz⟩ s'} {sm : SemLoc sig}
    {hsrc : ((ms.slice (Rect.unit (s := ⟨n, z₁⟩) o₁ sz h₁) (fun _ => rfl)).squeeze s' hs).view.WordExact}
    {hdst : ((md.slice (Rect.unit (s := ⟨n, z₂⟩) o₂ sz h₂) (fun _ => rfl)).squeeze s' hs').view.WordExact}
    {hsem : DmaTarget.Typed (nD := nD) sp sm (.here ((md.slice (Rect.unit (s := ⟨n, z₂⟩) o₂ sz h₂) (fun _ => rfl)).squeeze s' hs'))}
    {k : PUnit → Prog (TpuEff nD τ sig Val Λ c.2) α} {q : PosShare TreeShare} {Xs : Shape.Idx ⟨n, z₁⟩ → Val e}
    {Sd : Finset (Idx (md.view.loc c))} (ι : Ix) (N : ℕ)
    (hN : ((md.slice (Rect.unit (s := ⟨n, z₂⟩) o₂ sz h₂) (fun _ => rfl)).squeeze s' hs').view.amount sm = N) (hN0 : 0 < N)
    (hSd : (md.view.slice (Rect.unit (s := ⟨n, z₂⟩) o₂ sz h₂)).set ⊆ Sd) :
    (iprop(owns c ms q Xs ∗ (∃ f, md.view.loc c ↦[Sd]{fullShare} f) ∗ semVal (c, sm) 0) : sProp 𝕄)
      ⊢ iprop(((∃ D, Transfers.Flight EC c sm ι N D
              ∗ (D -∗ holds c md Sd (Rect.unit (s := ⟨n, z₂⟩) o₂ sz h₂) (fun _ => rfl)
                        (fun i => Xs ((Rect.unit (s := ⟨n, z₁⟩) o₁ sz h₁).emb i)) ∗ owns c ms q Xs))
            -∗ wp frame (wpE defs 𝒱 c bd) Set.univ (k ⟨⟩) Q)
          -∗ wp frame (wpE defs 𝒱 c bd) Set.univ
              (.op (.enqueueDma ((ms.slice (Rect.unit (s := ⟨n, z₁⟩) o₁ sz h₁) (fun _ => rfl)).squeeze s' hs)
                (.here ((md.slice (Rect.unit (s := ⟨n, z₂⟩) o₂ sz h₂) (fun _ => rfl)).squeeze s' hs')) sm hsrc hdst hsem) k) Q) := by
  iintro ⟨Hs, ⟨%fd, Hd⟩, Hv⟩ Hk
  ihave H2 := (owns_lend c ms q (Rect.unit (s := ⟨n, z₁⟩) o₁ sz h₁) (fun _ => rfl) Xs) $$ Hs
  icases H2 with ⟨Hw, Hback⟩
  ihave Hq := (owns_squeeze c (ms.slice (Rect.unit (s := ⟨n, z₁⟩) o₁ sz h₁) (fun _ => rfl)) q hs _).1 $$ Hw
  ihave H3 := (show ∀ {X}, (owns c ((ms.slice (Rect.unit (s := ⟨n, z₁⟩) o₁ sz h₁) (fun _ => rfl)).squeeze s' hs) q X : sProp 𝕄) ⊢ iprop(∃ g, ⌜((ms.slice (Rect.unit (s := ⟨n, z₁⟩) o₁ sz h₁) (fun _ => rfl)).squeeze s' hs).view.read Val g = X⌝
      ∗ ((ms.slice (Rect.unit (s := ⟨n, z₁⟩) o₁ sz h₁) (fun _ => rfl)).squeeze s' hs).view.loc c ↦[((ms.slice (Rect.unit (s := ⟨n, z₁⟩) o₁ sz h₁) (fun _ => rfl)).squeeze s' hs).view.set]{q} g) from .rfl) $$ Hq
  icases H3 with ⟨%fs, %hfs, Hsrc⟩
  iapply (Transfers.wp_dmaLocal EC 𝒱 c bd (src := (ms.slice (Rect.unit (s := ⟨n, z₁⟩) o₁ sz h₁) (fun _ => rfl)).squeeze s' hs)
      (dst := (md.slice (Rect.unit (s := ⟨n, z₂⟩) o₂ sz h₂) (fun _ => rfl)).squeeze s' hs') (fs := fs) (fd := fd) (Sd := Sd) (q := q)
      ι N hN hN0 (by rw [View.set_reshape]; exact hSd)) $$ [Hsrc Hd Hv]
  · isplitl [Hsrc]; · iexact Hsrc
    isplitl [Hd]; · iexact Hd
    iexact Hv
  iintro Hfl
  iapply Hk
  iexists _
  isplitl [Hfl]; · iexact Hfl
  iintro ⟨Hd, Hsrc⟩
  isplitl [Hd]
  · unfold holds
    iexists _
    isplitr [Hd]
    rotate_left
    · iexact Hd
    · ipureintro
      funext x
      have h0 := View.read_write_reshape (md.view.slice (Rect.unit (s := ⟨n, z₂⟩) o₂ sz h₂)) hs'.numel_eq fd
        (((ms.slice (Rect.unit (s := ⟨n, z₁⟩) o₁ sz h₁) (fun _ => rfl)).squeeze s' hs).view.read Val fs) ((Shape.reshapeEquiv hs'.numel_eq).symm x)
      rw [Equiv.apply_symm_apply] at h0
      refine h0.trans ?_
      rw [hfs]
      show Xs ((Rect.unit (s := ⟨n, z₁⟩) o₁ sz h₁).emb (Shape.reshapeEquiv hs.numel_eq ((Shape.reshapeEquiv hs'.numel_eq).symm x))) = _
      congr 2
      exact Equiv.apply_symm_apply _ _
  · iapply Hback
    iapply (owns_squeeze c (ms.slice (Rect.unit (s := ⟨n, z₁⟩) o₁ sz h₁) (fun _ => rfl)) q hs _).2
    unfold owns
    iexists fs
    isplitr; · ipureintro; exact hfs
    iexact Hsrc

variable {D : Type} [DecidableEq D]

/-- A copy to another device under a schedule: both payloads from the memrefs owned. -/
theorem wp_send_owns {E : Emb (Rounds.URounds (GSem nD τ sig) D) 𝕄} (Rd : Rounds.Schedule (GSem nD τ sig) D 𝕄)
    [∀ g r d, BI.Storable (upEmb : UEmb _ 𝕄) (Rd.payload g r d)]
    {sp sp' : Space} {s : Shape} {e : EltTy}
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {Xs Xd : s.Idx → Val e} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q Xs ⊢ Rd.payload (c, sS) r₁ d₁)
    (hpay₂ : owns c' dst fullShare Xs ⊢ Rd.payload (c', sem) r₂ d₂) {Es : Set Name} (hr : τ.routes c c' = true := by routes) :
    iprop(Rounds.cellInv E Rd κ₁ (c, sS) ∗ Rounds.cellInv E Rd κ₂ (c', sem)
        ∗ owns c src q Xs ∗ owns c' dst fullShare Xd
        ∗ owes c O₀ W
        ∗ Rounds.dutyTok E (c, sS) r₁ d₁ ∗ Rounds.reached E (c, sS) r₁
        ∗ Rounds.dutyTok E (c', sem) r₂ d₂ ∗ Rounds.reached E (c', sem) r₂)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨Hi1, Hi2, Hs, Hd, HR⟩
  ihave H1 := (show (owns c src q Xs : sProp 𝕄) ⊢ iprop(∃ g, ⌜src.view.read Val g = Xs⌝ ∗ src.view.loc c ↦[src.view.set]{q} g) from .rfl) $$ Hs
  icases H1 with ⟨%fs, %hfs, Hs⟩
  ihave H2 := (show (owns c' dst fullShare Xd : sProp 𝕄) ⊢ iprop(∃ g, ⌜dst.view.read Val g = Xd⌝ ∗ dst.view.loc c' ↦[dst.view.set]{fullShare} g) from .rfl) $$ Hd
  icases H2 with ⟨%fd, %hfd, Hd⟩
  iapply (Rounds.wp_send_pointsTo 𝒱 E Rd c bd (fs := fs) (fd := fd) (q := q) hd₁ hd₂ ι ι' N hN hk₁ hk₂ O hO (W := W)
    ((hfs ▸ owns_intro c src q fs).trans hpay₁) ((owns_written c' dst fd (hfs ▸ rfl)).trans hpay₂) hr)
  isplitl [Hi1]; · iexact Hi1
  isplitl [Hi2]; · iexact Hi2
  isplitl [Hs]; · iexact Hs
  isplitl [Hd]; · iexact Hd
  iexact HR

end

end Cert.Ops
-- ==== Proof.Protocol.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Ops

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers and the semaphores -/

abbrev A3 : Memref sig .tc .hbm S2x1024x2048 .f32 := Memref.whole main_arg2
abbrev A4 : Memref sig .tc .hbm S2x2048x1024 .f32 := Memref.whole main_arg3
abbrev A6 : Memref sig .tc .vmem S1280x1024 .bf16 := Memref.whole cc0_scratch0
abbrev A7 : Memref sig .tc .vmem S1280x1024 .bf16 := Memref.whole cc0_scratch1
abbrev A8 : Memref sig .tc .vmem S3x320x1024 .bf16 := Memref.whole cc0_scratch2
abbrev A9 : Memref sig .tc .vmem S1280x1024 .bf16 := Memref.whole cc0_scratch3
abbrev A10 : Memref sig .tc .vmem S2x1024x2048 .bf16 := Memref.whole cc0_scratch4
abbrev A11 : Memref sig .tc .vmem S2x2048x1024 .bf16 := Memref.whole cc0_scratch5
abbrev A12 : Memref sig .tc .vmem S4x256x2048 .f32 := Memref.whole cc0_scratch6

/-- The DMA semaphore `i` of family `f`: staging, send and arrival of the first exchange, send and arrival of the
    second, the weight chunks. -/
def ds (f : Fin 6) (i : Fin 4) : DmaSem sig := (⟨4 * f.val + i.val, by have := f.isLt; have := i.isLt; show _ < 24; omega⟩ : Fin 24)

/-- The barrier's semaphore. -/
abbrev barS : Sem sig := sig.barrier 0 rfl

/-- The device `i` places after `c`. -/
def sh (c : Dev nD) (i : Fin 4) : Dev nD := (⟨(c.val + i.val) % 4, Nat.mod_lt _ (by decide)⟩ : Fin 4)

/-- The rows of the bucket buffers that belong to device `d`. -/
abbrev rowR (d : Dev nD) : Rect S1280x1024 :=
  Rect.unit (s := S1280x1024) ![320 * d.val, 0] S320x1024.size (by revert d; decide +kernel)

/-- The part `i` of the buffer the results are sent from. -/
abbrev pR (i : Fin 4) : Rect S3x320x1024 :=
  Rect.unit (s := S3x320x1024) ![i.val - 1, 0, 0] S1x320x1024.size (by revert i; decide +kernel)

/-- A staging slot of the weight chunks, and its part that a chunk of the second weight fills. -/
abbrev slotR (k : Fin 4) : Rect S4x256x2048 :=
  Rect.unit (s := S4x256x2048) ![k.val, 0, 0] S1x256x2048.size (by revert k; decide +kernel)
abbrev slotR' (k : Fin 4) : Rect S4x256x2048 :=
  Rect.unit (s := S4x256x2048) ![k.val, 0, 0] S1x256x1024.size (by revert k; decide +kernel)

/-- Chunk `j` of expert `x`'s weights. -/
abbrev ch1 (x : Fin 2) (j : Fin 4) : Rect S2x1024x2048 :=
  Rect.unit (s := S2x1024x2048) ![x.val, 256 * j.val, 0] S1x256x2048.size (by revert x j; decide +kernel)
abbrev ch2 (x : Fin 2) (j : Fin 8) : Rect S2x2048x1024 :=
  Rect.unit (s := S2x2048x1024) ![x.val, 256 * j.val, 0] S1x256x1024.size (by revert x j; decide +kernel)

/-- Expert `x`'s weights. -/
abbrev ex1 (x : Fin 2) : Rect S2x1024x2048 :=
  Rect.unit (s := S2x1024x2048) ![x.val, 0, 0] S1x1024x2048.size (by revert x; decide +kernel)
abbrev ex2 (x : Fin 2) : Rect S2x2048x1024 :=
  Rect.unit (s := S2x2048x1024) ![x.val, 0, 0] S1x2048x1024.size (by revert x; decide +kernel)

/-- The rows of a device's bucket that belong to its expert `x`. -/
abbrev half (x : Fin 2) : Rect S320x1024 :=
  Rect.unit (s := S320x1024) ![160 * x.val, 0] S160x1024.size (by revert x; decide +kernel)

/-! ## The values -/

/-- What the kernel reads, per device: the tokens, the slots (as a row and as a column) and the weights. -/
structure Ins (F : FTy → Type) where
  x : Dev nD → Vec F S1024x1024 .bf16
  kr : Dev nD → Vec F S1x1024 .i32
  kc : Dev nD → Vec F S1024x1 .i32
  w1 : Dev nD → Vec F S2x1024x2048 .f32
  w2 : Dev nD → Vec F S2x2048x1024 .f32

variable (I : Ins F)

/-- The device's number as the kernel computes it. -/
def wd (d : Dev nD) : BitVec 32 := Scalar.remsi (Scalar.divsi (Dev.word d) 1#32) 4#32

/-- The tokens of `c` in the slots of device `d`'s experts. -/
def disp (c d : Dev nD) : Vec F S320x1024 .bf16 := k0_pay9 (k0_pay8 (wd d) (I.kr c) (I.x c))

/-- The weights of device `c`, narrowed. -/
def w1f (c : Dev nD) : Vec F S2x1024x2048 .bf16 := truncf .bf16 (I.w1 c) bitsLt_bf16_f32
def w2f (c : Dev nD) : Vec F S2x2048x1024 .bf16 := truncf .bf16 (I.w2 c) bitsLt_bf16_f32

/-- Expert `x` of device `c` on 160 rows. -/
def expert (c : Dev nD) (x : Fin 2) (y : Vec F S160x1024 .bf16) : Vec F S160x1024 .bf16 :=
  k0_pay22 y (fun i => w1f I c ((ex1 x).emb i)) (fun i => w2f I c ((ex2 x).emb i))

/-- Two blocks of 160 rows, one after the other. -/
def cat (a b : Vec F S160x1024 .bf16) : Vec F S320x1024 .bf16 := fun i =>
  if h : (i 0).val < 160 then a (fun | ⟨0, _⟩ => ⟨(i 0).val, h⟩ | ⟨1, _⟩ => ⟨(i 1).val, (i 1).isLt⟩)
  else b (fun
    | ⟨0, _⟩ => ⟨(i 0).val - 160, by have := (i 0).isLt; have h2 : S320x1024.size 0 = 320 := rfl; show _ < 160; omega⟩
    | ⟨1, _⟩ => ⟨(i 1).val, (i 1).isLt⟩)

/-- What device `s` computes for device `d`'s tokens. -/
def ret (s d : Dev nD) : Vec F S320x1024 .bf16 :=
  cat (expert I s 0 (fun i => disp I d s ((half 0).emb i))) (expert I s 1 (fun i => disp I d s ((half 1).emb i)))

/-! ## The algebra of the ghost state -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL

def ER : Emb UB (MT nD τ sig Unit (Elt F) ℕ UU ℕ) :=
  ((Emb.inl : Emb UB (UB × Counters)).trans (Emb.inr : Emb (UB × Counters) UU)).trans (uEmb : UEmb UU (MT nD τ sig Unit (Elt F) ℕ UU ℕ)).toEmb

instance ER_landsIn : (ER (F := F)).LandsIn (upEmb : UEmb _ 𝕄) := by unfold ER; infer_instance

abbrev EC : UEmb Counters (MT nD τ sig Unit (Elt F) ℕ UU ℕ) := countersEmb

abbrev 𝒱₀ : Variants := Variants.none

/-! ## The schedule -/

abbrev barCell (c : Dev nD) : GSem nD τ sig := ((c : Thread nD τ), .reg barS)
abbrev dCell (c : Dev nD) (f : Fin 6) (i : Fin 4) : GSem nD τ sig := ((c : Thread nD τ), .dma (ds f i))

/-- The amount a copy of a bucket raises its semaphores by. -/
abbrev N : ℕ := (A7.slice (rowR 0) (fun _ => rfl)).view.dmaCredit
theorem N_pos : 0 < N := View.dmaCredit_pos _ (by decide)

/-- A bucket's rows at values not stated. -/
abbrev rows (c : Dev nD) (m : Memref sig .tc .vmem S1280x1024 .bf16) (d : Dev nD) : sProp 𝕄 :=
  iprop(∃ X, owns (c : Thread nD τ) (m.slice (rowR d) (fun _ => rfl)) fullShare X)
/-- A bucket's rows at stated values. -/
abbrev rowsAt (c : Dev nD) (m : Memref sig .tc .vmem S1280x1024 .bf16) (d : Dev nD) (X : Vec F S320x1024 .bf16) : sProp 𝕄 :=
  owns (c : Thread nD τ) (m.slice (rowR d) (fun _ => rfl)) fullShare X

/-- What device `p` hands to device `c` at the barrier: the rows of its two arrival buffers that `c` writes, and that
    the semaphores they arrive on are in use. -/
def barPay (c p : Dev nD) : sProp 𝕄 :=
  iprop(rows p A7 c ∗ rows p A9 c ∗ reached ER (dCell p 2 c) 0 ∗ reached ER (dCell p 4 c) 0)

/-- What the copies hand over. -/
def payD (c : Dev nD) (f : ℕ) (i : Fin 4) : sProp 𝕄 :=
  if f = 1 then rows c A6 (sh c i)
  else if f = 2 then rowsAt c A7 i (disp I i c)
  else if f = 3 then iprop(∃ X, owns (c : Thread nD τ) (A8.slice (pR i) (fun _ => rfl)) fullShare X)
  else if f = 4 then rowsAt c A9 i (ret I i c)
  else iprop(emp)

/-- One duty per copy; none on the semaphores no copy uses. -/
def dutyD (c : Dev nD) (f : ℕ) (i : Fin 4) : Finset (Dev nD) :=
  if (f = 1 ∨ f = 3) ∧ i ≠ 0 then {i} else if (f = 2 ∨ f = 4) ∧ i ≠ c then {i} else ∅

def fam (j : DmaSem sig) : ℕ := (j : Fin 24).val / 4
def ix (j : DmaSem sig) : Fin 4 := ⟨(j : Fin 24).val % 4, Nat.mod_lt _ (by decide)⟩

theorem fam_ds (f : Fin 6) (i : Fin 4) : fam (ds f i) = f.val := by
  show (4 * f.val + i.val) / 4 = _; have := i.isLt; omega
theorem ix_ds (f : Fin 6) (i : Fin 4) : ix (ds f i) = i := by
  apply Fin.ext; show (4 * f.val + i.val) % 4 = _; have := i.isLt; omega

/-- One round per semaphore: the barrier's of three units, one from each other device; a copy's of its bytes. -/
def Rd : Rounds.Schedule (GSem nD τ sig) (Dev nD) 𝕄 where
  duties g r := if r = 0 ∧ g.1.2 = .tc then
      (match g.2 with
        | .reg s => if s = barS then Finset.univ.erase g.1.1 else ∅
        | .dma j => dutyD g.1.1 (fam j) (ix j))
    else ∅
  unitless _ := False
  amount g _ _ := match g.2 with | .reg _ => 1 | .dma _ => N
  payload g _ d := match g.2 with | .reg _ => barPay g.1.1 d | .dma j => payD I g.1.1 (fam j) (ix j)
  amount_pos g _ _ _ := by
    rcases g with ⟨t, s | s⟩
    · exact Nat.one_pos
    · exact N_pos

instance Rd_storable (g : GSem nD τ sig) (r : ℕ) (d : Dev nD) :
    BI.Storable (upEmb : UEmb _ 𝕄) ((Rd I).payload g r d) := by
  rcases g with ⟨t, s | s⟩
  · show BI.Storable upEmb (barPay t.1 d)
    unfold barPay; infer_instance
  · show BI.Storable upEmb (payD I t.1 (fam s) (ix s))
    unfold payD
    (repeat' split) <;> infer_instance

theorem duties_bar (c : Dev nD) : (Rd I).duties (barCell c) 0 = Finset.univ.erase c := by
  dsimp only [Rd]; rw [if_pos ⟨rfl, rfl⟩, if_pos rfl]
theorem duties_d (c : Dev nD) (f : Fin 6) (i : Fin 4) : (Rd I).duties (dCell c f i) 0 = dutyD c f.val i := by
  dsimp only [Rd]; rw [if_pos ⟨rfl, rfl⟩, fam_ds, ix_ds]
theorem duties_later (g : GSem nD τ sig) : ∀ r, 1 ≤ r → (Rd I).duties g r = ∅ :=
  fun r hr => by dsimp only [Rd]; rw [if_neg (fun h => by omega)]
theorem payload_d (c : Dev nD) (f : Fin 6) (i : Fin 4) (d : Dev nD) : (Rd I).payload (dCell c f i) 0 d = payD I c f.val i := by
  dsimp only [Rd]; rw [fam_ds, ix_ds]
theorem payload_bar (c d : Dev nD) : (Rd I).payload (barCell c) 0 d = barPay c d := rfl
theorem amount_d (c : Dev nD) (f : Fin 6) (i : Fin 4) (d : Dev nD) : (Rd I).amount (dCell c f i) 0 d = N := rfl
theorem amount_bar (c d : Dev nD) : (Rd I).amount (barCell c) 0 d = 1 := rfl

theorem peers (c : Dev nD) : Finset.univ.erase c = {sh c 1, sh c 2, sh c 3} := by revert c; decide +kernel

theorem expect_bar (c : Dev nD) : (Rd I).expect (barCell c) 0 = 3 := by
  unfold Schedule.expect Schedule.amountOf
  rw [duties_bar]
  simp only [amount_bar, Finset.sum_const, smul_eq_mul, mul_one]
  revert c; decide +kernel
theorem expect_d (c : Dev nD) (f : Fin 6) (i : Fin 4) (h : dutyD c f.val i = {i}) : (Rd I).expect (dCell c f i) 0 = N := by
  unfold Schedule.expect Schedule.amountOf
  rw [duties_d, h, Finset.sum_singleton, amount_d]

theorem rest_d (c : Dev nD) (f : Fin 6) (i : Fin 4) (h : dutyD c f.val i = {i}) :
    bigSep ((Rd I).duties (dCell c f i) 0 \ ∅) (fun u => (Rd I).payload (dCell c f i) 0 u) = payD I c f.val i := by
  rw [Finset.sdiff_empty, duties_d, h, bigSep_singleton, payload_d]

theorem rest_bar (c : Dev nD) :
    bigSep ((Rd I).duties (barCell c) 0 \ ∅) (fun u => (Rd I).payload (barCell c) 0 u)
      = iprop(barPay c (sh c 1) ∗ barPay c (sh c 2) ∗ barPay (F := F) c (sh c 3)) := by
  have h1 : sh c 1 ∉ ({sh c 2, sh c 3} : Finset (Dev nD)) := by revert c; decide +kernel
  have h2 : sh c 2 ∉ ({sh c 3} : Finset (Dev nD)) := by revert c; decide +kernel
  rw [Finset.sdiff_empty, duties_bar, peers, bigSep_insert h1, bigSep_insert h2, bigSep_singleton]
  rfl

/-! ## Levels and what is owed -/

def L (g : GSem nD τ sig) : Finset Unit := if g.1.2 = .tc then {()} else ∅
/-- The barrier is waited for first, the first exchange next, the second last. -/
def lv (g : GSem nD τ sig) (_ : Unit) : ℕ :=
  match g.2 with | .reg _ => 1 | .dma j => if fam j = 2 then 2 else if fam j = 4 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_add {b : ℕ} {O P : CellTallies nD τ sig Unit} (h : Above b O) (h' : Above b P) : Above b (O + P) := fun g u hg => by
  have : 0 < O g u + P g u := hg
  rcases Nat.eq_zero_or_pos (O g u) with h0 | h0
  · exact h' g u (by omega)
  · exact h g u h0
theorem above_tally {b : ℕ} (c : Dev nD) (sm : SemLoc sig) (n : ℕ) (h : b < lv ((c : Thread nD τ), sm) ()) :
    Above b (tallyAt ((c : Thread nD τ), sm) () n) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by
      have := (h g u hg).1
      unfold L; rw [if_pos this]; exact Finset.mem_singleton_self _)
    (fun p hp => by rw [Finset.mem_singleton.mp hp])
    (fun g u hg => (h g u hg).2)

abbrev OB (c : Dev nD) (i : Fin 4) : CellTallies nD τ sig Unit := tallyAt (barCell (sh c i)) () 1
abbrev OX (c : Dev nD) (i : Fin 4) : CellTallies nD τ sig Unit := tallyAt (dCell (sh c i) 2 c) () N
abbrev OP (c : Dev nD) (i : Fin 4) : CellTallies nD τ sig Unit := tallyAt (dCell (sh c i) 4 c) () N

/-- What is owed after the first exchange, after the barrier, and at the start. -/
abbrev O₃ (c : Dev nD) : CellTallies nD τ sig Unit := 0 + OP c 1 + OP c 2 + OP c 3
abbrev O₁ (c : Dev nD) : CellTallies nD τ sig Unit := O₃ c + OX c 3 + OX c 2 + OX c 1
abbrev O₀ (c : Dev nD) : CellTallies nD τ sig Unit := O₁ c + OB c 3 + OB c 2 + OB c 1

theorem lv_bar (c : Dev nD) : lv (barCell c) () = 1 := rfl
theorem lv_d (c : Dev nD) (f : Fin 6) (i : Fin 4) : lv (dCell c f i) () = if f.val = 2 then 2 else if f.val = 4 then 3 else 0 := by
  dsimp only [lv]; rw [fam_ds]
theorem above_OB {b : ℕ} (hb : b < 1) (c : Dev nD) (i : Fin 4) : Above b (OB c i) := above_tally _ _ _ hb
theorem above_OX {b : ℕ} (hb : b < 2) (c : Dev nD) (i : Fin 4) : Above b (OX c i) := above_tally _ _ _ (by rw [lv_d]; exact hb)
theorem above_OP {b : ℕ} (hb : b < 3) (c : Dev nD) (i : Fin 4) : Above b (OP c i) := above_tally _ _ _ (by rw [lv_d]; exact hb)
theorem above_O₃ {b : ℕ} (hb : b < 3) (c : Dev nD) : Above b (O₃ c) :=
  above_add (above_add (above_add (above_zero _) (above_OP hb c 1)) (above_OP hb c 2)) (above_OP hb c 3)
theorem above_O₁ {b : ℕ} (hb : b < 2) (c : Dev nD) : Above b (O₁ c) :=
  above_add (above_add (above_add (above_O₃ (by omega) c) (above_OX hb c 3)) (above_OX hb c 2)) (above_OX hb c 1)
theorem above_O₀ {b : ℕ} (hb : b < 1) (c : Dev nD) : Above b (O₀ c) :=
  above_add (above_add (above_add (above_O₁ (by omega) c) (above_OB hb c 3)) (above_OB hb c 2)) (above_OB hb c 1)

/-! ## The cells -/

/-- The semaphores of the exchanges: the barriers, and the families 1 to 4. -/
def barEmb : Dev nD ↪ GSem nD τ sig := ⟨barCell, fun c d h => by
  have := congrArg (fun g : GSem nD τ sig => g.1.1) h; exact this⟩
def barCells : Finset (GSem nD τ sig) := Finset.univ.map barEmb
def fam4 (f : Fin 4) : Fin 6 := ⟨f.val + 1, by omega⟩
def scEmb : Dev nD × Fin 4 × Fin 4 ↪ GSem nD τ sig := ⟨fun p => dCell p.1 (fam4 p.2.1) p.2.2, fun p q h => by
  have h1 : p.1 = q.1 := congrArg (fun g : GSem nD τ sig => g.1.1) h
  have h2 : ds (fam4 p.2.1) p.2.2 = ds (fam4 q.2.1) q.2.2 := by
    have := congrArg (fun g : GSem nD τ sig => g.2) h
    exact SemLoc.dma.inj this
  have h3 := congrArg fam h2
  have h4 := congrArg ix h2
  rw [fam_ds, fam_ds] at h3
  rw [ix_ds, ix_ds] at h4
  have h5 : p.2.1.val + 1 = q.2.1.val + 1 := h3
  exact Prod.ext h1 (Prod.ext (Fin.ext (by omega)) h4)⟩
def scCells : Finset (GSem nD τ sig) := Finset.univ.map scEmb

theorem mem_bar (c : Dev nD) : barCell c ∈ barCells ∪ scCells :=
  Finset.mem_union_left _ (Finset.mem_map.mpr ⟨c, Finset.mem_univ _, rfl⟩)
theorem mem_d (c : Dev nD) (f : Fin 4) (i : Fin 4) : dCell c (fam4 f) i ∈ barCells ∪ scCells :=
  Finset.mem_union_right _ (Finset.mem_map.mpr ⟨(c, f, i), Finset.mem_univ _, rfl⟩)

variable (K : GSem nD τ sig → ℕ)

/-- What is known throughout: the levels and the invariants of all the cells. -/
def Ctx : sProp 𝕄 :=
  iprop(levAts L lv ∗ bigSep (barCells ∪ scCells) (fun g => cellInv ER (Rd I) (K g) g))

instance Ctx_persistent : BI.Persistent (Ctx I K) := by unfold Ctx; infer_instance

theorem ctx_lev : Ctx I K ⊢ (levAts L lv : sProp 𝕄) := by
  unfold Ctx; iintro ⟨H, -⟩; iexact H
theorem ctx_inv {g : GSem nD τ sig} (hg : g ∈ barCells ∪ scCells) : Ctx I K ⊢ cellInv ER (Rd I) (K g) g := by
  unfold Ctx; iintro ⟨-, H⟩; iapply (show (bigSep (barCells ∪ scCells) (fun g => cellInv ER (Rd I) (K g) g) : sProp 𝕄) ⊢ cellInv ER (Rd I) (K g) g from bigSep_elim hg); iexact H

end Cert.KernelIdeal.Run

end
-- ==== Proof.Steps.lean ====
module

public import proofs.«01_k».proof.Proof.Protocol

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

/-- The body's weakest precondition on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, having waited somewhere. -/
abbrev Owes (O : CellTallies nD τ sig Unit) : sProp 𝕄 := iprop(∃ W, owes (c : Thread nD τ) O W)

theorem duty1 (i : Fin 4) (hi : i ≠ 0) : dutyD c 1 i = {i} := by revert c i; decide +kernel
theorem duty2 (i : Fin 4) (hi : i ≠ 0) : dutyD (sh c i) 2 c = {c} := by revert c i; decide +kernel
theorem duty3 (i : Fin 4) (hi : i ≠ 0) : dutyD c 3 i = {i} := by revert c i; decide +kernel
theorem duty4 (i : Fin 4) (hi : i ≠ 0) : dutyD (sh c i) 4 c = {c} := by revert c i; decide +kernel
/-- The devices whose copies arrive. -/
theorem duty2' (i : Fin 4) (hi : i ≠ 0) : dutyD c 2 (sh c i) = {sh c i} := by revert c i; decide +kernel
theorem duty4' (i : Fin 4) (hi : i ≠ 0) : dutyD c 4 (sh c i) = {sh c i} := by revert c i; decide +kernel

/-- The copies' amounts. -/
theorem amount7 (d : Dev nD) (sm : DmaSem sig) : (A7.slice (rowR d) (fun _ => rfl)).view.amount (.dma sm) = N := rfl
theorem amount9 (d : Dev nD) (sm : DmaSem sig) : (A9.slice (rowR d) (fun _ => rfl)).view.amount (.dma sm) = N := rfl

/-! ## The barrier and the copies to other devices -/

/-- A signal at the barrier of the device `i` places on, handing it the rows it writes here. -/
theorem signal_bar (i : Fin 4) {dv : Dev nD} {O : CellTallies nD τ sig Unit} {k : PUnit → Prog (TpuEff nD τ sig (Elt F) Λ₀ .tc) α}
    (hi : i ≠ 0) (hd : dv = sh c i) :
    iprop(Ctx I K ∗ Owes c (O + OB c i) ∗ dutyTok ER (barCell (sh c i)) 0 c ∗ rows c A7 (sh c i) ∗ rows c A9 (sh c i)
        ∗ reached ER (dCell c 2 (sh c i)) 0 ∗ reached ER (dCell c 4 (sh c i)) 0 ∗ reached ER (barCell (sh c i)) 0)
      ⊢ iprop((Owes c O -∗ WP c (k ⟨⟩) Q) -∗ WP c (.op (.semSignal (dv, .tc) barS 1) k) Q) := by
  subst hd
  iintro ⟨#HC, ⟨%W, HO⟩, Ht, H7, H9, #Hr2, #Hr4, #HrB⟩ Hk
  iapply (Rounds.wp_signal 𝒱₀ ER (Rd I) (c : Thread nD τ) none (dst := ((sh c i) : Thread nD τ)) (sem := barS) (r := 0) (d := c)
      (κ := K (barCell (sh c i)))
      (by rw [duties_bar]; revert hi; revert c i; decide +kernel) (amount_bar I (sh c i) c) () O rfl)
    $$ [HO Ht H7 H9]
  · isplitr; · iapply (ctx_inv I K (mem_bar (sh c i))); iexact HC
    isplitl [HO]; · iexact HO
    isplitl [Ht]; · iexact Ht
    isplitl [H7 H9]
    · rw [payload_bar]; unfold barPay
      isplitl [H7]; · iexact H7
      isplitl [H9]; · iexact H9
      isplitr
      · iexact Hr2
      · iexact Hr4
    · iexact HrB
  iintro HO
  iapply Hk
  iexists W
  iexact HO

/-- The wait at the barrier: the rows of the other devices that this one writes. -/
theorem wait_bar {k : PUnit → Prog (TpuEff nD τ sig (Elt F) Λ₀ .tc) α} :
    iprop(Ctx I K ∗ Owes c (O₁ c) ∗ cred (tallyAt (barCell c) () 3) ∗ atPos ER (barCell c) 0 ∅ 0)
      ⊢ iprop(((Owes c (O₁ c) ∗ atPos ER (barCell c) (0 + 1) ∅ 0 ∗ barPay c (sh c 1) ∗ barPay c (sh c 2) ∗ barPay c (sh c 3)) -∗ WP c (k ⟨⟩) Q)
          -∗ WP c (.op (.semWait barS 3) k) Q) := by
  iintro ⟨#HC, ⟨%W, HO⟩, Hc, Ha⟩ Hk
  iapply (Rounds.wp_wait_rest_token 𝒱₀ ER (Rd I) (c : Thread nD τ) none (κ := K (barCell c))
      (wpE_semWait_eq 𝒱₀ (c : Thread nD τ) none Set.univ) (Set.mem_univ _) () (O := O₁ c) (W := W) (R := 0) (m := 0) (T := ∅)
      ((Nat.zero_add 3).trans (expect_bar I c).symm)) $$ [Hc HO Ha]
  · isplitr; · iapply (ctx_inv I K (mem_bar c)); iexact HC
    isplitl [Hc]; · iexact Hc
    isplitl [HO]; · iexact HO
    isplitr
    · iapply (mayWait c (.reg barS) (above_O₁ (by rw [lv_bar]; decide) c)); iapply (ctx_lev I K); iexact HC
    iexact Ha
  iintro ⟨HO, Ha, -, Hp⟩
  ihave Hp' := (Entails.of_eq (rest_bar I c)) $$ Hp
  iapply Hk
  isplitl [HO]; · iexists _; iexact HO
  isplitl [Ha]; · iexact Ha
  iexact Hp'

/-- The copy of a bucket to the device `i` places on. -/
theorem send_x (i : Fin 4) {dv : Dev nD} {sS sR : DmaSem sig} {o₁ o₂ : Fin 2 → ℕ}
    {h₁ : ∀ a, o₁ a + S320x1024.size a ≤ S1280x1024.size a} {h₂ : ∀ a, o₂ a + S320x1024.size a ≤ S1280x1024.size a}
    {hsrc : (A6.slice (Rect.unit (s := S1280x1024) o₁ S320x1024.size h₁) (fun _ => rfl)).view.WordExact}
    {hdst : (A7.slice (Rect.unit (s := S1280x1024) o₂ S320x1024.size h₂) (fun _ => rfl)).view.WordExact}
    {hsem} {O : CellTallies nD τ sig Unit} {k : PUnit → Prog (TpuEff nD τ sig (Elt F) Λ₀ .tc) α}
    (hi : i ≠ 0) (hd : dv = sh c i) (e₁ : o₁ = ![320 * (sh c i).val, 0]) (e₂ : o₂ = ![320 * c.val, 0]) (eS : sS = ds 1 i) (eR : sR = ds 2 c) :
    iprop(Ctx I K ∗ rowsAt c A6 (sh c i) (disp I c (sh c i)) ∗ barPay c (sh c i) ∗ Owes c (O + OX c i)
        ∗ dutyTok ER (dCell c 1 i) 0 i ∗ reached ER (dCell c 1 i) 0 ∗ dutyTok ER (dCell (sh c i) 2 c) 0 c)
      ⊢ iprop(((Owes c O ∗ cred (tallyAt (dCell c 1 i) () N) ∗ rows (sh c i) A9 c ∗ reached ER (dCell (sh c i) 4 c) 0) -∗ WP c (k ⟨⟩) Q)
          -∗ WP c (.op (.enqueueDma (A6.slice (Rect.unit (s := S1280x1024) o₁ S320x1024.size h₁) (fun _ => rfl))
              (.remote (Dev.tc dv) (A7.slice (Rect.unit (s := S1280x1024) o₂ S320x1024.size h₂) (fun _ => rfl)) (.dma sS)) (.dma sR) hsrc hdst hsem) k) Q) := by
  subst hd e₁ e₂ eS eR
  unfold barPay
  iintro ⟨#HC, H6, ⟨⟨%X7, H7⟩, H9, #Hr2, #Hr4⟩, ⟨%W, HO⟩, Ht1, #Hr1, Ht2⟩ Hk
  iapply (wp_send_owns 𝒱₀ (c : Thread nD τ) none (Rd I) (c' := ((sh c i : Dev nD) : Thread nD τ)) (q := fullShare)
      (Xs := disp I c (sh c i)) (Xd := X7) (r₁ := 0) (r₂ := 0) (d₁ := i) (d₂ := c) (κ₁ := K (dCell c 1 i)) (κ₂ := K (dCell (sh c i) 2 c))
      (by rw [duties_d]; exact (duty1 c i hi).symm ▸ Finset.mem_singleton_self _) (by rw [duties_d]; exact (duty2 c i hi).symm ▸ Finset.mem_singleton_self _)
      () () N (amount7 c (ds 2 c)) (amount_d I c 1 i i) (amount_d I (sh c i) 2 c c) O rfl (W := W)
      (by rw [payload_d]; unfold payD rows; rw [if_pos (by rfl)]; iintro H; iexists _; iexact H)
      (by rw [payload_d]; unfold payD; rw [if_neg (by decide), if_pos (by rfl)])) $$ [H6 H7 HO Ht1 Ht2]
  · isplitr; · iapply (ctx_inv I K (mem_d c 0 i)); iexact HC
    isplitr; · iapply (ctx_inv I K (mem_d (sh c i) 1 c)); iexact HC
    isplitl [H6]; · iexact H6
    isplitl [H7]; · iexact H7
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc]; · iexact Hc
  isplitl [H9]; · iexact H9
  iexact Hr4

/-- The copy of the results back to the device `i` places on. -/
theorem send_p (i : Fin 4) {dv : Dev nD} {sS sR : DmaSem sig} {o₁ : Fin 3 → ℕ} {o₂ : Fin 2 → ℕ}
    {h₁ : ∀ a, o₁ a + S1x320x1024.size a ≤ S3x320x1024.size a} {h₂ : ∀ a, o₂ a + S320x1024.size a ≤ S1280x1024.size a}
    {hs : Shape.Squeezes S1x320x1024 S320x1024}
    {hsrc : ((A8.slice (Rect.unit (s := S3x320x1024) o₁ S1x320x1024.size h₁) (fun _ => rfl)).squeeze S320x1024 hs).view.WordExact}
    {hdst : (A9.slice (Rect.unit (s := S1280x1024) o₂ S320x1024.size h₂) (fun _ => rfl)).view.WordExact}
    {hsem} {O : CellTallies nD τ sig Unit} {k : PUnit → Prog (TpuEff nD τ sig (Elt F) Λ₀ .tc) α} {Y : Vec F S1x320x1024 .bf16}
    (hi : i ≠ 0) (hd : dv = sh c i) (e₁ : o₁ = ![i.val - 1, 0, 0]) (e₂ : o₂ = ![320 * c.val, 0]) (eS : sS = ds 3 i) (eR : sR = ds 4 c)
    (hY : (fun j => Y (Shape.reshapeEquiv hs.numel_eq j)) = ret I c (sh c i)) :
    iprop(Ctx I K ∗ owns (c : Thread nD τ) (A8.slice (pR i) (fun _ => rfl)) fullShare Y ∗ rows (sh c i) A9 c ∗ reached ER (dCell (sh c i) 4 c) 0
        ∗ Owes c (O + OP c i)
        ∗ dutyTok ER (dCell c 3 i) 0 i ∗ reached ER (dCell c 3 i) 0 ∗ dutyTok ER (dCell (sh c i) 4 c) 0 c)
      ⊢ iprop(((Owes c O ∗ cred (tallyAt (dCell c 3 i) () N)) -∗ WP c (k ⟨⟩) Q)
          -∗ WP c (.op (.enqueueDma ((A8.slice (Rect.unit (s := S3x320x1024) o₁ S1x320x1024.size h₁) (fun _ => rfl)).squeeze S320x1024 hs)
              (.remote (Dev.tc dv) (A9.slice (Rect.unit (s := S1280x1024) o₂ S320x1024.size h₂) (fun _ => rfl)) (.dma sS)) (.dma sR) hsrc hdst hsem) k) Q) := by
  subst hd e₁ e₂ eS eR
  iintro ⟨#HC, H8, ⟨%X9, H9⟩, #Hr4, ⟨%W, HO⟩, Ht1, #Hr1, Ht2⟩ Hk
  ihave H8' := (owns_squeeze (c : Thread nD τ) (A8.slice (pR i) (fun _ => rfl)) fullShare hs Y).1 $$ H8
  rw [hY]
  iapply (wp_send_owns 𝒱₀ (c : Thread nD τ) none (Rd I) (c' := ((sh c i : Dev nD) : Thread nD τ)) (q := fullShare)
      (Xs := ret I c (sh c i)) (Xd := X9) (r₁ := 0) (r₂ := 0) (d₁ := i) (d₂ := c) (κ₁ := K (dCell c 3 i)) (κ₂ := K (dCell (sh c i) 4 c))
      (by rw [duties_d]; exact (duty3 c i hi).symm ▸ Finset.mem_singleton_self _) (by rw [duties_d]; exact (duty4 c i hi).symm ▸ Finset.mem_singleton_self _)
      () () N (amount9 c (ds 4 c)) (amount_d I c 3 i i) (amount_d I (sh c i) 4 c c) O rfl (W := W)
      (by
        rw [payload_d]; unfold payD
        rw [if_neg (by decide), if_neg (by decide), if_pos (by rfl), ← hY]
        iintro H; iexists Y
        iapply (owns_squeeze (c : Thread nD τ) (A8.slice (pR i) (fun _ => rfl)) fullShare hs Y).2; iexact H)
      (by rw [payload_d]; unfold payD; rw [if_neg (by decide), if_neg (by decide), if_neg (by decide), if_pos (by rfl)])) $$ [H8' H9 HO Ht1 Ht2]
  · isplitr; · iapply (ctx_inv I K (mem_d c 2 i)); iexact HC
    isplitr; · iapply (ctx_inv I K (mem_d (sh c i) 3 c)); iexact HC
    isplitl [H8']; · iexact H8'
    isplitl [H9]; · iexact H9
    isplitl [HO]; · iexact HO
    isplitl [Ht1]; · iexact Ht1
    isplitr; · iexact Hr1
    isplitl [Ht2]; · iexact Ht2
    iexact Hr4
  iintro ⟨Hc, HO⟩
  iapply Hk
  isplitl [HO]; · iexists W; iexact HO
  iexact Hc

/-- A wait for a copy of the exchanges: what the copy hands over. -/
theorem wait_d (f : Fin 4) (i : Fin 4) {sm : DmaSem sig} {s' : Shape} {e' : EltTy} {sp' sp : Space} {s : Shape} {e : EltTy}
    {srcw : Memref sig .tc sp' s' e'} {dstw : Memref sig .tc sp s e} {hsrc : srcw.view.WordExact} {hdst : dstw.view.WordExact}
    {O : CellTallies nD τ sig Unit} {k : PUnit → Prog (TpuEff nD τ sig (Elt F) Λ₀ .tc) α}
    (hN : dstw.view.dmaCredit = N) (hdt : dutyD c (fam4 f).val i = {i}) (es : sm = ds (fam4 f) i)
    (hO : Above (lv (dCell c (fam4 f) i) ()) O) :
    iprop(Ctx I K ∗ Owes c O ∗ cred (tallyAt (dCell c (fam4 f) i) () N) ∗ atPos ER (dCell c (fam4 f) i) 0 ∅ 0)
      ⊢ iprop(((Owes c O ∗ atPos ER (dCell c (fam4 f) i) (0 + 1) ∅ 0 ∗ payD I c (fam4 f).val i) -∗ WP c (k ⟨⟩) Q)
          -∗ WP c (.op (.waitDma2 sm srcw dstw hsrc hdst) k) Q) := by
  subst es
  iintro ⟨#HC, ⟨%W, HO⟩, Hc, Ha⟩ Hk
  rw [show (tallyAt (dCell c (fam4 f) i) () N : CellTallies nD τ sig Unit) = tallyAt (dCell c (fam4 f) i) () dstw.view.dmaCredit from by rw [hN]]
  iapply (Rounds.wp_wait_rest_token 𝒱₀ ER (Rd I) (c : Thread nD τ) none (κ := K (dCell c (fam4 f) i))
      (wpE_waitDma2_eq 𝒱₀ (c : Thread nD τ) none Set.univ) (Set.mem_univ _) () (O := O) (W := W) (R := 0) (m := 0) (T := ∅)
      ((Nat.zero_add _).trans (hN.trans (expect_d I c (fam4 f) i hdt).symm))) $$ [Hc HO Ha]
  · isplitr; · iapply (ctx_inv I K (mem_d c f i)); iexact HC
    isplitl [Hc]; · iexact Hc
    isplitl [HO]; · iexact HO
    isplitr
    · iapply (mayWait c (.dma (ds (fam4 f) i)) hO); iapply (ctx_lev I K); iexact HC
    iexact Ha
  iintro ⟨HO, Ha, -, Hp⟩
  ihave Hp' := (Entails.of_eq (rest_d I c (fam4 f) i hdt)) $$ Hp
  iapply Hk
  isplitl [HO]; · iexists _; iexact HO
  isplitl [Ha]; · iexact Ha
  iexact Hp'

end Cert.KernelIdeal.Run

end
-- ==== Proof.Weights.lean ====
module

public import proofs.«01_k».proof.Proof.Steps
public import Idealize.ShloMosaic.Lib.Pipeline.Value

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

/-! ## The stream of weight chunks -/

/-- The elements of staging slot `k`. -/
def Slot (k : Fin 4) : Finset (Idx (A12.view.loc (c : Thread nD τ))) := (A12.view.slice (slotR k)).set

theorem slot_sub (k : Fin 4) : (A12.view.slice (slotR' k)).set ⊆ Slot c k :=
  access_subset A12.view (slotR k) (slotR' k)
    (fun i => fun
      | ⟨0, _⟩ => ⟨(i 0).val, (i 0).isLt⟩
      | ⟨1, _⟩ => ⟨(i 1).val, (i 1).isLt⟩
      | ⟨2, _⟩ => ⟨(i 2).val, by have h : (i 2).val < 1024 := (i 2).isLt; show _ < 2048; omega⟩)
    (fun i => by funext a; fin_cases a <;> rfl)

/-- The four shares the weights are read at. -/
def qs (k : Fin 4) : PosShare TreeShare := match k with
  | ⟨0, _⟩ => fullShare.left.left | ⟨1, _⟩ => fullShare.left.right | ⟨2, _⟩ => fullShare.right.left | ⟨3, _⟩ => fullShare.right.right

/-- Slot `k`'s shares of the weights. -/
def Toks (k : Fin 4) : sProp 𝕄 := iprop(owns (c : Thread nD τ) A3 (qs k) (I.w1 c) ∗ owns (c : Thread nD τ) A4 (qs k) (I.w2 c))

/-- Slot `k` with nothing in flight. -/
def Idle (k : Fin 4) : sProp 𝕄 :=
  iprop((∃ f, A12.view.loc (c : Thread nD τ) ↦[Slot c k]{fullShare} f) ∗ semVal (dCell c 5 k) 0 ∗ Toks I c k)

/-- Slot `k` holding chunk `j` of the first weight of expert `x`. -/
def Land1 (k : Fin 4) (x : Fin 2) (j : Fin 4) : sProp 𝕄 :=
  iprop(holds (c : Thread nD τ) A12 (Slot c k) (slotR k) (fun _ => rfl) (fun i => I.w1 c ((ch1 x j).emb i)) ∗ Toks I c k)
/-- Slot `k` holding chunk `j` of the second weight of expert `x`. -/
def Land2 (k : Fin 4) (x : Fin 2) (j : Fin 8) : sProp 𝕄 :=
  iprop(holds (c : Thread nD τ) A12 (Slot c k) (slotR' k) (fun _ => rfl) (fun i => I.w2 c ((ch2 x j).emb i)) ∗ Toks I c k)

/-- The amounts the two kinds of chunk raise their semaphore by. -/
def N1 : ℕ := ((A12.slice (slotR 0) (fun _ => rfl)).squeeze S256x2048 squeezes_S1x256x2048_S256x2048).view.dmaCredit
def N2 : ℕ := ((A12.slice (slotR' 0) (fun _ => rfl)).squeeze S256x1024 squeezes_S1x256x1024_S256x1024).view.dmaCredit
theorem N1_pos : 0 < N1 := View.dmaCredit_pos _ (by decide)
theorem N2_pos : 0 < N2 := View.dmaCredit_pos _ (by decide)

theorem credit1 {o₂ : Fin 3 → ℕ} {h₂ : ∀ a, o₂ a + S1x256x2048.size a ≤ S4x256x2048.size a} {hs' : Shape.Squeezes S1x256x2048 S256x2048} :
    ((A12.slice (Rect.unit (s := S4x256x2048) o₂ S1x256x2048.size h₂) (fun _ => rfl)).squeeze S256x2048 hs').view.dmaCredit = N1 := rfl
theorem credit2 {o₂ : Fin 3 → ℕ} {h₂ : ∀ a, o₂ a + S1x256x1024.size a ≤ S4x256x2048.size a} {hs' : Shape.Squeezes S1x256x1024 S256x1024} :
    ((A12.slice (Rect.unit (s := S4x256x2048) o₂ S1x256x1024.size h₂) (fun _ => rfl)).squeeze S256x1024 hs').view.dmaCredit = N2 := rfl
theorem slot_inb (k : Fin 4) : ∀ a, (![k.val, 0, 0] : Fin 3 → ℕ) a + S1x256x2048.size a ≤ S4x256x2048.size a := by revert k; decide +kernel
theorem slot_inb' (k : Fin 4) : ∀ a, (![k.val, 0, 0] : Fin 3 → ℕ) a + S1x256x1024.size a ≤ S4x256x2048.size a := by revert k; decide +kernel

/-- A chunk in flight into slot `k`. -/
def Fly1 (k : Fin 4) (x : Fin 2) (j : Fin 4) : sProp 𝕄 :=
  iprop(∃ D, Transfers.Flight EC (c : Thread nD τ) (.dma (ds 5 k)) () N1 D ∗ (D -∗ Land1 I c k x j))
def Fly2 (k : Fin 4) (x : Fin 2) (j : Fin 8) : sProp 𝕄 :=
  iprop(∃ D, Transfers.Flight EC (c : Thread nD τ) (.dma (ds 5 k)) () N2 D ∗ (D -∗ Land2 I c k x j))

/-- A chunk arrived in slot `k`. -/
def Has1 (k : Fin 4) (x : Fin 2) (j : Fin 4) : sProp 𝕄 := iprop(Land1 I c k x j ∗ semVal (dCell c 5 k) 0)
def Has2 (k : Fin 4) (x : Fin 2) (j : Fin 8) : sProp 𝕄 := iprop(Land2 I c k x j ∗ semVal (dCell c 5 k) 0)

theorem idle_of_has1 (k : Fin 4) (x : Fin 2) (j : Fin 4) : Has1 I c k x j ⊢ Idle I c k := by
  unfold Has1 Land1 Idle holds
  iintro ⟨⟨⟨%f, -, Hf⟩, HT⟩, Hv⟩
  isplitl [Hf]; · iexists f; iexact Hf
  isplitl [Hv]; · iexact Hv
  iexact HT
theorem idle_of_has2 (k : Fin 4) (x : Fin 2) (j : Fin 8) : Has2 I c k x j ⊢ Idle I c k := by
  unfold Has2 Land2 Idle holds
  iintro ⟨⟨⟨%f, -, Hf⟩, HT⟩, Hv⟩
  isplitl [Hf]; · iexists f; iexact Hf
  isplitl [Hv]; · iexact Hv
  iexact HT

/-- The start of a copy of a chunk of the first weight. -/
theorem start1 (k : Fin 4) (x : Fin 2) (j : Fin 4) {o₁ o₂ : Fin 3 → ℕ} {sm : DmaSem sig}
    {h₁ : ∀ a, o₁ a + S1x256x2048.size a ≤ S2x1024x2048.size a} {h₂ : ∀ a, o₂ a + S1x256x2048.size a ≤ S4x256x2048.size a}
    {hs hs' : Shape.Squeezes S1x256x2048 S256x2048}
    {hsrc : ((A3.slice (Rect.unit (s := S2x1024x2048) o₁ S1x256x2048.size h₁) (fun _ => rfl)).squeeze S256x2048 hs).view.WordExact}
    {hdst : ((A12.slice (Rect.unit (s := S4x256x2048) o₂ S1x256x2048.size h₂) (fun _ => rfl)).squeeze S256x2048 hs').view.WordExact}
    {hsem} {kk : PUnit → Prog (TpuEff nD τ sig (Elt F) Λ₀ .tc) α}
    (e₁ : o₁ = ![x.val, 256 * j.val, 0]) (e₂ : o₂ = ![k.val, 0, 0]) (es : sm = ds 5 k) :
    Idle I c k ⊢ iprop((Fly1 I c k x j -∗ WP c (kk ⟨⟩) Q)
      -∗ WP c (.op (.enqueueDma ((A3.slice (Rect.unit (s := S2x1024x2048) o₁ S1x256x2048.size h₁) (fun _ => rfl)).squeeze S256x2048 hs)
          (.here ((A12.slice (Rect.unit (s := S4x256x2048) o₂ S1x256x2048.size h₂) (fun _ => rfl)).squeeze S256x2048 hs')) (.dma sm) hsrc hdst hsem) kk) Q) := by
  subst e₁ e₂ es
  unfold Idle Toks Fly1 Land1 Toks
  iintro ⟨Hf, Hv, H3, H4⟩ Hk
  iapply (wp_start 𝒱₀ (c : Thread nD τ) none EC (q := qs k) (Xs := I.w1 c) (Sd := Slot c k) () N1 rfl N1_pos (Finset.Subset.refl _)) $$ [H3 Hf Hv]
  · isplitl [H3]; · iexact H3
    isplitl [Hf]; · iexact Hf
    iexact Hv
  iintro ⟨%D, HF, HD⟩
  iapply Hk
  iexists D
  isplitl [HF]; · iexact HF
  iintro H
  ihave H2 := HD $$ H
  icases H2 with ⟨Hh, H3⟩
  isplitl [Hh]; · iexact Hh
  isplitl [H3]; · iexact H3
  iexact H4

/-- The start of a copy of a chunk of the second weight. -/
theorem start2 (k : Fin 4) (x : Fin 2) (j : Fin 8) {o₁ o₂ : Fin 3 → ℕ} {sm : DmaSem sig}
    {h₁ : ∀ a, o₁ a + S1x256x1024.size a ≤ S2x2048x1024.size a} {h₂ : ∀ a, o₂ a + S1x256x1024.size a ≤ S4x256x2048.size a}
    {hs hs' : Shape.Squeezes S1x256x1024 S256x1024}
    {hsrc : ((A4.slice (Rect.unit (s := S2x2048x1024) o₁ S1x256x1024.size h₁) (fun _ => rfl)).squeeze S256x1024 hs).view.WordExact}
    {hdst : ((A12.slice (Rect.unit (s := S4x256x2048) o₂ S1x256x1024.size h₂) (fun _ => rfl)).squeeze S256x1024 hs').view.WordExact}
    {hsem} {kk : PUnit → Prog (TpuEff nD τ sig (Elt F) Λ₀ .tc) α}
    (e₁ : o₁ = ![x.val, 256 * j.val, 0]) (e₂ : o₂ = ![k.val, 0, 0]) (es : sm = ds 5 k) :
    Idle I c k ⊢ iprop((Fly2 I c k x j -∗ WP c (kk ⟨⟩) Q)
      -∗ WP c (.op (.enqueueDma ((A4.slice (Rect.unit (s := S2x2048x1024) o₁ S1x256x1024.size h₁) (fun _ => rfl)).squeeze S256x1024 hs)
          (.here ((A12.slice (Rect.unit (s := S4x256x2048) o₂ S1x256x1024.size h₂) (fun _ => rfl)).squeeze S256x1024 hs')) (.dma sm) hsrc hdst hsem) kk) Q) := by
  subst e₁ e₂ es
  unfold Idle Toks Fly2 Land2 Toks
  iintro ⟨Hf, Hv, H3, H4⟩ Hk
  iapply (wp_start 𝒱₀ (c : Thread nD τ) none EC (q := qs k) (Xs := I.w2 c) (Sd := Slot c k) () N2 rfl N2_pos (slot_sub c k)) $$ [H4 Hf Hv]
  · isplitl [H4]; · iexact H4
    isplitl [Hf]; · iexact Hf
    iexact Hv
  iintro ⟨%D, HF, HD⟩
  iapply Hk
  iexists D
  isplitl [HF]; · iexact HF
  iintro H
  ihave H2 := HD $$ H
  icases H2 with ⟨Hh, H4⟩
  isplitl [Hh]; · iexact Hh
  isplitl [H3]; · iexact H3
  iexact H4

theorem above_weight (k : Fin 4) : Above (lv (dCell c 5 k) ()) (O₃ c) := above_O₃ (by rw [lv_d]; decide) c

/-- The wait for a chunk of the first weight. -/
theorem wait1 (k : Fin 4) (x : Fin 2) (j : Fin 4) {o₂ : Fin 3 → ℕ} {sm : DmaSem sig} {s' : Shape} {e' : EltTy} {sp' : Space}
    {h₂ : ∀ a, o₂ a + S1x256x2048.size a ≤ S4x256x2048.size a} {hs' : Shape.Squeezes S1x256x2048 S256x2048}
    {srcw : Memref sig .tc sp' s' e'} {hsrc : srcw.view.WordExact}
    {hdst : ((A12.slice (Rect.unit (s := S4x256x2048) o₂ S1x256x2048.size h₂) (fun _ => rfl)).squeeze S256x2048 hs').view.WordExact}
    {kk : PUnit → Prog (TpuEff nD τ sig (Elt F) Λ₀ .tc) α}
    (e₂ : o₂ = ![k.val, 0, 0]) (es : sm = ds 5 k) :
    iprop(Ctx I K ∗ Fly1 I c k x j ∗ Owes c (O₃ c)) ⊢ iprop(((Has1 I c k x j ∗ Owes c (O₃ c)) -∗ WP c (kk ⟨⟩) Q)
      -∗ WP c (.op (.waitDma2 sm srcw ((A12.slice (Rect.unit (s := S4x256x2048) o₂ S1x256x2048.size h₂) (fun _ => rfl)).squeeze S256x2048 hs') hsrc hdst) kk) Q) := by
  subst e₂ es
  unfold Fly1 Has1
  iintro ⟨#HC, ⟨%D, HF, HD⟩, ⟨%W, HO⟩⟩ Hk
  iapply (Transfers.wp_waitLocalO EC 𝒱₀ (c : Thread nD τ) none () (N := N1)
      (dstw := (A12.slice (Rect.unit (s := S4x256x2048) ![k.val, 0, 0] S1x256x2048.size h₂) (fun _ => rfl)).squeeze S256x2048 hs') credit1) $$ [HF HO]
  · isplitl [HF]; · iexact HF
    isplitl [HO]; · iexact HO
    iapply (mayWait c (.dma (ds 5 k)) (above_weight c k)); iapply (ctx_lev I K); iexact HC
  iintro ⟨H, Hv, HO⟩
  iapply Hk
  isplitr [HO]
  · isplitr [Hv]
    · iapply HD; iexact H
    iexact Hv
  iexists _; iexact HO

/-- The wait for a chunk of the second weight. -/
theorem wait2 (k : Fin 4) (x : Fin 2) (j : Fin 8) {o₂ : Fin 3 → ℕ} {sm : DmaSem sig} {s' : Shape} {e' : EltTy} {sp' : Space}
    {h₂ : ∀ a, o₂ a + S1x256x1024.size a ≤ S4x256x2048.size a} {hs' : Shape.Squeezes S1x256x1024 S256x1024}
    {srcw : Memref sig .tc sp' s' e'} {hsrc : srcw.view.WordExact}
    {hdst : ((A12.slice (Rect.unit (s := S4x256x2048) o₂ S1x256x1024.size h₂) (fun _ => rfl)).squeeze S256x1024 hs').view.WordExact}
    {kk : PUnit → Prog (TpuEff nD τ sig (Elt F) Λ₀ .tc) α}
    (e₂ : o₂ = ![k.val, 0, 0]) (es : sm = ds 5 k) :
    iprop(Ctx I K ∗ Fly2 I c k x j ∗ Owes c (O₃ c)) ⊢ iprop(((Has2 I c k x j ∗ Owes c (O₃ c)) -∗ WP c (kk ⟨⟩) Q)
      -∗ WP c (.op (.waitDma2 sm srcw ((A12.slice (Rect.unit (s := S4x256x2048) o₂ S1x256x1024.size h₂) (fun _ => rfl)).squeeze S256x1024 hs') hsrc hdst) kk) Q) := by
  subst e₂ es
  unfold Fly2 Has2
  iintro ⟨#HC, ⟨%D, HF, HD⟩, ⟨%W, HO⟩⟩ Hk
  iapply (Transfers.wp_waitLocalO EC 𝒱₀ (c : Thread nD τ) none () (N := N2)
      (dstw := (A12.slice (Rect.unit (s := S4x256x2048) ![k.val, 0, 0] S1x256x1024.size h₂) (fun _ => rfl)).squeeze S256x1024 hs') credit2) $$ [HF HO]
  · isplitl [HF]; · iexact HF
    isplitl [HO]; · iexact HO
    iapply (mayWait c (.dma (ds 5 k)) (above_weight c k)); iapply (ctx_lev I K); iexact HC
  iintro ⟨H, Hv, HO⟩
  iapply Hk
  isplitr [HO]
  · isplitr [Hv]
    · iapply HD; iexact H
    iexact Hv
  iexists _; iexact HO

/-- A load of an arrived chunk. -/
theorem load1 (k : Fin 4) (x : Fin 2) (j : Fin 4) {o : Fin 3 → ℕ} {h : ∀ a, o a + S1x256x2048.size a ≤ S4x256x2048.size a}
    {hl : A12.view.LoadsAt (Rect.unit (s := S4x256x2048) o S1x256x2048.size h).toLoadRect}
    {kk : Vec F S1x256x2048 .f32 → Prog (TpuEff nD τ sig (Elt F) Λ₀ .tc) α} (e : o = ![k.val, 0, 0]) :
    Has1 I c k x j ⊢ iprop((Has1 I c k x j -∗ WP c (kk (fun i => I.w1 c ((ch1 x j).emb i))) Q)
      -∗ WP c (.op (.load A12 (Rect.unit (s := S4x256x2048) o S1x256x2048.size h).toLoadRect hl) kk) Q) := by
  unfold Has1 Land1
  iintro ⟨⟨Hh, HT⟩, Hv⟩ Hk
  iapply (wp_load_holds 𝒱₀ (c : Thread nD τ) none Set.univ (h := slot_inb k) e (Finset.Subset.refl _)) $$ [Hh]
  · iexact Hh
  iintro Hh
  iapply Hk
  isplitr [Hv]
  · isplitl [Hh]; · iexact Hh
    iexact HT
  iexact Hv

theorem load2 (k : Fin 4) (x : Fin 2) (j : Fin 8) {o : Fin 3 → ℕ} {h : ∀ a, o a + S1x256x1024.size a ≤ S4x256x2048.size a}
    {hl : A12.view.LoadsAt (Rect.unit (s := S4x256x2048) o S1x256x1024.size h).toLoadRect}
    {kk : Vec F S1x256x1024 .f32 → Prog (TpuEff nD τ sig (Elt F) Λ₀ .tc) α} (e : o = ![k.val, 0, 0]) :
    Has2 I c k x j ⊢ iprop((Has2 I c k x j -∗ WP c (kk (fun i => I.w2 c ((ch2 x j).emb i))) Q)
      -∗ WP c (.op (.load A12 (Rect.unit (s := S4x256x2048) o S1x256x1024.size h).toLoadRect hl) kk) Q) := by
  unfold Has2 Land2
  iintro ⟨⟨Hh, HT⟩, Hv⟩ Hk
  iapply (wp_load_holds 𝒱₀ (c : Thread nD τ) none Set.univ (h := slot_inb' k) e (slot_sub c k)) $$ [Hh]
  · iexact Hh
  iintro Hh
  iapply Hk
  isplitr [Hv]
  · isplitl [Hh]; · iexact Hh
    iexact HT
  iexact Hv

/-! ## The narrowed weights -/

/-- The first `n` chunks of the first weights are narrowed. -/
def WB1 (n : ℕ) : sProp 𝕄 :=
  iprop(∃ X, ⌜∀ i : S2x1024x2048.Idx, 4 * (i 0).val + (i 1).val / 256 < n → X i = w1f I c i⌝ ∗ owns (c : Thread nD τ) A10 fullShare X)
/-- The first `n` chunks of the second weights are narrowed. -/
def WB2 (n : ℕ) : sProp 𝕄 :=
  iprop(∃ X, ⌜∀ i : S2x2048x1024.Idx, 8 * (i 0).val + (i 1).val / 256 < n → X i = w2f I c i⌝ ∗ owns (c : Thread nD τ) A11 fullShare X)

/-- A load of the narrowed first weights whose value does not matter. -/
theorem peek1 (n : ℕ) {r : Rect S2x1024x2048} {hl : A10.view.LoadsAt r.toLoadRect}
    {kk : (r.shape.Idx → Elt F .bf16) → Prog (TpuEff nD τ sig (Elt F) Λ₀ .tc) α} :
    WB1 I c n ⊢ iprop((∀ Y, WB1 I c n -∗ WP c (kk Y) Q) -∗ WP c (.op (.load A10 r.toLoadRect hl) kk) Q) := by
  unfold WB1
  iintro ⟨%X, %hX, H⟩ Hk
  iapply (wp_load_of 𝒱₀ (c : Thread nD τ) none Set.univ (m := A10) (r := r)) $$ [H]
  · iexact H
  iintro H
  iapply Hk
  iexists X
  isplitr; · ipureintro; exact hX
  iexact H

theorem peek2 (n : ℕ) {r : Rect S2x2048x1024} {hl : A11.view.LoadsAt r.toLoadRect}
    {kk : (r.shape.Idx → Elt F .bf16) → Prog (TpuEff nD τ sig (Elt F) Λ₀ .tc) α} :
    WB2 I c n ⊢ iprop((∀ Y, WB2 I c n -∗ WP c (kk Y) Q) -∗ WP c (.op (.load A11 r.toLoadRect hl) kk) Q) := by
  unfold WB2
  iintro ⟨%X, %hX, H⟩ Hk
  iapply (wp_load_of 𝒱₀ (c : Thread nD τ) none Set.univ (m := A11) (r := r)) $$ [H]
  · iexact H
  iintro H
  iapply Hk
  iexists X
  isplitr; · ipureintro; exact hX
  iexact H

/-- A load of an expert's narrowed weights once they are complete. -/
theorem read1 (n : ℕ) (x : Fin 2) (hn : 4 * x.val + 4 ≤ n) {o : Fin 3 → ℕ} {h : ∀ a, o a + S1x1024x2048.size a ≤ S2x1024x2048.size a}
    {hl : A10.view.LoadsAt (Rect.unit (s := S2x1024x2048) o S1x1024x2048.size h).toLoadRect}
    {kk : Vec F S1x1024x2048 .bf16 → Prog (TpuEff nD τ sig (Elt F) Λ₀ .tc) α} (e : o = ![x.val, 0, 0]) :
    WB1 I c n ⊢ iprop((WB1 I c n -∗ WP c (kk (fun i => w1f I c ((ex1 x).emb i))) Q)
      -∗ WP c (.op (.load A10 (Rect.unit (s := S2x1024x2048) o S1x1024x2048.size h).toLoadRect hl) kk) Q) := by
  subst e
  unfold WB1
  iintro ⟨%X, %hX, H⟩ Hk
  have hv : (fun i => X ((Rect.unit (s := S2x1024x2048) ![x.val, 0, 0] S1x1024x2048.size h).emb i)) = fun i => w1f I c ((ex1 x).emb i) := by
    funext i
    refine hX _ ?_
    have h0 : (i 0).val < 1 := (i 0).isLt
    have h1 : (i 1).val < 1024 := (i 1).isLt
    show 4 * (x.val + 1 * (i 0).val) + (0 + 1 * (i 1).val) / 256 < n
    omega
  iapply (wp_load_of 𝒱₀ (c : Thread nD τ) none Set.univ (m := A10) (r := Rect.unit (s := S2x1024x2048) ![x.val, 0, 0] S1x1024x2048.size h)) $$ [H]
  · iexact H
  iintro H
  rw [hv]
  iapply Hk
  iexists X
  isplitr; · ipureintro; exact hX
  iexact H

theorem read2 (n : ℕ) (x : Fin 2) (hn : 8 * x.val + 8 ≤ n) {o : Fin 3 → ℕ} {h : ∀ a, o a + S1x2048x1024.size a ≤ S2x2048x1024.size a}
    {hl : A11.view.LoadsAt (Rect.unit (s := S2x2048x1024) o S1x2048x1024.size h).toLoadRect}
    {kk : Vec F S1x2048x1024 .bf16 → Prog (TpuEff nD τ sig (Elt F) Λ₀ .tc) α} (e : o = ![x.val, 0, 0]) :
    WB2 I c n ⊢ iprop((WB2 I c n -∗ WP c (kk (fun i => w2f I c ((ex2 x).emb i))) Q)
      -∗ WP c (.op (.load A11 (Rect.unit (s := S2x2048x1024) o S1x2048x1024.size h).toLoadRect hl) kk) Q) := by
  subst e
  unfold WB2
  iintro ⟨%X, %hX, H⟩ Hk
  have hv : (fun i => X ((Rect.unit (s := S2x2048x1024) ![x.val, 0, 0] S1x2048x1024.size h).emb i)) = fun i => w2f I c ((ex2 x).emb i) := by
    funext i
    refine hX _ ?_
    have h0 : (i 0).val < 1 := (i 0).isLt
    have h1 : (i 1).val < 2048 := (i 1).isLt
    show 8 * (x.val + 1 * (i 0).val) + (0 + 1 * (i 1).val) / 256 < n
    omega
  iapply (wp_load_of 𝒱₀ (c : Thread nD τ) none Set.univ (m := A11) (r := Rect.unit (s := S2x2048x1024) ![x.val, 0, 0] S1x2048x1024.size h)) $$ [H]
  · iexact H
  iintro H
  rw [hv]
  iapply Hk
  iexists X
  isplitr; · ipureintro; exact hX
  iexact H

/-- The conversion of a chunk narrows its elements. -/
theorem conv1 (X : Vec F S1x256x2048 .f32) : k0_pay10 X = truncf .bf16 X bitsLt_bf16_f32 :=
  shapeCast_shapeCast (truncf .bf16 X bitsLt_bf16_f32) shapeCasts_S1x256x2048_S256x2048 shapeCasts_S256x2048_S1x256x2048
theorem conv2 (X : Vec F S1x256x1024 .f32) : k0_pay31 (k0_pay30 X) = truncf .bf16 X bitsLt_bf16_f32 :=
  shapeCast_shapeCast (truncf .bf16 X bitsLt_bf16_f32) shapeCasts_S1x256x1024_S256x1024 shapeCasts_S256x1024_S1x256x1024

/-- The store of a narrowed chunk. -/
theorem store1 (n : ℕ) (x : Fin 2) (j : Fin 4) (hn : n = 4 * x.val + j.val) {o : Fin 3 → ℕ} {h : ∀ a, o a + S1x256x2048.size a ≤ S2x1024x2048.size a}
    {w : Vec F S1x256x2048 .bf16} {hx} {hm} {kk : PUnit → Prog (TpuEff nD τ sig (Elt F) Λ₀ .tc) α}
    (e : o = ![x.val, 256 * j.val, 0]) (hw : w = k0_pay10 (fun i => I.w1 c ((ch1 x j).emb i))) :
    WB1 I c n ⊢ iprop((WB1 I c (n + 1) -∗ WP c (kk ⟨⟩) Q)
      -∗ WP c (.op (.store A10 (Rect.unit (s := S2x1024x2048) o S1x256x2048.size h) w Finset.univ hx hm) kk) Q) := by
  subst e
  rw [conv1] at hw
  unfold WB1
  iintro ⟨%X, %hX, H⟩ Hk
  classical
  iapply (wp_store_of 𝒱₀ (c : Thread nD τ) none Set.univ (m := A10) (hx := hx) (hm := hm) (X := X)
    (fun i => if 4 * (i 0).val + (i 1).val / 256 = n then w1f I c i else X i) ?_ ?_) $$ [H]
  · intro i
    have h0 : (i 0).val < 1 := (i 0).isLt
    have h1 : (i 1).val < 256 := (i 1).isLt
    have : 4 * (x.val + 1 * (i 0).val) + (256 * j.val + 1 * (i 1).val) / 256 = n := by omega
    rw [hw]
    exact if_pos this
  · intro i hi
    refine if_neg fun hh => ?_
    have h2 : (i 2).val < 2048 := (i 2).isLt
    have h1 : (i 1).val < 1024 := (i 1).isLt
    have hj := j.isLt
    refine hi (fun
      | ⟨0, _⟩ => ⟨(i 0).val - x.val, by show _ < 1; omega⟩
      | ⟨1, _⟩ => ⟨(i 1).val - 256 * j.val, by show _ < 256; omega⟩
      | ⟨2, _⟩ => ⟨(i 2).val, h2⟩) ?_
    funext a
    apply Fin.ext
    match a with
    | ⟨0, _⟩ => show x.val + 1 * ((i 0).val - x.val) = (i 0).val; omega
    | ⟨1, _⟩ => show 256 * j.val + 1 * ((i 1).val - 256 * j.val) = (i 1).val; omega
    | ⟨2, _⟩ => show 0 + 1 * (i 2).val = (i 2).val; omega
  · iexact H
  · iintro H
    iapply Hk
    iexists _
    isplitr [H]
    rotate_left
    · iexact H
    ipureintro
    intro i hi
    dsimp only
    split
    · rfl
    · exact hX i (by omega)

theorem store2 (n : ℕ) (x : Fin 2) (j : Fin 8) (hn : n = 8 * x.val + j.val) {o : Fin 3 → ℕ} {h : ∀ a, o a + S1x256x1024.size a ≤ S2x2048x1024.size a}
    {w : Vec F S1x256x1024 .bf16} {hx} {hm} {kk : PUnit → Prog (TpuEff nD τ sig (Elt F) Λ₀ .tc) α}
    (e : o = ![x.val, 256 * j.val, 0]) (hw : w = k0_pay31 (k0_pay30 (fun i => I.w2 c ((ch2 x j).emb i)))) :
    WB2 I c n ⊢ iprop((WB2 I c (n + 1) -∗ WP c (kk ⟨⟩) Q)
      -∗ WP c (.op (.store A11 (Rect.unit (s := S2x2048x1024) o S1x256x1024.size h) w Finset.univ hx hm) kk) Q) := by
  subst e
  rw [conv2] at hw
  unfold WB2
  iintro ⟨%X, %hX, H⟩ Hk
  classical
  iapply (wp_store_of 𝒱₀ (c : Thread nD τ) none Set.univ (m := A11) (hx := hx) (hm := hm) (X := X)
    (fun i => if 8 * (i 0).val + (i 1).val / 256 = n then w2f I c i else X i) ?_ ?_) $$ [H]
  · intro i
    have h0 : (i 0).val < 1 := (i 0).isLt
    have h1 : (i 1).val < 256 := (i 1).isLt
    have : 8 * (x.val + 1 * (i 0).val) + (256 * j.val + 1 * (i 1).val) / 256 = n := by omega
    rw [hw]
    exact if_pos this
  · intro i hi
    refine if_neg fun hh => ?_
    have h2 : (i 2).val < 1024 := (i 2).isLt
    have h1 : (i 1).val < 2048 := (i 1).isLt
    have hj := j.isLt
    refine hi (fun
      | ⟨0, _⟩ => ⟨(i 0).val - x.val, by show _ < 1; omega⟩
      | ⟨1, _⟩ => ⟨(i 1).val - 256 * j.val, by show _ < 256; omega⟩
      | ⟨2, _⟩ => ⟨(i 2).val, h2⟩) ?_
    funext a
    apply Fin.ext
    match a with
    | ⟨0, _⟩ => show x.val + 1 * ((i 0).val - x.val) = (i 0).val; omega
    | ⟨1, _⟩ => show 256 * j.val + 1 * ((i 1).val - 256 * j.val) = (i 1).val; omega
    | ⟨2, _⟩ => show 0 + 1 * (i 2).val = (i 2).val; omega
  · iexact H
  · iintro H
    iapply Hk
    iexists _
    isplitr [H]
    rotate_left
    · iexact H
    ipureintro
    intro i hi
    dsimp only
    split
    · rfl
    · exact hX i (by omega)

end Cert.KernelIdeal.Run

end
-- ==== Proof.Moves.lean ====
module

public import proofs.«01_k».proof.Proof.Weights

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

/-! ## Whole windows -/

/-- A load of a whole memref returns its values. -/
theorem load_all {s : Shape} {e : EltTy} {m : Memref sig .tc .vmem s e} {o : Fin s.rank → ℕ} {h : ∀ a, o a + s.size a ≤ s.size a}
    {hl : m.view.LoadsAt (Rect.unit (s := s) o s.size h).toLoadRect} {X : Vec F s e} {q : PosShare TreeShare}
    {kk : Vec F s e → Prog (TpuEff nD τ sig (Elt F) Λ₀ .tc) α} :
    (owns (c : Thread nD τ) m q X : sProp 𝕄) ⊢ iprop((owns (c : Thread nD τ) m q X -∗ WP c (kk X) Q)
      -∗ WP c (.op (.load m (Rect.unit (s := s) o s.size h).toLoadRect hl) kk) Q) := by
  have hv : (fun i => X ((Rect.unit (s := s) o s.size h).emb i)) = X := by
    funext i
    congr 1
    funext a
    apply Fin.ext
    have h0 := h a
    show o a + 1 * (i a).val = (i a).val
    omega
  have := wp_load_of 𝒱₀ (c : Thread nD τ) none Set.univ (defs := defs₀ (F := F)) (Q := Q) (m := m) (r := Rect.unit (s := s) o s.size h) (hl := hl) (k := kk) (q := q) (X := X)
  rw [hv] at this
  exact this

/-- A store into a whole memref, after a load of it. -/
theorem store_all {s : Shape} {e : EltTy} {m : Memref sig .tc .vmem s e} {o o' : Fin s.rank → ℕ} {h : ∀ a, o a + s.size a ≤ s.size a}
    {h' : ∀ a, o' a + s.size a ≤ s.size a}
    {hl : m.view.LoadsAt (Rect.unit (s := s) o s.size h).toLoadRect} {w : Vec F s e} {hx} {hm}
    {kk : PUnit → Prog (TpuEff nD τ sig (Elt F) Λ₀ .tc) α} :
    (iprop(∃ X, owns (c : Thread nD τ) m fullShare X) : sProp 𝕄) ⊢ iprop((owns (c : Thread nD τ) m fullShare w -∗ WP c (kk ⟨⟩) Q)
      -∗ WP c (.op (.load m (Rect.unit (s := s) o s.size h).toLoadRect hl)
        (fun _ => .op (.store m (Rect.unit (s := s) o' s.size h') w Finset.univ hx hm) kk)) Q) := by
  iintro ⟨%X, H⟩ Hk
  iapply (load_all c (m := m) (h := h) (hl := hl)) $$ [H]
  · iexact H
  iintro H
  have hr : ∀ i, (Rect.unit (s := s) o' s.size h').emb i = i := fun i => by
    funext a
    apply Fin.ext
    have h0 := h' a
    show o' a + 1 * (i a).val = (i a).val
    omega
  iapply (wp_store_of 𝒱₀ (c : Thread nD τ) none Set.univ (m := m) (hx := hx) (hm := hm) (X := X) w
    (fun i => by rw [hr]) (fun j hj => absurd (hr j) (hj j))) $$ [H]
  · iexact H
  iexact Hk

/-! ## The buckets -/

/-- A load of a bucket's rows whose value does not matter. -/
theorem peek_rows {m : Memref sig .tc .vmem S1280x1024 .bf16} (d : Dev nD) {o : Fin 2 → ℕ}
    {h : ∀ a, o a + S320x1024.size a ≤ S1280x1024.size a}
    {hl : m.view.LoadsAt (Rect.unit (s := S1280x1024) o S320x1024.size h).toLoadRect}
    {kk : Vec F S320x1024 .bf16 → Prog (TpuEff nD τ sig (Elt F) Λ₀ .tc) α} (e : o = ![320 * d.val, 0]) :
    rows c m d ⊢ iprop((∀ Y, rows c m d -∗ WP c (kk Y) Q)
      -∗ WP c (.op (.load m (Rect.unit (s := S1280x1024) o S320x1024.size h).toLoadRect hl) kk) Q) := by
  subst e
  iintro ⟨%Y, H⟩ Hk
  iapply (wp_load_at 𝒱₀ (c : Thread nD τ) none Set.univ (h := h) rfl) $$ [H]
  · iexact H
  iintro H
  iapply Hk
  iexists Y
  iexact H

/-- A store into a bucket's rows. -/
theorem store_rows {m : Memref sig .tc .vmem S1280x1024 .bf16} (d : Dev nD) {o' : Fin 2 → ℕ}
    {h' : ∀ a, o' a + S320x1024.size a ≤ S1280x1024.size a} {w X : Vec F S320x1024 .bf16} {hx} {hm}
    {kk : PUnit → Prog (TpuEff nD τ sig (Elt F) Λ₀ .tc) α} (e' : o' = ![320 * d.val, 0]) (hw : w = X) :
    rows c m d ⊢ iprop((rowsAt c m d X -∗ WP c (kk ⟨⟩) Q)
      -∗ WP c (.op (.store m (Rect.unit (s := S1280x1024) o' S320x1024.size h') w Finset.univ hx hm) kk) Q) := by
  subst hw e'
  iintro ⟨%Y, H⟩ Hk
  iapply (wp_store_at 𝒱₀ (c : Thread nD τ) none Set.univ (h := h') (w := w) (hx := hx) (hm := hm) rfl) $$ [H]
  · iexact H
  iexact Hk

/-- A load of a bucket's rows at stated values. -/
theorem load_rows {m : Memref sig .tc .vmem S1280x1024 .bf16} (d : Dev nD) {o : Fin 2 → ℕ}
    {h : ∀ a, o a + S320x1024.size a ≤ S1280x1024.size a}
    {hl : m.view.LoadsAt (Rect.unit (s := S1280x1024) o S320x1024.size h).toLoadRect} {X : Vec F S320x1024 .bf16}
    {kk : Vec F S320x1024 .bf16 → Prog (TpuEff nD τ sig (Elt F) Λ₀ .tc) α} (e : o = ![320 * d.val, 0]) :
    rowsAt c m d X ⊢ iprop((rowsAt c m d X -∗ WP c (kk X) Q)
      -∗ WP c (.op (.load m (Rect.unit (s := S1280x1024) o S320x1024.size h).toLoadRect hl) kk) Q) := by
  subst e
  iintro H Hk
  iapply (wp_load_at 𝒱₀ (c : Thread nD τ) none Set.univ (h := h) rfl) $$ [H]
  · iexact H
  iexact Hk

theorem half_emb (x : Fin 2) (d : Dev nD) {h : ∀ a, (![320 * d.val + 160 * x.val, 0] : Fin 2 → ℕ) a + S160x1024.size a ≤ S1280x1024.size a} (i : S160x1024.Idx) :
    (Rect.unit (s := S1280x1024) ![320 * d.val + 160 * x.val, 0] S160x1024.size h).emb i = (rowR d).emb ((half x).emb i) := by
  funext a
  apply Fin.ext
  match a with
  | ⟨0, _⟩ => show 320 * d.val + 160 * x.val + 1 * (i 0).val = 320 * d.val + 1 * (160 * x.val + 1 * (i 0).val); omega
  | ⟨1, _⟩ => show 0 + 1 * (i 1).val = 0 + 1 * (0 + 1 * (i 1).val); omega

/-- A load of the rows of a bucket that belong to one expert. -/
theorem load_half {m : Memref sig .tc .vmem S1280x1024 .bf16} (d : Dev nD) (x : Fin 2) {o : Fin 2 → ℕ}
    {h : ∀ a, o a + S160x1024.size a ≤ S1280x1024.size a}
    {hl : m.view.LoadsAt (Rect.unit (s := S1280x1024) o S160x1024.size h).toLoadRect} {X : Vec F S320x1024 .bf16}
    {kk : Vec F S160x1024 .bf16 → Prog (TpuEff nD τ sig (Elt F) Λ₀ .tc) α} (e : o = ![320 * d.val + 160 * x.val, 0]) :
    rowsAt c m d X ⊢ iprop((rowsAt c m d X -∗ WP c (kk (fun i => X ((half x).emb i))) Q)
      -∗ WP c (.op (.load m (Rect.unit (s := S1280x1024) o S160x1024.size h).toLoadRect hl) kk) Q) := by
  subst e
  exact wp_load_in 𝒱₀ (c : Thread nD τ) none Set.univ (r₁ := rowR d)
    (r₂ := Rect.unit (s := S1280x1024) ![320 * d.val + 160 * x.val, 0] S160x1024.size h) (fun _ => rfl)
    (fun i => (half x).emb i) (half_emb x d)

/-- The rows of a bucket, the first expert's at stated values. -/
def Part9 (d : Dev nD) (a : Vec F S160x1024 .bf16) : sProp 𝕄 :=
  iprop(∃ X, ⌜∀ i, X ((half 0).emb i) = a i⌝ ∗ rowsAt c A9 d X)

theorem cat_lo (a b : Vec F S160x1024 .bf16) (i : S160x1024.Idx) : cat a b ((half 0).emb i) = a i := by
  have h0 : (i 0).val < 160 := (i 0).isLt
  have hc : (((half 0).emb i) 0).val < 160 := by show 160 * 0 + 1 * (i 0).val < 160; omega
  unfold cat
  rw [dif_pos hc]
  congr 1
  funext t
  apply Fin.ext
  match t with
  | ⟨0, _⟩ => show 160 * 0 + 1 * (i 0).val = (i 0).val; omega
  | ⟨1, _⟩ => show 0 + 1 * (i 1).val = (i 1).val; omega

theorem cat_hi (a b : Vec F S160x1024 .bf16) (i : S160x1024.Idx) : cat a b ((half 1).emb i) = b i := by
  have hc : ¬ (((half 1).emb i) 0).val < 160 := by show ¬ 160 * 1 + 1 * (i 0).val < 160; omega
  unfold cat
  rw [dif_neg hc]
  congr 1
  funext t
  apply Fin.ext
  match t with
  | ⟨0, _⟩ => show 160 * 1 + 1 * (i 0).val - 160 = (i 0).val; omega
  | ⟨1, _⟩ => show 0 + 1 * (i 1).val = (i 1).val; omega

/-- A row of a bucket that is not in the second expert's part is in the first's. -/
theorem half_split (j : S320x1024.Idx) (h : ∀ i, (half 1).emb i ≠ j) : ∃ i, (half 0).emb i = j := by
  have h0 : (j 0).val < 320 := (j 0).isLt
  have h1 : (j 1).val < 1024 := (j 1).isLt
  by_cases hj : (j 0).val < 160
  · refine ⟨fun | ⟨0, _⟩ => ⟨(j 0).val, hj⟩ | ⟨1, _⟩ => ⟨(j 1).val, h1⟩, ?_⟩
    funext t
    apply Fin.ext
    match t with
    | ⟨0, _⟩ => show 160 * 0 + 1 * (j 0).val = (j 0).val; omega
    | ⟨1, _⟩ => show 0 + 1 * (j 1).val = (j 1).val; omega
  · refine absurd ?_ (h (fun | ⟨0, _⟩ => ⟨(j 0).val - 160, by show _ < 160; omega⟩ | ⟨1, _⟩ => ⟨(j 1).val, h1⟩))
    funext t
    apply Fin.ext
    match t with
    | ⟨0, _⟩ => show 160 * 1 + 1 * ((j 0).val - 160) = (j 0).val; omega
    | ⟨1, _⟩ => show 0 + 1 * (j 1).val = (j 1).val; omega

/-- The own results: the first expert's rows, after a load of them. -/
theorem store9_lo (d : Dev nD) {o o' : Fin 2 → ℕ}
    {h : ∀ a, o a + S160x1024.size a ≤ S1280x1024.size a} {h' : ∀ a, o' a + S160x1024.size a ≤ S1280x1024.size a}
    {hl : A9.view.LoadsAt (Rect.unit (s := S1280x1024) o S160x1024.size h).toLoadRect} {w a : Vec F S160x1024 .bf16} {hx} {hm}
    {kk : PUnit → Prog (TpuEff nD τ sig (Elt F) Λ₀ .tc) α} (e : o = ![320 * d.val + 160 * (0 : Fin 2).val, 0])
    (e' : o' = ![320 * d.val + 160 * (0 : Fin 2).val, 0]) (hw : w = a) :
    rows c A9 d ⊢ iprop((Part9 c d a -∗ WP c (kk ⟨⟩) Q)
      -∗ WP c (.op (.load A9 (Rect.unit (s := S1280x1024) o S160x1024.size h).toLoadRect hl)
        (fun _ => .op (.store A9 (Rect.unit (s := S1280x1024) o' S160x1024.size h') w Finset.univ hx hm) kk)) Q) := by
  subst hw e e'
  unfold Part9
  iintro ⟨%Y, H⟩ Hk
  iapply (load_half c (m := A9) d 0 (h := h) (hl := hl) rfl) $$ [H]
  · iexact H
  iintro H
  classical
  iapply (wp_store_in 𝒱₀ (c : Thread nD τ) none Set.univ (m := A9) (r₁ := rowR d)
    (r₂ := Rect.unit (s := S1280x1024) ![320 * d.val + 160 * (0 : Fin 2).val, 0] S160x1024.size h') (fun _ => rfl) (w := w) (hx := hx) (hm := hm) (X := Y)
    (fun j => if (j 0).val < 160 then cat w w j else Y j) (fun i => (half 0).emb i) (half_emb 0 d) ?_ ?_) $$ [H]
  · intro i
    have h0 : (i 0).val < 160 := (i 0).isLt
    have hc : (((half 0).emb i) 0).val < 160 := by show 160 * 0 + 1 * (i 0).val < 160; omega
    exact (if_pos hc).trans (cat_lo w w i)
  · intro j hj
    refine if_neg fun hlt => ?_
    obtain ⟨i, hi⟩ := half_split j (fun i hi => by
      have : (((half 1).emb i) 0).val = (j 0).val := by rw [hi]
      have h2 : 160 * 1 + 1 * (i 0).val = (j 0).val := this
      omega)
    exact hj i hi
  · iexact H
  iintro H
  iapply Hk
  iexists _
  isplitr [H]
  rotate_left
  · iexact H
  ipureintro
  intro i
  have h0 : (i 0).val < 160 := (i 0).isLt
  have hc : (((half 0).emb i) 0).val < 160 := by show 160 * 0 + 1 * (i 0).val < 160; omega
  exact (if_pos hc).trans (cat_lo w w i)

/-- The own results: the second expert's rows, after a load of them. -/
theorem store9_hi (d : Dev nD) {o o' : Fin 2 → ℕ}
    {h : ∀ a, o a + S160x1024.size a ≤ S1280x1024.size a} {h' : ∀ a, o' a + S160x1024.size a ≤ S1280x1024.size a}
    {hl : A9.view.LoadsAt (Rect.unit (s := S1280x1024) o S160x1024.size h).toLoadRect} {w a b : Vec F S160x1024 .bf16} {hx} {hm}
    {kk : PUnit → Prog (TpuEff nD τ sig (Elt F) Λ₀ .tc) α} (e : o = ![320 * d.val + 160 * (1 : Fin 2).val, 0])
    (e' : o' = ![320 * d.val + 160 * (1 : Fin 2).val, 0]) (hw : w = b) :
    Part9 c d a ⊢ iprop((rowsAt c A9 d (cat a b) -∗ WP c (kk ⟨⟩) Q)
      -∗ WP c (.op (.load A9 (Rect.unit (s := S1280x1024) o S160x1024.size h).toLoadRect hl)
        (fun _ => .op (.store A9 (Rect.unit (s := S1280x1024) o' S160x1024.size h') w Finset.univ hx hm) kk)) Q) := by
  subst hw e e'
  unfold Part9
  iintro ⟨%Y, %hY, H⟩ Hk
  iapply (load_half c (m := A9) d 1 (h := h) (hl := hl) rfl) $$ [H]
  · iexact H
  iintro H
  iapply (wp_store_in 𝒱₀ (c : Thread nD τ) none Set.univ (m := A9) (r₁ := rowR d)
    (r₂ := Rect.unit (s := S1280x1024) ![320 * d.val + 160 * (1 : Fin 2).val, 0] S160x1024.size h') (fun _ => rfl) (w := w) (hx := hx) (hm := hm) (X := Y)
    (cat a w) (fun i => (half 1).emb i) (half_emb 1 d) (cat_hi a w) ?_) $$ [H]
  · intro j hj
    obtain ⟨i, rfl⟩ := half_split j hj
    rw [cat_lo, hY]
  · iexact H
  iexact Hk

/-! ## The results on their way back -/

/-- Two blocks of rows as part of a buffer of several buckets. -/
def up (Z : Vec F S320x1024 .bf16) : Vec F S1x320x1024 .bf16 := fun i => Z (fun | ⟨0, _⟩ => i 1 | ⟨1, _⟩ => i 2)

theorem up_squeeze (Z : Vec F S320x1024 .bf16) (hs : Shape.Squeezes S1x320x1024 S320x1024) :
    (fun j => up Z (Shape.reshapeEquiv hs.numel_eq j)) = Z := by
  funext j
  refine (shapeCast_dropUnit_apply (α := Elt F .bf16) (n := 2) ![320, 1024] (up Z) hs.numel_eq j).trans ?_
  unfold up
  congr 1
  funext t
  match t with
  | ⟨0, _⟩ => rfl
  | ⟨1, _⟩ => rfl

/-- A block of rows, re-indexed. -/
def half8 (x : Fin 2) : S1x160x1024.Idx → S1x320x1024.Idx := fun i => fun
  | ⟨0, _⟩ => i 0
  | ⟨1, _⟩ => ⟨160 * x.val + (i 1).val, by have h : (i 1).val < 160 := (i 1).isLt; have := x.isLt; show _ < 320; omega⟩
  | ⟨2, _⟩ => i 2

theorem half8_emb (i : Fin 4) (x : Fin 2) {h : ∀ a, (![i.val - 1, 160 * x.val, 0] : Fin 3 → ℕ) a + S1x160x1024.size a ≤ S3x320x1024.size a} (j : S1x160x1024.Idx) :
    (Rect.unit (s := S3x320x1024) ![i.val - 1, 160 * x.val, 0] S1x160x1024.size h).emb j = (pR i).emb (half8 x j) := by
  funext a
  apply Fin.ext
  match a with
  | ⟨0, _⟩ => show i.val - 1 + 1 * (j 0).val = i.val - 1 + 1 * (j 0).val; rfl
  | ⟨1, _⟩ => show 160 * x.val + 1 * (j 1).val = 0 + 1 * (160 * x.val + (j 1).val); omega
  | ⟨2, _⟩ => show 0 + 1 * (j 2).val = 0 + 1 * (j 2).val; rfl

abbrev P8 (i : Fin 4) (X : Vec F S1x320x1024 .bf16) : sProp 𝕄 := owns (c : Thread nD τ) (A8.slice (pR i) (fun _ => rfl)) fullShare X
/-- A bucket of results, the first expert's at stated values. -/
def Part8 (i : Fin 4) (a : Vec F S160x1024 .bf16) : sProp 𝕄 :=
  iprop(∃ X, ⌜∀ j, X (half8 0 j) = a (fun t => j t.succ)⌝ ∗ P8 c i X)

theorem up_lo (a b : Vec F S160x1024 .bf16) (j : S1x160x1024.Idx) : up (cat a b) (half8 0 j) = a (fun t => j t.succ) := by
  refine Eq.trans ?_ (cat_lo a b (fun t => j t.succ))
  unfold up
  congr 1
  funext t
  apply Fin.ext
  match t with
  | ⟨0, _⟩ => show 160 * 0 + (j 1).val = 160 * 0 + 1 * (j 1).val; omega
  | ⟨1, _⟩ => show (j 2).val = 0 + 1 * (j 2).val; omega
theorem up_hi (a b : Vec F S160x1024 .bf16) (j : S1x160x1024.Idx) : up (cat a b) (half8 1 j) = b (fun t => j t.succ) := by
  refine Eq.trans ?_ (cat_hi a b (fun t => j t.succ))
  unfold up
  congr 1
  funext t
  apply Fin.ext
  match t with
  | ⟨0, _⟩ => show 160 * 1 + (j 1).val = 160 * 1 + 1 * (j 1).val; omega
  | ⟨1, _⟩ => show (j 2).val = 0 + 1 * (j 2).val; omega

theorem half8_split (j : S1x320x1024.Idx) (h : ∀ i, half8 1 i ≠ j) : ∃ i, half8 0 i = j := by
  have h1 : (j 1).val < 320 := (j 1).isLt
  by_cases hj : (j 1).val < 160
  · refine ⟨fun | ⟨0, _⟩ => j 0 | ⟨1, _⟩ => ⟨(j 1).val, hj⟩ | ⟨2, _⟩ => j 2, ?_⟩
    funext t
    apply Fin.ext
    match t with
    | ⟨0, _⟩ => rfl
    | ⟨1, _⟩ => show 160 * 0 + (j 1).val = (j 1).val; omega
    | ⟨2, _⟩ => rfl
  · refine absurd ?_ (h (fun | ⟨0, _⟩ => j 0 | ⟨1, _⟩ => ⟨(j 1).val - 160, by show _ < 160; omega⟩ | ⟨2, _⟩ => j 2))
    funext t
    apply Fin.ext
    match t with
    | ⟨0, _⟩ => rfl
    | ⟨1, _⟩ => show 160 * 1 + ((j 1).val - 160) = (j 1).val; omega
    | ⟨2, _⟩ => rfl

/-- The results to send back: the first expert's rows, after a load of them. -/
theorem store8_lo (i : Fin 4) {o o' : Fin 3 → ℕ}
    {h : ∀ a, o a + S1x160x1024.size a ≤ S3x320x1024.size a} {h' : ∀ a, o' a + S1x160x1024.size a ≤ S3x320x1024.size a}
    {hl : A8.view.LoadsAt (Rect.unit (s := S3x320x1024) o S1x160x1024.size h).toLoadRect} {w : Vec F S1x160x1024 .bf16} {a : Vec F S160x1024 .bf16} {hx} {hm}
    {kk : PUnit → Prog (TpuEff nD τ sig (Elt F) Λ₀ .tc) α} (e : o = ![i.val - 1, 160 * (0 : Fin 2).val, 0])
    (e' : o' = ![i.val - 1, 160 * (0 : Fin 2).val, 0]) (hw : w = shapeCast S1x160x1024 a shapeCasts_S160x1024_S1x160x1024) :
    (iprop(∃ X, P8 c i X) : sProp 𝕄) ⊢ iprop((Part8 c i a -∗ WP c (kk ⟨⟩) Q)
      -∗ WP c (.op (.load A8 (Rect.unit (s := S3x320x1024) o S1x160x1024.size h).toLoadRect hl)
        (fun _ => .op (.store A8 (Rect.unit (s := S3x320x1024) o' S1x160x1024.size h') w Finset.univ hx hm) kk)) Q) := by
  subst e e'
  have hw' : ∀ j, w j = a (fun t => j t.succ) := fun j => by
    rw [hw]; exact shapeCast_addUnit_apply (n := 2) ![160, 1024] a shapeCasts_S160x1024_S1x160x1024 j
  unfold Part8
  iintro ⟨%Y, H⟩ Hk
  iapply (wp_load_in 𝒱₀ (c : Thread nD τ) none Set.univ (m := A8) (r₁ := pR i)
    (r₂ := Rect.unit (s := S3x320x1024) ![i.val - 1, 160 * (0 : Fin 2).val, 0] S1x160x1024.size h) (fun _ => rfl) (half8 0) (half8_emb i 0)) $$ [H]
  · iexact H
  iintro H
  classical
  iapply (wp_store_in 𝒱₀ (c : Thread nD τ) none Set.univ (m := A8) (r₁ := pR i)
    (r₂ := Rect.unit (s := S3x320x1024) ![i.val - 1, 160 * (0 : Fin 2).val, 0] S1x160x1024.size h') (fun _ => rfl) (w := w) (hx := hx) (hm := hm) (X := Y)
    (fun j => if (j 1).val < 160 then up (cat a a) j else Y j) (half8 0) (half8_emb i 0) ?_ ?_) $$ [H]
  · intro j
    have h0 : (j 1).val < 160 := (j 1).isLt
    have hc : ((half8 0 j) 1).val < 160 := by show 160 * 0 + (j 1).val < 160; omega
    exact ((if_pos hc).trans (up_lo a a j)).trans (hw' j).symm
  · intro j hj
    refine if_neg fun hlt => ?_
    obtain ⟨i, hi⟩ := half8_split j (fun i hi => by
      have : ((half8 1 i) 1).val = (j 1).val := by rw [hi]
      have h2 : 160 * 1 + (i 1).val = (j 1).val := this
      omega)
    exact hj i hi
  · iexact H
  iintro H
  iapply Hk
  iexists _
  isplitr [H]
  rotate_left
  · iexact H
  ipureintro
  intro j
  have h0 : (j 1).val < 160 := (j 1).isLt
  have hc : ((half8 0 j) 1).val < 160 := by show 160 * 0 + (j 1).val < 160; omega
  exact (if_pos hc).trans (up_lo a a j)

/-- The results to send back: the second expert's rows, after a load of them. -/
theorem store8_hi (i : Fin 4) {o o' : Fin 3 → ℕ}
    {h : ∀ a, o a + S1x160x1024.size a ≤ S3x320x1024.size a} {h' : ∀ a, o' a + S1x160x1024.size a ≤ S3x320x1024.size a}
    {hl : A8.view.LoadsAt (Rect.unit (s := S3x320x1024) o S1x160x1024.size h).toLoadRect} {w : Vec F S1x160x1024 .bf16} {a b : Vec F S160x1024 .bf16} {hx} {hm}
    {kk : PUnit → Prog (TpuEff nD τ sig (Elt F) Λ₀ .tc) α} (e : o = ![i.val - 1, 160 * (1 : Fin 2).val, 0])
    (e' : o' = ![i.val - 1, 160 * (1 : Fin 2).val, 0]) (hw : w = shapeCast S1x160x1024 b shapeCasts_S160x1024_S1x160x1024) :
    Part8 c i a ⊢ iprop((P8 c i (up (cat a b)) -∗ WP c (kk ⟨⟩) Q)
      -∗ WP c (.op (.load A8 (Rect.unit (s := S3x320x1024) o S1x160x1024.size h).toLoadRect hl)
        (fun _ => .op (.store A8 (Rect.unit (s := S3x320x1024) o' S1x160x1024.size h') w Finset.univ hx hm) kk)) Q) := by
  subst e e'
  have hw' : ∀ j, w j = b (fun t => j t.succ) := fun j => by
    rw [hw]; exact shapeCast_addUnit_apply (n := 2) ![160, 1024] b shapeCasts_S160x1024_S1x160x1024 j
  unfold Part8
  iintro ⟨%Y, %hY, H⟩ Hk
  iapply (wp_load_in 𝒱₀ (c : Thread nD τ) none Set.univ (m := A8) (r₁ := pR i)
    (r₂ := Rect.unit (s := S3x320x1024) ![i.val - 1, 160 * (1 : Fin 2).val, 0] S1x160x1024.size h) (fun _ => rfl) (half8 1) (half8_emb i 1)) $$ [H]
  · iexact H
  iintro H
  iapply (wp_store_in 𝒱₀ (c : Thread nD τ) none Set.univ (m := A8) (r₁ := pR i)
    (r₂ := Rect.unit (s := S3x320x1024) ![i.val - 1, 160 * (1 : Fin 2).val, 0] S1x160x1024.size h') (fun _ => rfl) (w := w) (hx := hx) (hm := hm) (X := Y)
    (up (cat a b)) (half8 1) (half8_emb i 1) ?_ ?_) $$ [H]
  · intro j; rw [up_hi, hw']
  · intro j hj
    obtain ⟨i, rfl⟩ := half8_split j hj
    rw [up_lo, hY]
  · iexact H
  iexact Hk

end Cert.KernelIdeal.Run

end
-- ==== Proof.Body1.lean ====
module

public import proofs.«01_k».proof.Proof.Moves

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices, offsets and semaphores -/

theorem dev1 (c : Dev nD) : (⟨k0_dev1 c, k0_dev1_lt c⟩ : Dev nD) = sh c 1 := by revert c; decide +kernel
theorem dev2 (c : Dev nD) : (⟨k0_dev2 c, k0_dev2_lt c⟩ : Dev nD) = sh c 2 := by revert c; decide +kernel
theorem dev3 (c : Dev nD) : (⟨k0_dev3 c, k0_dev3_lt c⟩ : Dev nD) = sh c 3 := by revert c; decide +kernel
theorem dev4 (c : Dev nD) : (⟨k0_dev4 c, k0_dev4_lt c⟩ : Dev nD) = sh c 1 := by revert c; decide +kernel
theorem dev5 (c : Dev nD) : (⟨k0_dev5 c, k0_dev5_lt c⟩ : Dev nD) = sh c 2 := by revert c; decide +kernel
theorem dev6 (c : Dev nD) : (⟨k0_dev6 c, k0_dev6_lt c⟩ : Dev nD) = sh c 3 := by revert c; decide +kernel
theorem dev7 (c : Dev nD) : (⟨k0_dev7 c, k0_dev7_lt c⟩ : Dev nD) = sh c 3 := by revert c; decide +kernel
theorem dev8 (c : Dev nD) : (⟨k0_dev8 c, k0_dev8_lt c⟩ : Dev nD) = sh c 2 := by revert c; decide +kernel
theorem dev9 (c : Dev nD) : (⟨k0_dev9 c, k0_dev9_lt c⟩ : Dev nD) = sh c 1 := by revert c; decide +kernel

theorem off1 (c : Dev nD) (r : Fin 3) : k0_off1 c (BitVec.ofNat 32 (r.val + 1)) = ![320 * (sh c r.succ).val, 0] := by revert c r; decide +kernel
theorem off4 (c : Dev nD) (r : Fin 3) : k0_off4 c (BitVec.ofNat 32 (r.val + 1)) = ![320 * (sh c r.succ).val, 0] := by revert c r; decide +kernel
theorem off8 (c : Dev nD) (r : Fin 3) : k0_off8 c (BitVec.ofNat 32 (r.val + 1)) = ![(sh c r.succ).val] := by revert c r; decide +kernel
theorem off9 (c : Dev nD) (r : Fin 3) (x : Fin 2) :
    k0_off9 c (BitVec.ofNat 32 (r.val + 1)) (BitVec.ofNat 32 (160 * x.val)) = ![320 * (sh c r.succ).val + 160 * x.val, 0] := by
  revert c r x; decide +kernel
theorem off7 (c : Dev nD) : k0_off7 c = ![320 * c.val + 160 * (0 : Fin 2).val, 0] := by revert c; decide +kernel
theorem off6 (c : Dev nD) (x : Fin 2) : k0_off6 c (BitVec.ofNat 32 (160 * x.val)) = ![320 * c.val + 160 * x.val, 0] := by revert c x; decide +kernel

theorem sem_inb (i : Fin 4) : ∀ a, (![i.val] : Fin 1 → ℕ) a + S1.size a ≤ S4.size a := by revert i; decide +kernel
/-- The semaphores the copies use, by their places in the arrays. -/
theorem sem1 (i : Fin 4) {o : Fin 1 → ℕ} {h : ∀ a, o a + S1.size a ≤ S4.size a} (e : o = ![i.val]) :
    ((cc0_scratch7.slice (Rect.unit (s := S4) o S1.size h)).squeeze S_ squeezes_S1_S_).sem = ds 1 i := by
  subst e
  have key : ∀ i : Fin 4, ((cc0_scratch7.slice (Rect.unit (s := S4) ![i.val] S1.size (sem_inb i))).squeeze S_ squeezes_S1_S_).sem = ds 1 i := by
    decide +kernel
  exact key i
theorem sem2 (i : Fin 4) {o : Fin 1 → ℕ} {h : ∀ a, o a + S1.size a ≤ S4.size a} (e : o = ![i.val]) :
    ((cc0_scratch8.slice (Rect.unit (s := S4) o S1.size h)).squeeze S_ squeezes_S1_S_).sem = ds 2 i := by
  subst e
  have key : ∀ i : Fin 4, ((cc0_scratch8.slice (Rect.unit (s := S4) ![i.val] S1.size (sem_inb i))).squeeze S_ squeezes_S1_S_).sem = ds 2 i := by
    decide +kernel
  exact key i
theorem sem3 (i : Fin 4) {o : Fin 1 → ℕ} {h : ∀ a, o a + S1.size a ≤ S4.size a} (e : o = ![i.val]) :
    ((cc0_scratch9.slice (Rect.unit (s := S4) o S1.size h)).squeeze S_ squeezes_S1_S_).sem = ds 3 i := by
  subst e
  have key : ∀ i : Fin 4, ((cc0_scratch9.slice (Rect.unit (s := S4) ![i.val] S1.size (sem_inb i))).squeeze S_ squeezes_S1_S_).sem = ds 3 i := by
    decide +kernel
  exact key i
theorem sem4 (i : Fin 4) {o : Fin 1 → ℕ} {h : ∀ a, o a + S1.size a ≤ S4.size a} (e : o = ![i.val]) :
    ((cc0_scratch10.slice (Rect.unit (s := S4) o S1.size h)).squeeze S_ squeezes_S1_S_).sem = ds 4 i := by
  subst e
  have key : ∀ i : Fin 4, ((cc0_scratch10.slice (Rect.unit (s := S4) ![i.val] S1.size (sem_inb i))).squeeze S_ squeezes_S1_S_).sem = ds 4 i := by
    decide +kernel
  exact key i

variable (I : Ins F)

/-- The number of the device `n` places on, as the kernel computes it. -/
def wdp (v n : BitVec 32) : BitVec 32 :=
  let w : BitVec 32 := Scalar.remsi (Scalar.addi v n) (Scalar.select (Scalar.cmpi .eq 4#32 0#32) 1#32 4#32)
  Scalar.select (Scalar.andi (Scalar.xori (Scalar.cmpi .slt w 0#32) (Scalar.cmpi .slt (Scalar.select (Scalar.cmpi .eq 4#32 0#32) 1#32 4#32) 0#32))
    (Scalar.cmpi .ne w 0#32)) (Scalar.addi w (Scalar.select (Scalar.cmpi .eq 4#32 0#32) 1#32 4#32)) w
theorem wdp_eq (c : Dev nD) (r : Fin 3) : wdp (wd c) (BitVec.ofNat 32 (r.val + 1)) = wd (sh c r.succ) := by
  revert c r; decide +kernel

/-- The products that fill the buckets of the other devices. -/
theorem disp1 (c : Dev nD) : k0_pay2 (k0_pay1 (wd c) (I.kr c) (I.x c)) = disp I c (sh c 1) := by
  unfold disp; rw [← show wdp (wd c) 1#32 = wd (sh c 1) from wdp_eq c 0]; rfl
theorem disp2 (c : Dev nD) : k0_pay5 (k0_pay3 (wd c) (I.kr c)) (k0_pay4 (I.x c)) (constant S320x1024 .f32 0x00000000#32) = disp I c (sh c 2) := by
  unfold disp; rw [← show wdp (wd c) 2#32 = wd (sh c 2) from wdp_eq c 1]; rfl
theorem disp3 (c : Dev nD) : k0_pay7 (k0_pay6 (wd c) (I.kr c)) (I.x c) = disp I c (sh c 3) := by
  unfold disp; rw [← show wdp (wd c) 3#32 = wd (sh c 3) from wdp_eq c 2]; rfl

/-- What a signal to the device `i` places on takes. -/
abbrev Sig (c : Dev nD) (i : Fin 4) : sProp (MT nD τ sig Unit (Elt F) ℕ UU ℕ) :=
  iprop(dutyTok ER (barCell (sh c i)) 0 c ∗ rows c A7 (sh c i) ∗ rows c A9 (sh c i)
    ∗ reached ER (dCell c 2 (sh c i)) 0 ∗ reached ER (dCell c 4 (sh c i)) 0 ∗ reached ER (barCell (sh c i)) 0)
/-- What a copy of a bucket to the device `i` places on takes. -/
abbrev XTok (c : Dev nD) (i : Fin 4) : sProp (MT nD τ sig Unit (Elt F) ℕ UU ℕ) :=
  iprop(dutyTok ER (dCell c 1 i) 0 i ∗ reached ER (dCell c 1 i) 0 ∗ dutyTok ER (dCell (sh c i) 2 c) 0 c)
/-- What a copy of the results back to it takes. -/
abbrev PTok (c : Dev nD) (i : Fin 4) : sProp (MT nD τ sig Unit (Elt F) ℕ UU ℕ) :=
  iprop(dutyTok ER (dCell c 3 i) 0 i ∗ reached ER (dCell c 3 i) 0 ∗ dutyTok ER (dCell (sh c i) 4 c) 0 c)
/-- Where those results go. -/
abbrev Back (c : Dev nD) (i : Fin 4) : sProp (MT nD τ sig Unit (Elt F) ℕ UU ℕ) :=
  iprop(rows (sh c i) A9 c ∗ reached ER (dCell (sh c i) 4 c) 0)

variable (K : GSem nD τ sig → ℕ) (c : Dev nD)
variable {α : Type} {Q : α → sProp (MT nD τ sig Unit (Elt F) ℕ UU ℕ)}

section
variable (a0 : Memref sig .tc .vmem S1024x1024 .bf16) (h0 : a0.IsWhole) (a1 : Memref sig .tc .vmem S1x1024 .i32) (h1 : a1.IsWhole)
  (a2 : Memref sig .tc .vmem S1024x1 .i32) (h2 : a2.IsWhole) (a5 : Memref sig .tc .vmem S1024x1024 .f32) (h5 : a5.IsWhole)
  (h3 : A3.IsWhole) (h4 : A4.IsWhole) (h6 : A6.IsWhole) (h7 : A7.IsWhole) (h8 : A8.IsWhole) (h9 : A9.IsWhole) (h10 : A10.IsWhole) (h11 : A11.IsWhole) (h12 : A12.IsWhole)

/-- Part 1: the first three chunks start. -/
theorem part1 {k : _ → Prog (TpuEff nD τ sig (Elt F) Λ₀ .tc) α} :
    iprop(Idle I c 0 ∗ Idle I c 1 ∗ Idle I c 2)
      ⊢ iprop(((Fly1 I c 0 0 0 ∗ Fly1 I c 1 0 1 ∗ Fly1 I c 2 0 2) -∗ WP c (k ⟨c, wd c⟩) Q)
        -∗ WP c (k0_part1 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part1_eq_skeleton]; unfold k0_part1_skel
  simp only [semSignalWord, semWaitWord, Prog.lift, Prog.bind_op, Prog.bind_ret, Prog.pure_eq_ret, Prog.bind_assoc, wp_deviceId]
  iintro ⟨H0, H1, H2⟩ Hk
  iapply (start1 I c 0 0 0 rfl rfl rfl) $$ [H0]
  · iexact H0
  iintro F0
  iapply (start1 I c 1 0 1 rfl rfl rfl) $$ [H1]
  · iexact H1
  iintro F1
  iapply (start1 I c 2 0 2 rfl rfl rfl) $$ [H2]
  · iexact H2
  iintro F2
  iapply Hk
  isplitl [F0]; · iexact F0
  isplitl [F1]; · iexact F1
  iexact F2

/-- Part 2: the fourth chunk starts, two signals. -/
theorem part2 {k : _ → Prog (TpuEff nD τ sig (Elt F) Λ₀ .tc) α} :
    iprop(Ctx I K ∗ Idle I c 3 ∗ Owes c (O₀ c) ∗ Sig c 1 ∗ Sig c 2)
      ⊢ iprop((∀ a b e, (Fly1 I c 3 0 3 ∗ Owes c (O₁ c + OB c 3)) -∗ WP c (k ⟨SemArray.scalar barS, a, b, e⟩) Q)
        -∗ WP c (k0_part2 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) >>= k) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HC, H3, HO, S1, S2⟩ Hk
  iapply (start1 I c 3 0 3 rfl rfl rfl) $$ [H3]
  · iexact H3
  iintro F3
  iapply (signal_bar I K c 1 (by decide) (dev1 c)) $$ [HO S1]
  · isplitr; · iexact HC
    isplitl [HO]; · iexact HO
    iexact S1
  iintro HO
  iapply (signal_bar I K c 2 (by decide) (dev2 c)) $$ [HO S2]
  · isplitr; · iexact HC
    isplitl [HO]; · iexact HO
    iexact S2
  iintro HO
  iapply Hk
  isplitl [F3]; · iexact F3
  iexact HO

/-- Part 3: the last signal, the wait at the barrier, the operands of the first product. -/
theorem part3 {a b e : BitVec 32} {k : _ → Prog (TpuEff nD τ sig (Elt F) Λ₀ .tc) α} :
    iprop(Ctx I K ∗ Owes c (O₁ c + OB c 3) ∗ Sig c 3 ∗ cred (tallyAt (barCell c) () 3) ∗ atPos ER (barCell c) 0 ∅ 0 ∗ owns (c : Thread nD τ) a1 fullShare (I.kr c) ∗ owns (c : Thread nD τ) a0 fullShare (I.x c))
      ⊢ iprop((∀ v, (Owes c (O₁ c) ∗ atPos ER (barCell c) (0 + 1) ∅ 0 ∗ barPay c (sh c 1) ∗ barPay c (sh c 2) ∗ barPay c (sh c 3) ∗ owns (c : Thread nD τ) a1 fullShare (I.kr c) ∗ owns (c : Thread nD τ) a0 fullShare (I.x c)) -∗ WP c (k ⟨v, k0_pay1 (wd c) (I.kr c) (I.x c)⟩) Q)
        -∗ WP c (k0_part3 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) (SemArray.scalar barS) a b e >>= k) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HC, HO, S3, Hc, Ha, H1, H0⟩ Hk
  iapply (signal_bar I K c 3 (by decide) (dev3 c)) $$ [HO S3]
  · isplitr; · iexact HC
    isplitl [HO]; · iexact HO
    iexact S3
  iintro HO
  iapply (wait_bar I K c) $$ [HO Hc Ha]
  · isplitr; · iexact HC
    isplitl [HO]; · iexact HO
    isplitl [Hc]; · iexact Hc
    iexact Ha
  iintro ⟨HO, Ha, P1, P2, P3⟩
  iapply (load_all c) $$ [H1]
  · iexact H1
  iintro H1
  iapply (load_all c) $$ [H0]
  · iexact H0
  iintro H0
  iapply Hk
  isplitl [HO]; · iexact HO
  isplitl [Ha]; · iexact Ha
  isplitl [P1]; · iexact P1
  isplitl [P2]; · iexact P2
  isplitl [P3]; · iexact P3
  isplitl [H1]; · iexact H1
  iexact H0

/-- Part 4: the first bucket leaves. -/
theorem part4 {v : BitVec 32} {k : _ → Prog (TpuEff nD τ sig (Elt F) Λ₀ .tc) α} :
    iprop(Ctx I K ∗ rows c A6 (sh c 1) ∗ barPay c (sh c 1) ∗ Owes c (O₁ c) ∗ XTok c 1 ∗ owns (c : Thread nD τ) a1 fullShare (I.kr c) ∗ owns (c : Thread nD τ) a0 fullShare (I.x c))
      ⊢ iprop((∀ v, (Owes c (O₃ c + OX c 3 + OX c 2) ∗ cred (tallyAt (dCell c 1 1) () N) ∗ Back c 1 ∗ owns (c : Thread nD τ) a1 fullShare (I.kr c) ∗ owns (c : Thread nD τ) a0 fullShare (I.x c)) -∗ WP c (k ⟨v, k0_pay3 (wd c) (I.kr c), k0_pay4 (I.x c), constant S320x1024 .f32 0x00000000#32⟩) Q)
        -∗ WP c (k0_part4 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay1 (wd c) (I.kr c) (I.x c)) >>= k) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HC, H6, P, HO, T, H1, H0⟩ Hk
  iapply (peek_rows c (sh c 1) (off1 c 0)) $$ [H6]
  · iexact H6
  iintro %_ H6
  iapply (store_rows c (sh c 1) (off1 c 0) (disp1 I c)) $$ [H6]
  · iexact H6
  iintro H6
  iapply (send_x I K c 1 (by decide) (dev4 c) (off4 c 0) (k0_off3_eq c) (sem1 1 rfl) (sem2 c (k0_off2_eq c))) $$ [H6 P HO T]
  · isplitr; · iexact HC
    isplitl [H6]; · iexact H6
    isplitl [P]; · iexact P
    isplitl [HO]; · iexact HO
    iexact T
  iintro ⟨HO, Hc, HB⟩
  iapply (load_all c) $$ [H1]
  · iexact H1
  iintro H1
  iapply (load_all c) $$ [H0]
  · iexact H0
  iintro H0
  iapply Hk
  isplitl [HO]; · iexact HO
  isplitl [Hc]; · iexact Hc
  isplitl [HB]; · iexact HB
  isplitl [H1]; · iexact H1
  iexact H0

/-- Part 5: the second bucket leaves. -/
theorem part5 {v : BitVec 32} {k : _ → Prog (TpuEff nD τ sig (Elt F) Λ₀ .tc) α} :
    iprop(Ctx I K ∗ rows c A6 (sh c 2) ∗ barPay c (sh c 2) ∗ Owes c (O₃ c + OX c 3 + OX c 2) ∗ XTok c 2 ∗ owns (c : Thread nD τ) a1 fullShare (I.kr c))
      ⊢ iprop((∀ v, (Owes c (O₃ c + OX c 3) ∗ cred (tallyAt (dCell c 1 2) () N) ∗ Back c 2 ∗ owns (c : Thread nD τ) a1 fullShare (I.kr c)) -∗ WP c (k ⟨v, k0_pay6 (wd c) (I.kr c)⟩) Q)
        -∗ WP c (k0_part5 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay3 (wd c) (I.kr c)) (k0_pay4 (I.x c)) (constant S320x1024 .f32 0x00000000#32) >>= k) Q) := by
  rw [k0_part5_eq_skeleton]; unfold k0_part5_skel
  simp only [semSignalWord, semWaitWord, Prog.lift, Prog.bind_op, Prog.bind_ret, Prog.pure_eq_ret, Prog.bind_assoc, wp_deviceId]
  iintro ⟨#HC, H6, P, HO, T, H1⟩ Hk
  iapply (peek_rows c (sh c 2) (off1 c 1)) $$ [H6]
  · iexact H6
  iintro %_ H6
  iapply (store_rows c (sh c 2) (off1 c 1) (disp2 I c)) $$ [H6]
  · iexact H6
  iintro H6
  iapply (send_x I K c 2 (by decide) (dev5 c) (off4 c 1) (k0_off3_eq c) (sem1 2 rfl) (sem2 c (k0_off2_eq c))) $$ [H6 P HO T]
  · isplitr; · iexact HC
    isplitl [H6]; · iexact H6
    isplitl [P]; · iexact P
    isplitl [HO]; · iexact HO
    iexact T
  iintro ⟨HO, Hc, HB⟩
  iapply (load_all c) $$ [H1]
  · iexact H1
  iintro H1
  iapply Hk
  isplitl [HO]; · iexact HO
  isplitl [Hc]; · iexact Hc
  isplitl [HB]; · iexact HB
  iexact H1

/-- Part 6: the third bucket leaves; the product for the own bucket. -/
theorem part6 {v : BitVec 32} {k : _ → Prog (TpuEff nD τ sig (Elt F) Λ₀ .tc) α} :
    iprop(Ctx I K ∗ rows c A6 (sh c 3) ∗ barPay c (sh c 3) ∗ Owes c (O₃ c + OX c 3) ∗ XTok c 3 ∗ owns (c : Thread nD τ) a1 fullShare (I.kr c) ∗ owns (c : Thread nD τ) a0 fullShare (I.x c) ∗ rows c A7 c)
      ⊢ iprop(((Owes c (O₃ c) ∗ cred (tallyAt (dCell c 1 3) () N) ∗ Back c 3 ∗ owns (c : Thread nD τ) a1 fullShare (I.kr c) ∗ owns (c : Thread nD τ) a0 fullShare (I.x c) ∗ rows c A7 c) -∗ WP c (k (k0_pay8 (wd c) (I.kr c) (I.x c))) Q)
        -∗ WP c (k0_part6 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay6 (wd c) (I.kr c)) >>= k) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HC, H6, P, HO, T, H1, H0, H7⟩ Hk
  iapply (load_all c) $$ [H0]
  · iexact H0
  iintro H0
  iapply (peek_rows c (sh c 3) (off1 c 2)) $$ [H6]
  · iexact H6
  iintro %_ H6
  iapply (store_rows c (sh c 3) (off1 c 2) (disp3 I c)) $$ [H6]
  · iexact H6
  iintro H6
  iapply (send_x I K c 3 (by decide) (dev6 c) (off4 c 2) (k0_off3_eq c) (sem1 3 rfl) (sem2 c (k0_off2_eq c))) $$ [H6 P HO T]
  · isplitr; · iexact HC
    isplitl [H6]; · iexact H6
    isplitl [P]; · iexact P
    isplitl [HO]; · iexact HO
    iexact T
  iintro ⟨HO, Hc, HB⟩
  iapply (load_all c) $$ [H1]
  · iexact H1
  iintro H1
  iapply (load_all c) $$ [H0]
  · iexact H0
  iintro H0
  iapply (peek_rows c c (k0_off5_eq c)) $$ [H7]
  · iexact H7
  iintro %_ H7
  iapply Hk
  isplitl [HO]; · iexact HO
  isplitl [Hc]; · iexact Hc
  isplitl [HB]; · iexact HB
  isplitl [H1]; · iexact H1
  isplitl [H0]; · iexact H0
  iexact H7

end

end Cert.KernelIdeal.Run

end
-- ==== Proof.Body2.lean ====
module

public import proofs.«01_k».proof.Proof.Body1

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

section
variable (a0 : Memref sig .tc .vmem S1024x1024 .bf16) (h0 : a0.IsWhole) (a1 : Memref sig .tc .vmem S1x1024 .i32) (h1 : a1.IsWhole)
  (a2 : Memref sig .tc .vmem S1024x1 .i32) (h2 : a2.IsWhole) (a5 : Memref sig .tc .vmem S1024x1024 .f32) (h5 : a5.IsWhole)
  (h3 : A3.IsWhole) (h4 : A4.IsWhole) (h6 : A6.IsWhole) (h7 : A7.IsWhole) (h8 : A8.IsWhole) (h9 : A9.IsWhole) (h10 : A10.IsWhole) (h11 : A11.IsWhole) (h12 : A12.IsWhole)

/-- Part 7: the own bucket; the first chunk is narrowed. -/
theorem part7 {k : _ → Prog (TpuEff nD τ sig (Elt F) Λ₀ .tc) α} :
    iprop(Ctx I K ∗ Fly1 I c 0 0 0 ∗ Fly1 I c 1 0 1 ∗ Owes c (O₃ c) ∗ WB1 I c 0 ∗ rows c A7 c)
      ⊢ iprop(((Fly2 I c 0 0 0 ∗ Has1 I c 1 0 1 ∗ Owes c (O₃ c) ∗ WB1 I c 1 ∗ rowsAt c A7 c (disp I c c)) -∗ WP c (k ⟨⟩) Q)
        -∗ WP c (k0_part7 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (k0_pay8 (wd c) (I.kr c) (I.x c)) >>= k) Q) := by
  rw [k0_part7_eq_skeleton]; unfold k0_part7_skel
  simp only [semSignalWord, semWaitWord, Prog.lift, Prog.bind_op, Prog.bind_ret, Prog.pure_eq_ret, Prog.bind_assoc, wp_deviceId]
  iintro ⟨#HC, S0, S1, HO, W1, H7⟩ Hk
  iapply (store_rows c c (k0_off5_eq c) (show k0_pay9 (k0_pay8 (wd c) (I.kr c) (I.x c)) = disp I c c from rfl)) $$ [H7]
  · iexact H7
  iintro H7
  iapply (wait1 I K c 0 0 0 rfl rfl) $$ [S0 HO]
  · isplitr; · iexact HC
    isplitl [S0]; · iexact S0
    iexact HO
  iintro ⟨S0, HO⟩
  iapply (load1 I c 0 0 0 rfl) $$ [S0]
  · iexact S0
  iintro S0
  iapply (peek1 I c 0) $$ [W1]
  · iexact W1
  iintro %_ W1
  iapply (store1 I c 0 0 0 rfl rfl rfl) $$ [W1]
  · iexact W1
  iintro W1
  iapply (start2 I c 0 0 0 rfl rfl rfl) $$ [S0]
  · iapply (idle_of_has1 I c 0 0 0); iexact S0
  iintro S0
  iapply (wait1 I K c 1 0 1 rfl rfl) $$ [S1 HO]
  · isplitr; · iexact HC
    isplitl [S1]; · iexact S1
    iexact HO
  iintro ⟨S1, HO⟩
  iapply Hk
  isplitl [S0]; · iexact S0
  isplitl [S1]; · iexact S1
  isplitl [HO]; · iexact HO
  isplitl [W1]; · iexact W1
  iexact H7

/-- Part 8: chunks of the weights are narrowed and the next ones start. -/
theorem part8 {k : _ → Prog (TpuEff nD τ sig (Elt F) Λ₀ .tc) α} :
    iprop(Ctx I K ∗ Has1 I c 1 0 1 ∗ Fly1 I c 2 0 2 ∗ Owes c (O₃ c) ∗ WB1 I c 1)
      ⊢ iprop(((Fly2 I c 1 0 1 ∗ Has1 I c 2 0 2 ∗ Owes c (O₃ c) ∗ WB1 I c 3) -∗ WP c (k ⟨⟩) Q)
        -∗ WP c (k0_part8 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HC, S1, S2, HO, W1⟩ Hk
  iapply (load1 I c 1 0 1 rfl) $$ [S1]
  · iexact S1
  iintro S1
  iapply (peek1 I c 1) $$ [W1]
  · iexact W1
  iintro %_ W1
  iapply (store1 I c 1 0 1 rfl rfl rfl) $$ [W1]
  · iexact W1
  iintro W1
  iapply (start2 I c 1 0 1 rfl rfl rfl) $$ [S1]
  · iapply (idle_of_has1 I c 1 0 1); iexact S1
  iintro S1
  iapply (wait1 I K c 2 0 2 rfl rfl) $$ [S2 HO]
  · isplitr; · iexact HC
    isplitl [S2]; · iexact S2
    iexact HO
  iintro ⟨S2, HO⟩
  iapply (load1 I c 2 0 2 rfl) $$ [S2]
  · iexact S2
  iintro S2
  iapply (peek1 I c 2) $$ [W1]
  · iexact W1
  iintro %_ W1
  iapply (store1 I c 2 0 2 rfl rfl rfl) $$ [W1]
  · iexact W1
  iintro W1
  iapply Hk
  isplitl [S1]; · iexact S1
  isplitl [S2]; · iexact S2
  isplitl [HO]; · iexact HO
  iexact W1

/-- Part 9: chunks of the weights are narrowed and the next ones start. -/
theorem part9 {k : _ → Prog (TpuEff nD τ sig (Elt F) Λ₀ .tc) α} :
    iprop(Ctx I K ∗ Fly2 I c 0 0 0 ∗ Has1 I c 2 0 2 ∗ Fly1 I c 3 0 3 ∗ Owes c (O₃ c) ∗ WB1 I c 3)
      ⊢ iprop(((Has2 I c 0 0 0 ∗ Fly2 I c 2 0 2 ∗ Fly2 I c 3 0 3 ∗ Owes c (O₃ c) ∗ WB1 I c 4) -∗ WP c (k ⟨⟩) Q)
        -∗ WP c (k0_part9 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part9_eq_skeleton]; unfold k0_part9_skel
  simp only [semSignalWord, semWaitWord, Prog.lift, Prog.bind_op, Prog.bind_ret, Prog.pure_eq_ret, Prog.bind_assoc, wp_deviceId]
  iintro ⟨#HC, S0, S2, S3, HO, W1⟩ Hk
  iapply (start2 I c 2 0 2 rfl rfl rfl) $$ [S2]
  · iapply (idle_of_has1 I c 2 0 2); iexact S2
  iintro S2
  iapply (wait1 I K c 3 0 3 rfl rfl) $$ [S3 HO]
  · isplitr; · iexact HC
    isplitl [S3]; · iexact S3
    iexact HO
  iintro ⟨S3, HO⟩
  iapply (load1 I c 3 0 3 rfl) $$ [S3]
  · iexact S3
  iintro S3
  iapply (peek1 I c 3) $$ [W1]
  · iexact W1
  iintro %_ W1
  iapply (store1 I c 3 0 3 rfl rfl rfl) $$ [W1]
  · iexact W1
  iintro W1
  iapply (start2 I c 3 0 3 rfl rfl rfl) $$ [S3]
  · iapply (idle_of_has1 I c 3 0 3); iexact S3
  iintro S3
  iapply (wait2 I K c 0 0 0 rfl rfl) $$ [S0 HO]
  · isplitr; · iexact HC
    isplitl [S0]; · iexact S0
    iexact HO
  iintro ⟨S0, HO⟩
  iapply Hk
  isplitl [S0]; · iexact S0
  isplitl [S2]; · iexact S2
  isplitl [S3]; · iexact S3
  isplitl [HO]; · iexact HO
  iexact W1

/-- Part 10: chunks of the weights are narrowed and the next ones start. -/
theorem part10 {k : _ → Prog (TpuEff nD τ sig (Elt F) Λ₀ .tc) α} :
    iprop(Ctx I K ∗ Has2 I c 0 0 0 ∗ Fly2 I c 1 0 1 ∗ Owes c (O₃ c) ∗ WB2 I c 0)
      ⊢ iprop(((Fly2 I c 0 0 4 ∗ Has2 I c 1 0 1 ∗ Owes c (O₃ c) ∗ WB2 I c 2) -∗ WP c (k ⟨⟩) Q)
        -∗ WP c (k0_part10 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part10_eq_skeleton]; unfold k0_part10_skel
  simp only [semSignalWord, semWaitWord, Prog.lift, Prog.bind_op, Prog.bind_ret, Prog.pure_eq_ret, Prog.bind_assoc, wp_deviceId]
  iintro ⟨#HC, S0, S1, HO, W2⟩ Hk
  iapply (load2 I c 0 0 0 rfl) $$ [S0]
  · iexact S0
  iintro S0
  iapply (peek2 I c 0) $$ [W2]
  · iexact W2
  iintro %_ W2
  iapply (store2 I c 0 0 0 rfl rfl rfl) $$ [W2]
  · iexact W2
  iintro W2
  iapply (start2 I c 0 0 4 rfl rfl rfl) $$ [S0]
  · iapply (idle_of_has2 I c 0 0 0); iexact S0
  iintro S0
  iapply (wait2 I K c 1 0 1 rfl rfl) $$ [S1 HO]
  · isplitr; · iexact HC
    isplitl [S1]; · iexact S1
    iexact HO
  iintro ⟨S1, HO⟩
  iapply (load2 I c 1 0 1 rfl) $$ [S1]
  · iexact S1
  iintro S1
  iapply (peek2 I c 1) $$ [W2]
  · iexact W2
  iintro %_ W2
  iapply (store2 I c 1 0 1 rfl rfl rfl) $$ [W2]
  · iexact W2
  iintro W2
  iapply Hk
  isplitl [S0]; · iexact S0
  isplitl [S1]; · iexact S1
  isplitl [HO]; · iexact HO
  iexact W2

/-- Part 11: chunks of the weights are narrowed and the next ones start. -/
theorem part11 {k : _ → Prog (TpuEff nD τ sig (Elt F) Λ₀ .tc) α} :
    iprop(Ctx I K ∗ Has2 I c 1 0 1 ∗ Fly2 I c 2 0 2 ∗ Owes c (O₃ c) ∗ WB2 I c 2)
      ⊢ iprop(((Fly2 I c 1 0 5 ∗ Fly2 I c 2 0 6 ∗ Owes c (O₃ c) ∗ WB2 I c 3) -∗ WP c (k ⟨⟩) Q)
        -∗ WP c (k0_part11 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part11_eq_skeleton]; unfold k0_part11_skel
  simp only [semSignalWord, semWaitWord, Prog.lift, Prog.bind_op, Prog.bind_ret, Prog.pure_eq_ret, Prog.bind_assoc, wp_deviceId]
  iintro ⟨#HC, S1, S2, HO, W2⟩ Hk
  iapply (start2 I c 1 0 5 rfl rfl rfl) $$ [S1]
  · iapply (idle_of_has2 I c 1 0 1); iexact S1
  iintro S1
  iapply (wait2 I K c 2 0 2 rfl rfl) $$ [S2 HO]
  · isplitr; · iexact HC
    isplitl [S2]; · iexact S2
    iexact HO
  iintro ⟨S2, HO⟩
  iapply (load2 I c 2 0 2 rfl) $$ [S2]
  · iexact S2
  iintro S2
  iapply (peek2 I c 2) $$ [W2]
  · iexact W2
  iintro %_ W2
  iapply (store2 I c 2 0 2 rfl rfl rfl) $$ [W2]
  · iexact W2
  iintro W2
  iapply (start2 I c 2 0 6 rfl rfl rfl) $$ [S2]
  · iapply (idle_of_has2 I c 2 0 2); iexact S2
  iintro S2
  iapply Hk
  isplitl [S1]; · iexact S1
  isplitl [S2]; · iexact S2
  isplitl [HO]; · iexact HO
  iexact W2

/-- Part 12: chunks of the weights are narrowed and the next ones start. -/
theorem part12 {k : _ → Prog (TpuEff nD τ sig (Elt F) Λ₀ .tc) α} :
    iprop(Ctx I K ∗ Fly2 I c 0 0 4 ∗ Fly2 I c 3 0 3 ∗ Owes c (O₃ c) ∗ WB2 I c 3)
      ⊢ iprop(((Has2 I c 0 0 4 ∗ Fly2 I c 3 0 7 ∗ Owes c (O₃ c) ∗ WB2 I c 5) -∗ WP c (k ⟨⟩) Q)
        -∗ WP c (k0_part12 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part12_eq_skeleton]; unfold k0_part12_skel
  simp only [semSignalWord, semWaitWord, Prog.lift, Prog.bind_op, Prog.bind_ret, Prog.pure_eq_ret, Prog.bind_assoc, wp_deviceId]
  iintro ⟨#HC, S0, S3, HO, W2⟩ Hk
  iapply (wait2 I K c 3 0 3 rfl rfl) $$ [S3 HO]
  · isplitr; · iexact HC
    isplitl [S3]; · iexact S3
    iexact HO
  iintro ⟨S3, HO⟩
  iapply (load2 I c 3 0 3 rfl) $$ [S3]
  · iexact S3
  iintro S3
  iapply (peek2 I c 3) $$ [W2]
  · iexact W2
  iintro %_ W2
  iapply (store2 I c 3 0 3 rfl rfl rfl) $$ [W2]
  · iexact W2
  iintro W2
  iapply (start2 I c 3 0 7 rfl rfl rfl) $$ [S3]
  · iapply (idle_of_has2 I c 3 0 3); iexact S3
  iintro S3
  iapply (wait2 I K c 0 0 4 rfl rfl) $$ [S0 HO]
  · isplitr; · iexact HC
    isplitl [S0]; · iexact S0
    iexact HO
  iintro ⟨S0, HO⟩
  iapply (load2 I c 0 0 4 rfl) $$ [S0]
  · iexact S0
  iintro S0
  iapply (peek2 I c 4) $$ [W2]
  · iexact W2
  iintro %_ W2
  iapply (store2 I c 4 0 4 rfl rfl rfl) $$ [W2]
  · iexact W2
  iintro W2
  iapply Hk
  isplitl [S0]; · iexact S0
  isplitl [S3]; · iexact S3
  isplitl [HO]; · iexact HO
  iexact W2

/-- Part 13: chunks of the weights are narrowed and the next ones start. -/
theorem part13 {k : _ → Prog (TpuEff nD τ sig (Elt F) Λ₀ .tc) α} :
    iprop(Ctx I K ∗ Has2 I c 0 0 4 ∗ Fly2 I c 1 0 5 ∗ Owes c (O₃ c) ∗ WB2 I c 5)
      ⊢ iprop(((Fly1 I c 0 1 0 ∗ Fly1 I c 1 1 1 ∗ Owes c (O₃ c) ∗ WB2 I c 6) -∗ WP c (k ⟨⟩) Q)
        -∗ WP c (k0_part13 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part13_eq_skeleton]; unfold k0_part13_skel
  simp only [semSignalWord, semWaitWord, Prog.lift, Prog.bind_op, Prog.bind_ret, Prog.pure_eq_ret, Prog.bind_assoc, wp_deviceId]
  iintro ⟨#HC, S0, S1, HO, W2⟩ Hk
  iapply (start1 I c 0 1 0 rfl rfl rfl) $$ [S0]
  · iapply (idle_of_has2 I c 0 0 4); iexact S0
  iintro S0
  iapply (wait2 I K c 1 0 5 rfl rfl) $$ [S1 HO]
  · isplitr; · iexact HC
    isplitl [S1]; · iexact S1
    iexact HO
  iintro ⟨S1, HO⟩
  iapply (load2 I c 1 0 5 rfl) $$ [S1]
  · iexact S1
  iintro S1
  iapply (peek2 I c 5) $$ [W2]
  · iexact W2
  iintro %_ W2
  iapply (store2 I c 5 0 5 rfl rfl rfl) $$ [W2]
  · iexact W2
  iintro W2
  iapply (start1 I c 1 1 1 rfl rfl rfl) $$ [S1]
  · iapply (idle_of_has2 I c 1 0 5); iexact S1
  iintro S1
  iapply Hk
  isplitl [S0]; · iexact S0
  isplitl [S1]; · iexact S1
  isplitl [HO]; · iexact HO
  iexact W2

/-- Part 14: chunks of the weights are narrowed and the next ones start. -/
theorem part14 {k : _ → Prog (TpuEff nD τ sig (Elt F) Λ₀ .tc) α} :
    iprop(Ctx I K ∗ Fly2 I c 2 0 6 ∗ Fly2 I c 3 0 7 ∗ Owes c (O₃ c) ∗ WB2 I c 6)
      ⊢ iprop(((Fly1 I c 2 1 2 ∗ Has2 I c 3 0 7 ∗ Owes c (O₃ c) ∗ WB2 I c 8) -∗ WP c (k ⟨⟩) Q)
        -∗ WP c (k0_part14 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part14_eq_skeleton]; unfold k0_part14_skel
  simp only [semSignalWord, semWaitWord, Prog.lift, Prog.bind_op, Prog.bind_ret, Prog.pure_eq_ret, Prog.bind_assoc, wp_deviceId]
  iintro ⟨#HC, S2, S3, HO, W2⟩ Hk
  iapply (wait2 I K c 2 0 6 rfl rfl) $$ [S2 HO]
  · isplitr; · iexact HC
    isplitl [S2]; · iexact S2
    iexact HO
  iintro ⟨S2, HO⟩
  iapply (load2 I c 2 0 6 rfl) $$ [S2]
  · iexact S2
  iintro S2
  iapply (peek2 I c 6) $$ [W2]
  · iexact W2
  iintro %_ W2
  iapply (store2 I c 6 0 6 rfl rfl rfl) $$ [W2]
  · iexact W2
  iintro W2
  iapply (start1 I c 2 1 2 rfl rfl rfl) $$ [S2]
  · iapply (idle_of_has2 I c 2 0 6); iexact S2
  iintro S2
  iapply (wait2 I K c 3 0 7 rfl rfl) $$ [S3 HO]
  · isplitr; · iexact HC
    isplitl [S3]; · iexact S3
    iexact HO
  iintro ⟨S3, HO⟩
  iapply (load2 I c 3 0 7 rfl) $$ [S3]
  · iexact S3
  iintro S3
  iapply (peek2 I c 7) $$ [W2]
  · iexact W2
  iintro %_ W2
  iapply (store2 I c 7 0 7 rfl rfl rfl) $$ [W2]
  · iexact W2
  iintro W2
  iapply Hk
  isplitl [S2]; · iexact S2
  isplitl [S3]; · iexact S3
  isplitl [HO]; · iexact HO
  iexact W2

/-- Part 15: the first expert on the own tokens. -/
theorem part15 {k : _ → Prog (TpuEff nD τ sig (Elt F) Λ₀ .tc) α} :
    iprop(Has2 I c 3 0 7 ∗ WB1 I c 4 ∗ WB2 I c 8 ∗ rowsAt c A7 c (disp I c c) ∗ rows c A9 c)
      ⊢ iprop(((Fly1 I c 3 1 3 ∗ WB1 I c 4 ∗ WB2 I c 8 ∗ rowsAt c A7 c (disp I c c) ∗ Part9 c c (expert I c 0 (fun i => disp I c c ((half 0).emb i)))) -∗ WP c (k ⟨⟩) Q)
        -∗ WP c (k0_part15 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) >>= k) Q) := by
  rw [k0_part15_eq_skeleton]; unfold k0_part15_skel
  simp only [semSignalWord, semWaitWord, Prog.lift, Prog.bind_op, Prog.bind_ret, Prog.pure_eq_ret, Prog.bind_assoc, wp_deviceId]
  iintro ⟨S3, W1, W2, H7, H9⟩ Hk
  iapply (start1 I c 3 1 3 rfl rfl rfl) $$ [S3]
  · iapply (idle_of_has2 I c 3 0 7); iexact S3
  iintro S3
  iapply (load_half c c 0 (off6 c 0)) $$ [H7]
  · iexact H7
  iintro H7
  iapply (read1 I c 4 0 (by decide) rfl) $$ [W1]
  · iexact W1
  iintro W1
  iapply (read2 I c 8 0 (by decide) rfl) $$ [W2]
  · iexact W2
  iintro W2
  iapply (store9_lo c c (a := expert I c 0 (fun i => disp I c c ((half 0).emb i))) (off7 c) (off7 c) rfl) $$ [H9]
  · iexact H9
  iintro H9
  iapply Hk
  isplitl [S3]; · iexact S3
  isplitl [W1]; · iexact W1
  isplitl [W2]; · iexact W2
  isplitl [H7]; · iexact H7
  iexact H9

/-- Part 16: chunks of the weights are narrowed and the next ones start. -/
theorem part16 {k : _ → Prog (TpuEff nD τ sig (Elt F) Λ₀ .tc) α} :
    iprop(Ctx I K ∗ Fly1 I c 0 1 0 ∗ Fly1 I c 1 1 1 ∗ Owes c (O₃ c) ∗ WB1 I c 4)
      ⊢ iprop(((Fly2 I c 0 1 0 ∗ Has1 I c 1 1 1 ∗ Owes c (O₃ c) ∗ WB1 I c 6) -∗ WP c (k ⟨⟩) Q)
        -∗ WP c (k0_part16 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part16_eq_skeleton]; unfold k0_part16_skel
  simp only [semSignalWord, semWaitWord, Prog.lift, Prog.bind_op, Prog.bind_ret, Prog.pure_eq_ret, Prog.bind_assoc, wp_deviceId]
  iintro ⟨#HC, S0, S1, HO, W1⟩ Hk
  iapply (wait1 I K c 0 1 0 rfl rfl) $$ [S0 HO]
  · isplitr; · iexact HC
    isplitl [S0]; · iexact S0
    iexact HO
  iintro ⟨S0, HO⟩
  iapply (load1 I c 0 1 0 rfl) $$ [S0]
  · iexact S0
  iintro S0
  iapply (peek1 I c 4) $$ [W1]
  · iexact W1
  iintro %_ W1
  iapply (store1 I c 4 1 0 rfl rfl rfl) $$ [W1]
  · iexact W1
  iintro W1
  iapply (start2 I c 0 1 0 rfl rfl rfl) $$ [S0]
  · iapply (idle_of_has1 I c 0 1 0); iexact S0
  iintro S0
  iapply (wait1 I K c 1 1 1 rfl rfl) $$ [S1 HO]
  · isplitr; · iexact HC
    isplitl [S1]; · iexact S1
    iexact HO
  iintro ⟨S1, HO⟩
  iapply (load1 I c 1 1 1 rfl) $$ [S1]
  · iexact S1
  iintro S1
  iapply (peek1 I c 5) $$ [W1]
  · iexact W1
  iintro %_ W1
  iapply (store1 I c 5 1 1 rfl rfl rfl) $$ [W1]
  · iexact W1
  iintro W1
  iapply Hk
  isplitl [S0]; · iexact S0
  isplitl [S1]; · iexact S1
  isplitl [HO]; · iexact HO
  iexact W1

/-- Part 17: chunks of the weights are narrowed and the next ones start. -/
theorem part17 {k : _ → Prog (TpuEff nD τ sig (Elt F) Λ₀ .tc) α} :
    iprop(Ctx I K ∗ Has1 I c 1 1 1 ∗ Fly1 I c 2 1 2 ∗ Owes c (O₃ c) ∗ WB1 I c 6)
      ⊢ iprop(((Fly2 I c 1 1 1 ∗ Fly2 I c 2 1 2 ∗ Owes c (O₃ c) ∗ WB1 I c 7) -∗ WP c (k ⟨⟩) Q)
        -∗ WP c (k0_part17 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part17_eq_skeleton]; unfold k0_part17_skel
  simp only [semSignalWord, semWaitWord, Prog.lift, Prog.bind_op, Prog.bind_ret, Prog.pure_eq_ret, Prog.bind_assoc, wp_deviceId]
  iintro ⟨#HC, S1, S2, HO, W1⟩ Hk
  iapply (start2 I c 1 1 1 rfl rfl rfl) $$ [S1]
  · iapply (idle_of_has1 I c 1 1 1); iexact S1
  iintro S1
  iapply (wait1 I K c 2 1 2 rfl rfl) $$ [S2 HO]
  · isplitr; · iexact HC
    isplitl [S2]; · iexact S2
    iexact HO
  iintro ⟨S2, HO⟩
  iapply (load1 I c 2 1 2 rfl) $$ [S2]
  · iexact S2
  iintro S2
  iapply (peek1 I c 6) $$ [W1]
  · iexact W1
  iintro %_ W1
  iapply (store1 I c 6 1 2 rfl rfl rfl) $$ [W1]
  · iexact W1
  iintro W1
  iapply (start2 I c 2 1 2 rfl rfl rfl) $$ [S2]
  · iapply (idle_of_has1 I c 2 1 2); iexact S2
  iintro S2
  iapply Hk
  isplitl [S1]; · iexact S1
  isplitl [S2]; · iexact S2
  isplitl [HO]; · iexact HO
  iexact W1

/-- Part 18: chunks of the weights are narrowed and the next ones start. -/
theorem part18 {k : _ → Prog (TpuEff nD τ sig (Elt F) Λ₀ .tc) α} :
    iprop(Ctx I K ∗ Fly2 I c 0 1 0 ∗ Fly1 I c 3 1 3 ∗ Owes c (O₃ c) ∗ WB1 I c 7 ∗ WB2 I c 8)
      ⊢ iprop(((Has2 I c 0 1 0 ∗ Fly2 I c 3 1 3 ∗ Owes c (O₃ c) ∗ WB1 I c 8 ∗ WB2 I c 9) -∗ WP c (k ⟨⟩) Q)
        -∗ WP c (k0_part18 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part18_eq_skeleton]; unfold k0_part18_skel
  simp only [semSignalWord, semWaitWord, Prog.lift, Prog.bind_op, Prog.bind_ret, Prog.pure_eq_ret, Prog.bind_assoc, wp_deviceId]
  iintro ⟨#HC, S0, S3, HO, W1, W2⟩ Hk
  iapply (wait1 I K c 3 1 3 rfl rfl) $$ [S3 HO]
  · isplitr; · iexact HC
    isplitl [S3]; · iexact S3
    iexact HO
  iintro ⟨S3, HO⟩
  iapply (load1 I c 3 1 3 rfl) $$ [S3]
  · iexact S3
  iintro S3
  iapply (peek1 I c 7) $$ [W1]
  · iexact W1
  iintro %_ W1
  iapply (store1 I c 7 1 3 rfl rfl rfl) $$ [W1]
  · iexact W1
  iintro W1
  iapply (start2 I c 3 1 3 rfl rfl rfl) $$ [S3]
  · iapply (idle_of_has1 I c 3 1 3); iexact S3
  iintro S3
  iapply (wait2 I K c 0 1 0 rfl rfl) $$ [S0 HO]
  · isplitr; · iexact HC
    isplitl [S0]; · iexact S0
    iexact HO
  iintro ⟨S0, HO⟩
  iapply (load2 I c 0 1 0 rfl) $$ [S0]
  · iexact S0
  iintro S0
  iapply (peek2 I c 8) $$ [W2]
  · iexact W2
  iintro %_ W2
  iapply (store2 I c 8 1 0 rfl rfl rfl) $$ [W2]
  · iexact W2
  iintro W2
  iapply Hk
  isplitl [S0]; · iexact S0
  isplitl [S3]; · iexact S3
  isplitl [HO]; · iexact HO
  isplitl [W1]; · iexact W1
  iexact W2

/-- Part 19: chunks of the weights are narrowed and the next ones start. -/
theorem part19 {k : _ → Prog (TpuEff nD τ sig (Elt F) Λ₀ .tc) α} :
    iprop(Ctx I K ∗ Has2 I c 0 1 0 ∗ Fly2 I c 1 1 1 ∗ Owes c (O₃ c) ∗ WB2 I c 9)
      ⊢ iprop(((Fly2 I c 0 1 4 ∗ Fly2 I c 1 1 5 ∗ Owes c (O₃ c) ∗ WB2 I c 10) -∗ WP c (k ⟨⟩) Q)
        -∗ WP c (k0_part19 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part19_eq_skeleton]; unfold k0_part19_skel
  simp only [semSignalWord, semWaitWord, Prog.lift, Prog.bind_op, Prog.bind_ret, Prog.pure_eq_ret, Prog.bind_assoc, wp_deviceId]
  iintro ⟨#HC, S0, S1, HO, W2⟩ Hk
  iapply (start2 I c 0 1 4 rfl rfl rfl) $$ [S0]
  · iapply (idle_of_has2 I c 0 1 0); iexact S0
  iintro S0
  iapply (wait2 I K c 1 1 1 rfl rfl) $$ [S1 HO]
  · isplitr; · iexact HC
    isplitl [S1]; · iexact S1
    iexact HO
  iintro ⟨S1, HO⟩
  iapply (load2 I c 1 1 1 rfl) $$ [S1]
  · iexact S1
  iintro S1
  iapply (peek2 I c 9) $$ [W2]
  · iexact W2
  iintro %_ W2
  iapply (store2 I c 9 1 1 rfl rfl rfl) $$ [W2]
  · iexact W2
  iintro W2
  iapply (start2 I c 1 1 5 rfl rfl rfl) $$ [S1]
  · iapply (idle_of_has2 I c 1 1 1); iexact S1
  iintro S1
  iapply Hk
  isplitl [S0]; · iexact S0
  isplitl [S1]; · iexact S1
  isplitl [HO]; · iexact HO
  iexact W2

/-- Part 20: chunks of the weights are narrowed and the next ones start. -/
theorem part20 {k : _ → Prog (TpuEff nD τ sig (Elt F) Λ₀ .tc) α} :
    iprop(Ctx I K ∗ Fly2 I c 2 1 2 ∗ Fly2 I c 3 1 3 ∗ Owes c (O₃ c) ∗ WB2 I c 10)
      ⊢ iprop(((Fly2 I c 2 1 6 ∗ Has2 I c 3 1 3 ∗ Owes c (O₃ c) ∗ WB2 I c 11) -∗ WP c (k (k0_pay30 (fun i => I.w2 c ((ch2 1 3).emb i)))) Q)
        -∗ WP c (k0_part20 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part20_eq_skeleton]; unfold k0_part20_skel
  simp only [semSignalWord, semWaitWord, Prog.lift, Prog.bind_op, Prog.bind_ret, Prog.pure_eq_ret, Prog.bind_assoc, wp_deviceId]
  iintro ⟨#HC, S2, S3, HO, W2⟩ Hk
  iapply (wait2 I K c 2 1 2 rfl rfl) $$ [S2 HO]
  · isplitr; · iexact HC
    isplitl [S2]; · iexact S2
    iexact HO
  iintro ⟨S2, HO⟩
  iapply (load2 I c 2 1 2 rfl) $$ [S2]
  · iexact S2
  iintro S2
  iapply (peek2 I c 10) $$ [W2]
  · iexact W2
  iintro %_ W2
  iapply (store2 I c 10 1 2 rfl rfl rfl) $$ [W2]
  · iexact W2
  iintro W2
  iapply (start2 I c 2 1 6 rfl rfl rfl) $$ [S2]
  · iapply (idle_of_has2 I c 2 1 2); iexact S2
  iintro S2
  iapply (wait2 I K c 3 1 3 rfl rfl) $$ [S3 HO]
  · isplitr; · iexact HC
    isplitl [S3]; · iexact S3
    iexact HO
  iintro ⟨S3, HO⟩
  iapply (load2 I c 3 1 3 rfl) $$ [S3]
  · iexact S3
  iintro S3
  iapply (peek2 I c 11) $$ [W2]
  · iexact W2
  iintro %_ W2
  iapply Hk
  isplitl [S2]; · iexact S2
  isplitl [S3]; · iexact S3
  isplitl [HO]; · iexact HO
  iexact W2

/-- Part 21: chunks of the weights are narrowed and the next ones start. -/
theorem part21 {k : _ → Prog (TpuEff nD τ sig (Elt F) Λ₀ .tc) α} :
    iprop(Ctx I K ∗ Fly2 I c 0 1 4 ∗ Fly2 I c 1 1 5 ∗ Has2 I c 3 1 3 ∗ Owes c (O₃ c) ∗ WB2 I c 11)
      ⊢ iprop(((Has2 I c 0 1 4 ∗ Has2 I c 1 1 5 ∗ Fly2 I c 3 1 7 ∗ Owes c (O₃ c) ∗ WB2 I c 13) -∗ WP c (k ⟨⟩) Q)
        -∗ WP c (k0_part21 a0 h0 a1 h1 a2 h2 A3 h3 A4 h4 a5 h5 A6 h6 A7 h7 A8 h8 A9 h9 A10 h10 A11 h11 A12 h12 cc0_scratch7 cc0_scratch8 cc0_scratch9 cc0_scratch10 cc0_scratch11 (k0_pay30 (fun i => I.w2 c ((ch2 1 3).emb i))) >>= k) Q) := by
  rw [k0_part21_eq_skeleton]; unfold k0_part21_skel
  simp only [semSignalWord, semWaitWord, Prog.lift, Prog.bind_op, Prog.bind_ret, Prog.pure_eq_ret, Prog.bind_assoc, wp_deviceId]
  iintro ⟨#HC, S0, S1, S3, HO, W2⟩ Hk
  iapply (store2 I c 11 1 3 rfl rfl rfl) $$ [W2]
  · iexact W2
  iintro W2
  iapply (start2 I c 3 1 7 rfl rfl rfl) $$ [S3]
  · iapply (idle_of_has2 I c 3 1 3); iexact S3
  iintro S3
  iapply (wait2 I K c 0 1 4 rfl rfl) $$ [S0 HO]
  · isplitr; · iexact HC
    isplitl [S0]; · iexact S0
    iexact HO
  iintro ⟨S0, HO⟩
  iapply (load2 I c 0 1 4 rfl) $$ [S0]
  · iexact S0
  iintro S0
  iapply (peek2 I c 12) $$ [W2]
  · iexact W2
  iintro %_ W2
  iapply (store2 I c 12 1 4 rfl rfl rfl) $$ [W2]
  · iexact W2
  iintro W2
  iapply (wait2 I K c 1 1 5 rfl rfl) $$ [S1 HO]
  · isplitr; · iexact HC
    isplitl [S1]; · iexact S1
    iexact HO
  iintro ⟨S1, HO⟩
  iapply Hk
  isplitl [S0]; · iexact S0
  isplitl [S1]; · iexact S1
  isplitl [S3]; · iexact S3
  isplitl [HO]; · iexact HO
  iexact W2

/-- Part 22: chunks of the weights are narrowed and the next ones start. -/
theorem part22 {k : _ → Prog (TpuEff nD τ sig (Elt F) Λ₀ .tc) α} :
    iprop(Ctx I K ∗ Has2 I c 1 1 5 ∗ Fly2 I c 2 1 6 ∗ Fly2 I c 3 1 7 ∗ Owes c (O₃ c) ∗ WB2 I c 13)
      ⊢ iprop(((Has2 I c 1 1 5 ∗ Has2 I c 2 1 6 ∗ Has2 I c 3 1 7 ∗ Owes c (O₃ c) ∗ WB2 I c 15) -∗ WP c (k (k0_pay35 (fun i => I.w2 c ((ch2 1 7).emb i)))) Q)
        -∗ WP c (k0_part22 a0 h0 a1 h1 a2 h2 A3 h3 A4 h4 a5 h5 A6 h6 A7 h7 A8 h8 A9 h9 A10 h10 A11 h11 A12 h12 cc0_scratch7 cc0_scratch8 cc0_scratch9 cc0_scratch10 cc0_scratch11 >>= k) Q) := by
  rw [k0_part22_eq_skeleton]; unfold k0_part22_skel
  simp only [semSignalWord, semWaitWord, Prog.lift, Prog.bind_op, Prog.bind_ret, Prog.pure_eq_ret, Prog.bind_assoc, wp_deviceId]
  iintro ⟨#HC, S1, S2, S3, HO, W2⟩ Hk
  iapply (load2 I c 1 1 5 rfl) $$ [S1]
  · iexact S1
  iintro S1
  iapply (peek2 I c 13) $$ [W2]
  · iexact W2
  iintro %_ W2
  iapply (store2 I c 13 1 5 rfl rfl rfl) $$ [W2]
  · iexact W2
  iintro W2
  iapply (wait2 I K c 2 1 6 rfl rfl) $$ [S2 HO]
  · isplitr; · iexact HC
    isplitl [S2]; · iexact S2
    iexact HO
  iintro ⟨S2, HO⟩
  iapply (load2 I c 2 1 6 rfl) $$ [S2]
  · iexact S2
  iintro S2
  iapply (peek2 I c 14) $$ [W2]
  · iexact W2
  iintro %_ W2
  iapply (store2 I c 14 1 6 rfl rfl rfl) $$ [W2]
  · iexact W2
  iintro W2
  iapply (wait2 I K c 3 1 7 rfl rfl) $$ [S3 HO]
  · isplitr; · iexact HC
    isplitl [S3]; · iexact S3
    iexact HO
  iintro ⟨S3, HO⟩
  iapply (load2 I c 3 1 7 rfl) $$ [S3]
  · iexact S3
  iintro S3
  iapply Hk
  isplitl [S1]; · iexact S1
  isplitl [S2]; · iexact S2
  isplitl [S3]; · iexact S3
  isplitl [HO]; · iexact HO
  iexact W2

/-- Part 23: the second expert on the own tokens, and the operands of the first sum. -/
theorem part23 {k : _ → Prog (TpuEff nD τ sig (Elt F) Λ₀ .tc) α} :
    iprop(WB1 I c 8 ∗ WB2 I c 15 ∗ rowsAt c A7 c (disp I c c) ∗ Part9 c c (expert I c 0 (fun i => disp I c c ((half 0).emb i))) ∗ owns (c : Thread nD τ) a2 fullShare (I.kc c))
      ⊢ iprop(((WB1 I c 8 ∗ WB2 I c 16 ∗ rowsAt c A7 c (disp I c c) ∗ rowsAt c A9 c (ret I c c) ∗ owns (c : Thread nD τ) a2 fullShare (I.kc c)) -∗ WP c (k ⟨k0_pay38 (wd c) (I.kc c), ret I c c, constant S1024x1024 .f32 0x00000000#32⟩) Q)
        -∗ WP c (k0_part23 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) (k0_pay35 (fun i => I.w2 c ((ch2 1 7).emb i))) >>= k) Q) := by
  rw [k0_part23_eq_skeleton]; unfold k0_part23_skel
  simp only [semSignalWord, semWaitWord, Prog.lift, Prog.bind_op, Prog.bind_ret, Prog.pure_eq_ret, Prog.bind_assoc, wp_deviceId]
  iintro ⟨W1, W2, H7, H9, H2⟩ Hk
  iapply (peek2 I c 15) $$ [W2]
  · iexact W2
  iintro %_ W2
  iapply (store2 I c 15 1 7 rfl rfl rfl) $$ [W2]
  · iexact W2
  iintro W2
  iapply (load_half c c 1 (off6 c 1)) $$ [H7]
  · iexact H7
  iintro H7
  iapply (read1 I c 8 1 (by decide) rfl) $$ [W1]
  · iexact W1
  iintro W1
  iapply (read2 I c 16 1 (by decide) rfl) $$ [W2]
  · iexact W2
  iintro W2
  iapply (store9_hi c c (b := expert I c 1 (fun i => disp I c c ((half 1).emb i))) (off6 c 1) (off6 c 1) rfl) $$ [H9]
  · iexact H9
  iintro H9
  iapply (load_all c) $$ [H2]
  · iexact H2
  iintro H2
  rw [show cat (expert I c 0 (fun i => disp I c c ((half 0).emb i))) (expert I c 1 (fun i => disp I c c ((half 1).emb i))) = ret I c c from rfl]
  iapply (load_rows c c (k0_off5_eq c)) $$ [H9]
  · iexact H9
  iintro H9
  iapply Hk
  isplitl [W1]; · iexact W1
  isplitl [W2]; · iexact W2
  isplitl [H7]; · iexact H7
  isplitl [H9]; · iexact H9
  iexact H2

end

end Cert.KernelIdeal.Run

end
-- ==== Proof.Body3.lean ====
module

public import proofs.«01_k».proof.Proof.Body2

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

/-! ## Waits of the exchanges -/

/-- A wait for a copy of a bucket. -/
theorem wait_rows (f i : Fin 4) {sm : DmaSem sig} {s' : Shape} {e' : EltTy} {sp' : Space} {srcw : Memref sig .tc sp' s' e'}
    {m : Memref sig .tc .vmem S1280x1024 .bf16} {o : Fin 2 → ℕ} {h : ∀ a, o a + S320x1024.size a ≤ S1280x1024.size a}
    {hsrc : srcw.view.WordExact} {hdst : (m.slice (Rect.unit (s := S1280x1024) o S320x1024.size h) (fun _ => rfl)).view.WordExact}
    {O : CellTallies nD τ sig Unit} {k : PUnit → Prog (TpuEff nD τ sig (Elt F) Λ₀ .tc) α}
    (hdt : dutyD c (fam4 f).val i = {i}) (es : sm = ds (fam4 f) i) (hO : Above (lv (dCell c (fam4 f) i) ()) O) :
    iprop(Ctx I K ∗ Owes c O ∗ cred (tallyAt (dCell c (fam4 f) i) () N) ∗ atPos ER (dCell c (fam4 f) i) 0 ∅ 0)
      ⊢ iprop(((Owes c O ∗ atPos ER (dCell c (fam4 f) i) (0 + 1) ∅ 0 ∗ payD I c (fam4 f).val i) -∗ WP c (k ⟨⟩) Q)
          -∗ WP c (.op (.waitDma2 sm srcw (m.slice (Rect.unit (s := S1280x1024) o S320x1024.size h) (fun _ => rfl)) hsrc hdst) k) Q) :=
  wait_d I K c f i (dstw := m.slice (Rect.unit (s := S1280x1024) o S320x1024.size h) (fun _ => rfl)) rfl hdt es hO

/-- A wait for a copy out of the buffer of results. -/
theorem wait_p8 (f i : Fin 4) {sm : DmaSem sig} {s' : Shape} {e' : EltTy} {sp' : Space} {srcw : Memref sig .tc sp' s' e'}
    {o : Fin 3 → ℕ} {h : ∀ a, o a + S1x320x1024.size a ≤ S3x320x1024.size a} {hs : Shape.Squeezes S1x320x1024 S320x1024}
    {hsrc : srcw.view.WordExact}
    {hdst : ((A8.slice (Rect.unit (s := S3x320x1024) o S1x320x1024.size h) (fun _ => rfl)).squeeze S320x1024 hs).view.WordExact}
    {O : CellTallies nD τ sig Unit} {k : PUnit → Prog (TpuEff nD τ sig (Elt F) Λ₀ .tc) α}
    (hdt : dutyD c (fam4 f).val i = {i}) (es : sm = ds (fam4 f) i) (hO : Above (lv (dCell c (fam4 f) i) ()) O) :
    iprop(Ctx I K ∗ Owes c O ∗ cred (tallyAt (dCell c (fam4 f) i) () N) ∗ atPos ER (dCell c (fam4 f) i) 0 ∅ 0)
      ⊢ iprop(((Owes c O ∗ atPos ER (dCell c (fam4 f) i) (0 + 1) ∅ 0 ∗ payD I c (fam4 f).val i) -∗ WP c (k ⟨⟩) Q)
          -∗ WP c (.op (.waitDma2 sm srcw ((A8.slice (Rect.unit (s := S3x320x1024) o S1x320x1024.size h) (fun _ => rfl)).squeeze S320x1024 hs) hsrc hdst) k) Q) :=
  wait_d I K c f i (dstw := (A8.slice (Rect.unit (s := S3x320x1024) o S1x320x1024.size h) (fun _ => rfl)).squeeze S320x1024 hs) rfl hdt es hO

/-- What a device needs for the wait on a semaphore of the exchanges, and what is left of it. -/
abbrev Tick (c : Dev nD) (f : Fin 6) (i : Fin 4) : sProp (MT nD τ sig Unit (Elt F) ℕ UU ℕ) :=
  iprop(cred (tallyAt (dCell c f i) () N) ∗ atPos ER (dCell c f i) 0 ∅ 0)
abbrev Done (c : Dev nD) (f : Fin 6) (i : Fin 4) : sProp (MT nD τ sig Unit (Elt F) ℕ UU ℕ) := atPos ER (dCell c f i) (0 + 1) ∅ 0

/-- What the copies hand over, family by family. -/
theorem pay1 (i : Fin 4) : payD I c (fam4 0).val i = rows c A6 (sh c i) := rfl
theorem pay2 (i : Fin 4) : payD I c (fam4 1).val (sh c i) = rowsAt c A7 (sh c i) (disp I (sh c i) c) := rfl
theorem pay3 (i : Fin 4) : payD I c (fam4 2).val i = iprop(∃ X, P8 c i X) := rfl
theorem pay4 (i : Fin 4) : payD I c (fam4 3).val (sh c i) = rowsAt c A9 (sh c i) (ret I (sh c i) c) := rfl

/-! ## The sums -/

/-- The result after the own bucket and after each of the others. -/
def out0 (c : Dev nD) : FVec F S1024x1024 .f32 :=
  k0_pay39 (k0_pay38 (wd c) (I.kc c)) (ret I c c) (constant S1024x1024 .f32 0x00000000#32)
def out1 (c : Dev nD) : FVec F S1024x1024 .f32 := k0_pay50 (wd c) 1#32 (out0 I c) (I.kc c) (ret I (sh c 1) c)
def out2 (c : Dev nD) : FVec F S1024x1024 .f32 := k0_pay53 (k0_pay51 (out1 I c)) (k0_pay52 (wd c) (I.kc c) (ret I (sh c 2) c))
def out3 (c : Dev nD) : FVec F S1024x1024 .f32 := k0_pay56 (k0_pay54 (out2 I c)) (k0_pay55 (wd c) (I.kc c)) (ret I (sh c 3) c)

/-- The rows device `c` gets from the device `i` places on, for its expert `x`. -/
abbrev rin (c : Dev nD) (i : Fin 4) (x : Fin 2) : Vec F S160x1024 .bf16 := fun j => disp I (sh c i) c ((half x).emb j)
abbrev v1 (c : Dev nD) (x : Fin 2) : Vec F S1x1024x2048 .bf16 := fun j => w1f I c ((ex1 x).emb j)
abbrev v2 (c : Dev nD) (x : Fin 2) : Vec F S1x2048x1024 .bf16 := fun j => w2f I c ((ex2 x).emb j)

/-- An expert's results, as they are stored to be sent back. -/
theorem back31 (y : Vec F S160x1024 .bf16) (a : Vec F S1x1024x2048 .bf16) (b : Vec F S1x2048x1024 .bf16) :
    k0_pay41 (k0_pay40 y a) b = shapeCast S1x160x1024 (k0_pay22 y a b) shapeCasts_S160x1024_S1x160x1024 := by
  unfold k0_pay22
  dsimp only
  rw [shapeCast_self]
  rfl
theorem back21 (y : Vec F S160x1024 .bf16) (a : Vec F S1x1024x2048 .bf16) (b : Vec F S1x2048x1024 .bf16) :
    k0_pay45 (k0_pay43 y a) (k0_pay44 b) (constant S160x1024 .f32 0x00000000#32) = shapeCast S1x160x1024 (k0_pay22 y a b) shapeCasts_S160x1024_S1x160x1024 := by
  unfold k0_pay22
  dsimp only
  rw [shapeCast_self]
  rfl
theorem back11 (y : Vec F S160x1024 .bf16) (a : Vec F S1x1024x2048 .bf16) (b : Vec F S1x2048x1024 .bf16) :
    k0_pay48 (k0_pay47 y a b) = shapeCast S1x160x1024 (k0_pay22 y a b) shapeCasts_S160x1024_S1x160x1024 := by
  unfold k0_pay22
  dsimp only
  rw [shapeCast_self]
  rfl
theorem back32 (y : Vec F S160x1024 .bf16) (a : Vec F S1x1024x2048 .bf16) (b : Vec F S1x2048x1024 .bf16) :
    k0_pay42 y a b = shapeCast S1x160x1024 (k0_pay22 y a b) shapeCasts_S160x1024_S1x160x1024 := by
  unfold k0_pay22
  dsimp only
  rw [shapeCast_self]
  rfl
theorem back22 (y : Vec F S160x1024 .bf16) (a : Vec F S1x1024x2048 .bf16) (b : Vec F S1x2048x1024 .bf16) :
    k0_pay46 y a b = shapeCast S1x160x1024 (k0_pay22 y a b) shapeCasts_S160x1024_S1x160x1024 := by
  unfold k0_pay22
  dsimp only
  rw [shapeCast_self]
  rfl
theorem back12 (y : Vec F S160x1024 .bf16) (a : Vec F S1x1024x2048 .bf16) (b : Vec F S1x2048x1024 .bf16) :
    k0_pay49 y a b = shapeCast S1x160x1024 (k0_pay22 y a b) shapeCasts_S160x1024_S1x160x1024 := by
  unfold k0_pay22
  dsimp only
  rw [shapeCast_self]
  rfl

section
variable (a0 : Memref sig .tc .vmem S1024x1024 .bf16) (h0 : a0.IsWhole) (a1 : Memref sig .tc .vmem S1x1024 .i32) (h1 : a1.IsWhole)
  (a2 : Memref sig .tc .vmem S1024x1 .i32) (h2 : a2.IsWhole) (a5 : Memref sig .tc .vmem S1024x1024 .f32) (h5 : a5.IsWhole)
  (h3 : A3.IsWhole) (h4 : A4.IsWhole) (h6 : A6.IsWhole) (h7 : A7.IsWhole) (h8 : A8.IsWhole) (h9 : A9.IsWhole) (h10 : A10.IsWhole) (h11 : A11.IsWhole) (h12 : A12.IsWhole)

/-- Part 24: the own results are summed; the bucket of the device three places on arrives. -/
theorem part24 {k : _ → Prog (TpuEff nD τ sig (Elt F) Λ₀ .tc) α} :
    iprop(Ctx I K ∗ Owes c (O₃ c) ∗ (∃ X, owns (c : Thread nD τ) a5 fullShare X) ∗ Tick c 2 (sh c 3) ∗ WB1 I c 8 ∗ WB2 I c 16)
      ⊢ iprop((∀ v, (Owes c (O₃ c) ∗ owns (c : Thread nD τ) a5 fullShare (out0 I c) ∗ Done c 2 (sh c 3) ∗ rowsAt c A7 (sh c 3) (disp I (sh c 3) c) ∗ WB1 I c 8 ∗ WB2 I c 16) -∗ WP c (k ⟨v, k0_pay40 (rin I c 3 0) (v1 I c 0), v2 I c 0⟩) Q)
        -∗ WP c (k0_part24 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) (k0_pay38 (wd c) (I.kc c)) (ret I c c) (constant S1024x1024 .f32 0x00000000#32) >>= k) Q) := by
  rw [k0_part24_eq_skeleton]; unfold k0_part24_skel
  simp only [semSignalWord, semWaitWord, Prog.lift, Prog.bind_op, Prog.bind_ret, Prog.pure_eq_ret, Prog.bind_assoc, wp_deviceId]
  iintro ⟨#HC, HO, H5, T, W1, W2⟩ Hk
  iapply (store_all c) $$ [H5]
  · iexact H5
  iintro H5
  iapply (wait_rows I K c 1 (sh c 3) (duty2' c 3 (by decide)) (sem2 _ (off8 c 2)) (above_O₃ (by rw [lv_d]; decide) c)) $$ [HO T]
  · isplitr; · iexact HC
    isplitl [HO]; · iexact HO
    iexact T
  iintro ⟨HO, D, H7⟩
  ihave H7 := (Entails.of_eq (pay2 I c 3)) $$ H7
  iapply (load_half c (sh c 3) 0 (off9 c 2 0)) $$ [H7]
  · iexact H7
  iintro H7
  iapply (read1 I c 8 0 (by decide) rfl) $$ [W1]
  · iexact W1
  iintro W1
  iapply (read2 I c 16 0 (by decide) rfl) $$ [W2]
  · iexact W2
  iintro W2
  iapply Hk
  isplitl [HO]; · iexact HO
  isplitl [H5]; · iexact H5
  isplitl [D]; · iexact D
  isplitl [H7]; · iexact H7
  isplitl [W1]; · iexact W1
  iexact W2

/-- Part 25: the results for it are computed. -/
theorem part25 {v : BitVec 32} {k : _ → Prog (TpuEff nD τ sig (Elt F) Λ₀ .tc) α} :
    iprop((∃ X, P8 c 3 X) ∗ rowsAt c A7 (sh c 3) (disp I (sh c 3) c) ∗ WB1 I c 8 ∗ WB2 I c 16)
      ⊢ iprop(((P8 c 3 (up (ret I c (sh c 3))) ∗ rowsAt c A7 (sh c 3) (disp I (sh c 3) c) ∗ WB1 I c 8 ∗ WB2 I c 16) -∗ WP c (k ⟨⟩) Q)
        -∗ WP c (k0_part25 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay40 (rin I c 3 0) (v1 I c 0)) (v2 I c 0) >>= k) Q) := by
  rw [k0_part25_eq_skeleton]; unfold k0_part25_skel
  simp only [semSignalWord, semWaitWord, Prog.lift, Prog.bind_op, Prog.bind_ret, Prog.pure_eq_ret, Prog.bind_assoc, wp_deviceId]
  iintro ⟨H8, H7, W1, W2⟩ Hk
  iapply (store8_lo c 3 (a := expert I c 0 (rin I c 3 0)) rfl rfl (back31 _ _ _)) $$ [H8]
  · iexact H8
  iintro H8
  iapply (load_half c (sh c 3) 1 (off9 c 2 1)) $$ [H7]
  · iexact H7
  iintro H7
  iapply (read1 I c 8 1 (by decide) rfl) $$ [W1]
  · iexact W1
  iintro W1
  iapply (read2 I c 16 1 (by decide) rfl) $$ [W2]
  · iexact W2
  iintro W2
  iapply (store8_hi c 3 (b := expert I c 1 (rin I c 3 1)) rfl rfl (back32 _ _ _)) $$ [H8]
  · iexact H8
  iintro H8
  rw [show cat (expert I c 0 (rin I c 3 0)) (expert I c 1 (rin I c 3 1)) = ret I c (sh c 3) from rfl]
  iapply Hk
  isplitl [H8]; · iexact H8
  isplitl [H7]; · iexact H7
  isplitl [W1]; · iexact W1
  iexact W2

/-- Part 26: these leave; the bucket of the device two places on arrives. -/
theorem part26 {k : _ → Prog (TpuEff nD τ sig (Elt F) Λ₀ .tc) α} :
    iprop(Ctx I K ∗ P8 c 3 (up (ret I c (sh c 3))) ∗ Back c 3 ∗ Owes c (O₃ c) ∗ PTok c 3 ∗ Tick c 2 (sh c 2) ∗ WB1 I c 8 ∗ WB2 I c 16)
      ⊢ iprop((∀ v, (Owes c (0 + OP c 1 + OP c 2) ∗ cred (tallyAt (dCell c 3 3) () N) ∗ Done c 2 (sh c 2) ∗ rowsAt c A7 (sh c 2) (disp I (sh c 2) c) ∗ WB1 I c 8 ∗ WB2 I c 16) -∗ WP c (k ⟨v, k0_pay43 (rin I c 2 0) (v1 I c 0), k0_pay44 (v2 I c 0), constant S160x1024 .f32 0x00000000#32⟩) Q)
        -∗ WP c (k0_part26 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) >>= k) Q) := by
  rw [k0_part26_eq_skeleton]; unfold k0_part26_skel
  simp only [semSignalWord, semWaitWord, Prog.lift, Prog.bind_op, Prog.bind_ret, Prog.pure_eq_ret, Prog.bind_assoc, wp_deviceId]
  iintro ⟨#HC, H8, ⟨B, Br⟩, HO, P, T, W1, W2⟩ Hk
  iapply (send_p I K c 3 (by decide) (dev7 c) rfl (k0_off3_eq c) (sem3 3 rfl) (sem4 c (k0_off2_eq c)) (Y := up (ret I c (sh c 3))) (O := 0 + OP c 1 + OP c 2) (up_squeeze _ squeezes_S1x320x1024_S320x1024)) $$ [H8 B Br HO P]
  · isplitr; · iexact HC
    isplitl [H8]; · iexact H8
    isplitl [B]; · iexact B
    isplitl [Br]; · iexact Br
    isplitl [HO]; · iexact HO
    iexact P
  iintro ⟨HO, Cp⟩
  iapply (wait_rows I K c 1 (sh c 2) (duty2' c 2 (by decide)) (sem2 _ (off8 c 1)) (above_add (above_add (above_zero _) (above_OP (by rw [lv_d]; decide) c 1)) (above_OP (by rw [lv_d]; decide) c 2))) $$ [HO T]
  · isplitr; · iexact HC
    isplitl [HO]; · iexact HO
    iexact T
  iintro ⟨HO, D, H7⟩
  ihave H7 := (Entails.of_eq (pay2 I c 2)) $$ H7
  iapply (load_half c (sh c 2) 0 (off9 c 1 0)) $$ [H7]
  · iexact H7
  iintro H7
  iapply (read1 I c 8 0 (by decide) rfl) $$ [W1]
  · iexact W1
  iintro W1
  iapply (read2 I c 16 0 (by decide) rfl) $$ [W2]
  · iexact W2
  iintro W2
  iapply Hk
  isplitl [HO]; · iexact HO
  isplitl [Cp]; · iexact Cp
  isplitl [D]; · iexact D
  isplitl [H7]; · iexact H7
  isplitl [W1]; · iexact W1
  iexact W2

/-- Part 27: the results for it are computed. -/
theorem part27 {v : BitVec 32} {k : _ → Prog (TpuEff nD τ sig (Elt F) Λ₀ .tc) α} :
    iprop((∃ X, P8 c 2 X) ∗ rowsAt c A7 (sh c 2) (disp I (sh c 2) c) ∗ WB1 I c 8 ∗ WB2 I c 16)
      ⊢ iprop(((P8 c 2 (up (ret I c (sh c 2))) ∗ rowsAt c A7 (sh c 2) (disp I (sh c 2) c) ∗ WB1 I c 8 ∗ WB2 I c 16) -∗ WP c (k ⟨⟩) Q)
        -∗ WP c (k0_part27 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay43 (rin I c 2 0) (v1 I c 0)) (k0_pay44 (v2 I c 0)) (constant S160x1024 .f32 0x00000000#32) >>= k) Q) := by
  rw [k0_part27_eq_skeleton]; unfold k0_part27_skel
  simp only [semSignalWord, semWaitWord, Prog.lift, Prog.bind_op, Prog.bind_ret, Prog.pure_eq_ret, Prog.bind_assoc, wp_deviceId]
  iintro ⟨H8, H7, W1, W2⟩ Hk
  iapply (store8_lo c 2 (a := expert I c 0 (rin I c 2 0)) rfl rfl (back21 _ _ _)) $$ [H8]
  · iexact H8
  iintro H8
  iapply (load_half c (sh c 2) 1 (off9 c 1 1)) $$ [H7]
  · iexact H7
  iintro H7
  iapply (read1 I c 8 1 (by decide) rfl) $$ [W1]
  · iexact W1
  iintro W1
  iapply (read2 I c 16 1 (by decide) rfl) $$ [W2]
  · iexact W2
  iintro W2
  iapply (store8_hi c 2 (b := expert I c 1 (rin I c 2 1)) rfl rfl (back22 _ _ _)) $$ [H8]
  · iexact H8
  iintro H8
  rw [show cat (expert I c 0 (rin I c 2 0)) (expert I c 1 (rin I c 2 1)) = ret I c (sh c 2) from rfl]
  iapply Hk
  isplitl [H8]; · iexact H8
  isplitl [H7]; · iexact H7
  isplitl [W1]; · iexact W1
  iexact W2

/-- Part 28: these leave; the bucket of the next device arrives. -/
theorem part28 {k : _ → Prog (TpuEff nD τ sig (Elt F) Λ₀ .tc) α} :
    iprop(Ctx I K ∗ P8 c 2 (up (ret I c (sh c 2))) ∗ Back c 2 ∗ Owes c (0 + OP c 1 + OP c 2) ∗ PTok c 2 ∗ Tick c 2 (sh c 1) ∗ WB1 I c 8 ∗ WB2 I c 16)
      ⊢ iprop((∀ v, (Owes c (0 + OP c 1) ∗ cred (tallyAt (dCell c 3 2) () N) ∗ Done c 2 (sh c 1) ∗ rowsAt c A7 (sh c 1) (disp I (sh c 1) c) ∗ WB1 I c 8 ∗ WB2 I c 16) -∗ WP c (k ⟨v, k0_pay47 (rin I c 1 0) (v1 I c 0) (v2 I c 0)⟩) Q)
        -∗ WP c (k0_part28 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) >>= k) Q) := by
  rw [k0_part28_eq_skeleton]; unfold k0_part28_skel
  simp only [semSignalWord, semWaitWord, Prog.lift, Prog.bind_op, Prog.bind_ret, Prog.pure_eq_ret, Prog.bind_assoc, wp_deviceId]
  iintro ⟨#HC, H8, ⟨B, Br⟩, HO, P, T, W1, W2⟩ Hk
  iapply (send_p I K c 2 (by decide) (dev8 c) rfl (k0_off3_eq c) (sem3 2 rfl) (sem4 c (k0_off2_eq c)) (Y := up (ret I c (sh c 2))) (O := 0 + OP c 1) (up_squeeze _ squeezes_S1x320x1024_S320x1024)) $$ [H8 B Br HO P]
  · isplitr; · iexact HC
    isplitl [H8]; · iexact H8
    isplitl [B]; · iexact B
    isplitl [Br]; · iexact Br
    isplitl [HO]; · iexact HO
    iexact P
  iintro ⟨HO, Cp⟩
  iapply (wait_rows I K c 1 (sh c 1) (duty2' c 1 (by decide)) (sem2 _ (off8 c 0)) (above_add (above_zero _) (above_OP (by rw [lv_d]; decide) c 1))) $$ [HO T]
  · isplitr; · iexact HC
    isplitl [HO]; · iexact HO
    iexact T
  iintro ⟨HO, D, H7⟩
  ihave H7 := (Entails.of_eq (pay2 I c 1)) $$ H7
  iapply (load_half c (sh c 1) 0 (off9 c 0 0)) $$ [H7]
  · iexact H7
  iintro H7
  iapply (read1 I c 8 0 (by decide) rfl) $$ [W1]
  · iexact W1
  iintro W1
  iapply (read2 I c 16 0 (by decide) rfl) $$ [W2]
  · iexact W2
  iintro W2
  iapply Hk
  isplitl [HO]; · iexact HO
  isplitl [Cp]; · iexact Cp
  isplitl [D]; · iexact D
  isplitl [H7]; · iexact H7
  isplitl [W1]; · iexact W1
  iexact W2

/-- Part 29: the results for it are computed and leave. -/
theorem part29 {v : BitVec 32} {k : _ → Prog (TpuEff nD τ sig (Elt F) Λ₀ .tc) α} :
    iprop(Ctx I K ∗ (∃ X, P8 c 1 X) ∗ rowsAt c A7 (sh c 1) (disp I (sh c 1) c) ∗ WB1 I c 8 ∗ WB2 I c 16 ∗ Back c 1 ∗ Owes c (0 + OP c 1) ∗ PTok c 1)
      ⊢ iprop(((Owes c 0 ∗ cred (tallyAt (dCell c 3 1) () N) ∗ rowsAt c A7 (sh c 1) (disp I (sh c 1) c) ∗ WB1 I c 8 ∗ WB2 I c 16) -∗ WP c (k 1#32) Q)
        -∗ WP c (k0_part29 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) v (k0_pay47 (rin I c 1 0) (v1 I c 0) (v2 I c 0)) >>= k) Q) := by
  rw [k0_part29_eq_skeleton]; unfold k0_part29_skel
  simp only [semSignalWord, semWaitWord, Prog.lift, Prog.bind_op, Prog.bind_ret, Prog.pure_eq_ret, Prog.bind_assoc, wp_deviceId]
  iintro ⟨#HC, H8, H7, W1, W2, ⟨B, Br⟩, HO, P⟩ Hk
  iapply (store8_lo c 1 (a := expert I c 0 (rin I c 1 0)) rfl rfl (back11 _ _ _)) $$ [H8]
  · iexact H8
  iintro H8
  iapply (load_half c (sh c 1) 1 (off9 c 0 1)) $$ [H7]
  · iexact H7
  iintro H7
  iapply (read1 I c 8 1 (by decide) rfl) $$ [W1]
  · iexact W1
  iintro W1
  iapply (read2 I c 16 1 (by decide) rfl) $$ [W2]
  · iexact W2
  iintro W2
  iapply (store8_hi c 1 (b := expert I c 1 (rin I c 1 1)) rfl rfl (back12 _ _ _)) $$ [H8]
  · iexact H8
  iintro H8
  rw [show cat (expert I c 0 (rin I c 1 0)) (expert I c 1 (rin I c 1 1)) = ret I c (sh c 1) from rfl]
  iapply (send_p I K c 1 (by decide) (dev9 c) rfl (k0_off3_eq c) (sem3 1 rfl) (sem4 c (k0_off2_eq c)) (Y := up (ret I c (sh c 1))) (O := 0) (up_squeeze _ squeezes_S1x320x1024_S320x1024)) $$ [H8 B Br HO P]
  · isplitr; · iexact HC
    isplitl [H8]; · iexact H8
    isplitl [B]; · iexact B
    isplitl [Br]; · iexact Br
    isplitl [HO]; · iexact HO
    iexact P
  iintro ⟨HO, Cp⟩
  iapply Hk
  isplitl [HO]; · iexact HO
  isplitl [Cp]; · iexact Cp
  isplitl [H7]; · iexact H7
  isplitl [W1]; · iexact W1
  iexact W2

/-- Part 30: the results of the next device arrive. -/
theorem part30 {k : _ → Prog (TpuEff nD τ sig (Elt F) Λ₀ .tc) α} :
    iprop(Ctx I K ∗ Owes c 0 ∗ Tick c 4 (sh c 1) ∗ owns (c : Thread nD τ) a5 fullShare (out0 I c) ∗ owns (c : Thread nD τ) a2 fullShare (I.kc c))
      ⊢ iprop(((Owes c 0 ∗ Done c 4 (sh c 1) ∗ owns (c : Thread nD τ) a5 fullShare (out0 I c) ∗ owns (c : Thread nD τ) a2 fullShare (I.kc c) ∗ rowsAt c A9 (sh c 1) (ret I (sh c 1) c)) -∗ WP c (k (out1 I c)) Q)
        -∗ WP c (k0_part30 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) 1#32 >>= k) Q) := by
  rw [k0_part30_eq_skeleton]; unfold k0_part30_skel
  simp only [semSignalWord, semWaitWord, Prog.lift, Prog.bind_op, Prog.bind_ret, Prog.pure_eq_ret, Prog.bind_assoc, wp_deviceId]
  iintro ⟨#HC, HO, T, H5, H2⟩ Hk
  iapply (wait_rows I K c 3 (sh c 1) (duty4' c 1 (by decide)) (sem4 _ (off8 c 0)) (above_zero _)) $$ [HO T]
  · isplitr; · iexact HC
    isplitl [HO]; · iexact HO
    iexact T
  iintro ⟨HO, D, H9⟩
  ihave H9 := (Entails.of_eq (pay4 I c 1)) $$ H9
  iapply (load_all c) $$ [H5]
  · iexact H5
  iintro H5
  iapply (load_all c) $$ [H2]
  · iexact H2
  iintro H2
  iapply (load_rows c (sh c 1) (off1 c 0)) $$ [H9]
  · iexact H9
  iintro H9
  iapply Hk
  isplitl [HO]; · iexact HO
  isplitl [D]; · iexact D
  isplitl [H5]; · iexact H5
  isplitl [H2]; · iexact H2
  iexact H9

/-- Part 31: they are added; those of the device two places on arrive. -/
theorem part31 {k : _ → Prog (TpuEff nD τ sig (Elt F) Λ₀ .tc) α} :
    iprop(Ctx I K ∗ Owes c 0 ∗ Tick c 4 (sh c 2) ∗ owns (c : Thread nD τ) a5 fullShare (out0 I c) ∗ owns (c : Thread nD τ) a2 fullShare (I.kc c))
      ⊢ iprop(((Owes c 0 ∗ Done c 4 (sh c 2) ∗ owns (c : Thread nD τ) a5 fullShare (out1 I c) ∗ owns (c : Thread nD τ) a2 fullShare (I.kc c) ∗ rowsAt c A9 (sh c 2) (ret I (sh c 2) c)) -∗ WP c (k ⟨k0_pay51 (out1 I c), k0_pay52 (wd c) (I.kc c) (ret I (sh c 2) c)⟩) Q)
        -∗ WP c (k0_part31 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) (out1 I c) >>= k) Q) := by
  rw [k0_part31_eq_skeleton]; unfold k0_part31_skel
  simp only [semSignalWord, semWaitWord, Prog.lift, Prog.bind_op, Prog.bind_ret, Prog.pure_eq_ret, Prog.bind_assoc, wp_deviceId]
  iintro ⟨#HC, HO, T, H5, H2⟩ Hk
  iapply (store_all c) $$ [H5]
  · iexists _; iexact H5
  iintro H5
  iapply (wait_rows I K c 3 (sh c 2) (duty4' c 2 (by decide)) (sem4 _ (off8 c 1)) (above_zero _)) $$ [HO T]
  · isplitr; · iexact HC
    isplitl [HO]; · iexact HO
    iexact T
  iintro ⟨HO, D, H9⟩
  ihave H9 := (Entails.of_eq (pay4 I c 2)) $$ H9
  iapply (load_all c) $$ [H5]
  · iexact H5
  iintro H5
  iapply (load_all c) $$ [H2]
  · iexact H2
  iintro H2
  iapply (load_rows c (sh c 2) (off1 c 1)) $$ [H9]
  · iexact H9
  iintro H9
  iapply Hk
  isplitl [HO]; · iexact HO
  isplitl [D]; · iexact D
  isplitl [H5]; · iexact H5
  isplitl [H2]; · iexact H2
  iexact H9

/-- Part 32: they are added; those of the device three places on arrive. -/
theorem part32 {k : _ → Prog (TpuEff nD τ sig (Elt F) Λ₀ .tc) α} :
    iprop(Ctx I K ∗ Owes c 0 ∗ Tick c 4 (sh c 3) ∗ owns (c : Thread nD τ) a5 fullShare (out1 I c) ∗ owns (c : Thread nD τ) a2 fullShare (I.kc c))
      ⊢ iprop(((Owes c 0 ∗ Done c 4 (sh c 3) ∗ owns (c : Thread nD τ) a5 fullShare (out2 I c) ∗ owns (c : Thread nD τ) a2 fullShare (I.kc c) ∗ rowsAt c A9 (sh c 3) (ret I (sh c 3) c)) -∗ WP c (k ⟨k0_pay54 (out2 I c), k0_pay55 (wd c) (I.kc c)⟩) Q)
        -∗ WP c (k0_part32 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (wd c) (k0_pay51 (out1 I c)) (k0_pay52 (wd c) (I.kc c) (ret I (sh c 2) c)) >>= k) Q) := by
  rw [k0_part32_eq_skeleton]; unfold k0_part32_skel
  simp only [semSignalWord, semWaitWord, Prog.lift, Prog.bind_op, Prog.bind_ret, Prog.pure_eq_ret, Prog.bind_assoc, wp_deviceId]
  iintro ⟨#HC, HO, T, H5, H2⟩ Hk
  iapply (store_all c) $$ [H5]
  · iexists _; iexact H5
  iintro H5
  rw [show k0_pay53 (k0_pay51 (out1 I c)) (k0_pay52 (wd c) (I.kc c) (ret I (sh c 2) c)) = out2 I c from rfl]
  iapply (wait_rows I K c 3 (sh c 3) (duty4' c 3 (by decide)) (sem4 _ (off8 c 2)) (above_zero _)) $$ [HO T]
  · isplitr; · iexact HC
    isplitl [HO]; · iexact HO
    iexact T
  iintro ⟨HO, D, H9⟩
  ihave H9 := (Entails.of_eq (pay4 I c 3)) $$ H9
  iapply (load_all c) $$ [H5]
  · iexact H5
  iintro H5
  iapply (load_all c) $$ [H2]
  · iexact H2
  iintro H2
  iapply Hk
  isplitl [HO]; · iexact HO
  isplitl [D]; · iexact D
  isplitl [H5]; · iexact H5
  isplitl [H2]; · iexact H2
  iexact H9

/-- Part 33: they are added; the copies out are waited for. -/
theorem part33 {k : _ → Prog (TpuEff nD τ sig (Elt F) Λ₀ .tc) α} :
    iprop(Ctx I K ∗ Owes c 0 ∗ owns (c : Thread nD τ) a5 fullShare (out2 I c) ∗ rowsAt c A9 (sh c 3) (ret I (sh c 3) c) ∗ Tick c 1 1 ∗ Tick c 1 2 ∗ Tick c 1 3 ∗ Tick c 3 3 ∗ Tick c 3 2)
      ⊢ iprop(((Owes c 0 ∗ owns (c : Thread nD τ) a5 fullShare (out3 I c) ∗ rowsAt c A9 (sh c 3) (ret I (sh c 3) c) ∗ Done c 1 1 ∗ Done c 1 2 ∗ Done c 1 3 ∗ Done c 3 3 ∗ Done c 3 2 ∗ rows c A6 (sh c 1) ∗ rows c A6 (sh c 2) ∗ rows c A6 (sh c 3) ∗ (∃ X, P8 c 3 X) ∗ (∃ X, P8 c 2 X)) -∗ WP c (k ⟨⟩) Q)
        -∗ WP c (k0_part33 a0 h0 a1 h1 a2 h2 A3 h3 A4 h4 a5 h5 A6 h6 A7 h7 A8 h8 A9 h9 A10 h10 A11 h11 A12 h12 cc0_scratch7 cc0_scratch8 cc0_scratch9 cc0_scratch10 cc0_scratch11 c (k0_pay54 (out2 I c)) (k0_pay55 (wd c) (I.kc c)) >>= k) Q) := by
  rw [k0_part33_eq_skeleton]; unfold k0_part33_skel
  simp only [semSignalWord, semWaitWord, Prog.lift, Prog.bind_op, Prog.bind_ret, Prog.pure_eq_ret, Prog.bind_assoc, wp_deviceId]
  iintro ⟨#HC, HO, H5, H9, X1, X2, X3, P3, P2⟩ Hk
  iapply (load_rows c (sh c 3) (off1 c 2)) $$ [H9]
  · iexact H9
  iintro H9
  iapply (store_all c) $$ [H5]
  · iexists _; iexact H5
  iintro H5
  rw [show k0_pay56 (k0_pay54 (out2 I c)) (k0_pay55 (wd c) (I.kc c)) (ret I (sh c 3) c) = out3 I c from rfl]
  iapply (wait_rows I K c 0 1 (duty1 c 1 (by decide)) (sem1 1 rfl) (above_zero _)) $$ [HO X1]
  · isplitr; · iexact HC
    isplitl [HO]; · iexact HO
    iexact X1
  iintro ⟨HO, X1, H61⟩
  ihave H61 := (Entails.of_eq (pay1 I c 1)) $$ H61
  iapply (wait_rows I K c 0 2 (duty1 c 2 (by decide)) (sem1 2 rfl) (above_zero _)) $$ [HO X2]
  · isplitr; · iexact HC
    isplitl [HO]; · iexact HO
    iexact X2
  iintro ⟨HO, X2, H62⟩
  ihave H62 := (Entails.of_eq (pay1 I c 2)) $$ H62
  iapply (wait_rows I K c 0 3 (duty1 c 3 (by decide)) (sem1 3 rfl) (above_zero _)) $$ [HO X3]
  · isplitr; · iexact HC
    isplitl [HO]; · iexact HO
    iexact X3
  iintro ⟨HO, X3, H63⟩
  ihave H63 := (Entails.of_eq (pay1 I c 3)) $$ H63
  iapply (wait_p8 I K c 2 3 (duty3 c 3 (by decide)) (sem3 3 rfl) (above_zero _)) $$ [HO P3]
  · isplitr; · iexact HC
    isplitl [HO]; · iexact HO
    iexact P3
  iintro ⟨HO, P3, H83⟩
  ihave H83 := (Entails.of_eq (pay3 I c 3)) $$ H83
  iapply (wait_p8 I K c 2 2 (duty3 c 2 (by decide)) (sem3 2 rfl) (above_zero _)) $$ [HO P2]
  · isplitr; · iexact HC
    isplitl [HO]; · iexact HO
    iexact P2
  iintro ⟨HO, P2, H82⟩
  ihave H82 := (Entails.of_eq (pay3 I c 2)) $$ H82
  iapply Hk
  isplitl [HO]; · iexact HO
  isplitl [H5]; · iexact H5
  isplitl [H9]; · iexact H9
  isplitl [X1]; · iexact X1
  isplitl [X2]; · iexact X2
  isplitl [X3]; · iexact X3
  isplitl [P3]; · iexact P3
  isplitl [P2]; · iexact P2
  isplitl [H61]; · iexact H61
  isplitl [H62]; · iexact H62
  isplitl [H63]; · iexact H63
  isplitl [H83]; · iexact H83
  iexact H82

end

end Cert.KernelIdeal.Run

end
-- ==== Proof.Body4.lean ====
module

public import proofs.«01_k».proof.Proof.Body3

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)
variable {α : Type} {Q : α → sProp (MT nD τ sig Unit (Elt F) ℕ UU ℕ)}

/-- What device `c` holds at the start for its exchange with the device `i` places on. -/
abbrev Peer (c : Dev nD) (i : Fin 4) : sProp (MT nD τ sig Unit (Elt F) ℕ UU ℕ) :=
  iprop(Sig c i ∗ XTok c i ∗ PTok c i ∗ Tick c 2 (sh c i) ∗ Tick c 4 (sh c i) ∗ atPos ER (dCell c 1 i) 0 ∅ 0 ∗ atPos ER (dCell c 3 i) 0 ∅ 0
    ∗ rows c A6 (sh c i) ∗ (∃ X, P8 c i X))

/-- What it holds of it at the end. -/
abbrev Past (c : Dev nD) (i : Fin 4) : sProp (MT nD τ sig Unit (Elt F) ℕ UU ℕ) :=
  iprop(Done c 1 i ∗ Done c 2 (sh c i) ∗ Done c 3 i ∗ Done c 4 (sh c i) ∗ rows c A6 (sh c i) ∗ rows c A7 (sh c i) ∗ rows c A9 (sh c i) ∗ (∃ X, P8 c i X))

section
variable (a0 : Memref sig .tc .vmem S1024x1024 .bf16) (h0 : a0.IsWhole) (a1 : Memref sig .tc .vmem S1x1024 .i32) (h1 : a1.IsWhole)
  (a2 : Memref sig .tc .vmem S1024x1 .i32) (h2 : a2.IsWhole) (a5 : Memref sig .tc .vmem S1024x1024 .f32) (h5 : a5.IsWhole)
  (h3 : A3.IsWhole) (h4 : A4.IsWhole) (h6 : A6.IsWhole) (h7 : A7.IsWhole) (h8 : A8.IsWhole) (h9 : A9.IsWhole) (h10 : A10.IsWhole) (h11 : A11.IsWhole) (h12 : A12.IsWhole)

set_option maxHeartbeats 4000000 in
/-- The whole body on device `c`. -/
theorem whole {Q : PUnit → sProp (MT nD τ sig Unit (Elt F) ℕ UU ℕ)} :
    iprop(Ctx I K ∗ Idle I c 0 ∗ Idle I c 1 ∗ Idle I c 2 ∗ Idle I c 3 ∗ Owes c (O₀ c) ∗ Peer c 1 ∗ Peer c 2 ∗ Peer c 3 ∗ cred (tallyAt (barCell c) () 3) ∗ atPos ER (barCell c) 0 ∅ 0 ∗ owns (c : Thread nD τ) a0 fullShare (I.x c) ∗ owns (c : Thread nD τ) a1 fullShare (I.kr c) ∗ owns (c : Thread nD τ) a2 fullShare (I.kc c) ∗ (∃ X, owns (c : Thread nD τ) a5 fullShare X) ∗ rows c A7 c ∗ rows c A9 c ∗ WB1 I c 0 ∗ WB2 I c 0)
      ⊢ iprop(((Idle I c 0 ∗ Idle I c 1 ∗ Idle I c 2 ∗ Idle I c 3 ∗ Owes c 0 ∗ Past c 1 ∗ Past c 2 ∗ Past c 3 ∗ atPos ER (barCell c) (0 + 1) ∅ 0 ∗ owns (c : Thread nD τ) a0 fullShare (I.x c) ∗ owns (c : Thread nD τ) a1 fullShare (I.kr c) ∗ owns (c : Thread nD τ) a2 fullShare (I.kc c) ∗ owns (c : Thread nD τ) a5 fullShare (out3 I c) ∗ rows c A7 c ∗ rows c A9 c ∗ WB1 I c 8 ∗ WB2 I c 16) -∗ Q ⟨⟩)
        -∗ WP c (cc0_body a0 h0 a1 h1 a2 h2 A3 h3 A4 h4 a5 h5 A6 h6 A7 h7 A8 h8 A9 h9 A10 h10 A11 h11 A12 h12 cc0_scratch7 cc0_scratch8 cc0_scratch9 cc0_scratch10 cc0_scratch11) Q) := by
  rw [cc0_body_eq_skeleton]; unfold cc0_body_skel
  iintro ⟨#HC, R1, R2, R3, R7, R8, ⟨R9, R26, R161, R153, R167, R185, R203, R25, R160⟩, ⟨R10, R33, R152, R140, R173, R186, R189, R32, R147⟩, ⟨R13, R39, R139, R127, R179, R187, R188, R38, R134⟩, R14, R15, R17, R16, R120, R126, R40, R83, R47, R62⟩ Hk
  iapply (part1 I c a0 h0 a1 h1 a2 h2 a5 h5 h3 h4 h6 h7 h8 h9 h10 h11 h12) $$ [R1 R2 R3]
  · isplitl [R1]; · iexact R1
    isplitl [R2]; · iexact R2
    iexact R3
  iintro ⟨R4, R5, R6⟩
  try dsimp only
  iapply (part2 I K c a0 h0 a1 h1 a2 h2 a5 h5 h3 h4 h6 h7 h8 h9 h10 h11 h12) $$ [R7 R8 R9 R10]
  · isplitr; · iexact HC
    isplitl [R7]; · iexact R7
    isplitl [R8]; · iexact R8
    isplitl [R9]; · iexact R9
    iexact R10
  iintro %_ %_ %_ ⟨R11, R12⟩
  try dsimp only
  iapply (part3 I K c a0 h0 a1 h1 a2 h2 a5 h5 h3 h4 h6 h7 h8 h9 h10 h11 h12) $$ [R12 R13 R14 R15 R16 R17]
  · isplitr; · iexact HC
    isplitl [R12]; · iexact R12
    isplitl [R13]; · iexact R13
    isplitl [R14]; · iexact R14
    isplitl [R15]; · iexact R15
    isplitl [R16]; · iexact R16
    iexact R17
  iintro %_ ⟨R18, R19, R20, R21, R22, R23, R24⟩
  try dsimp only
  iapply (part4 I K c a0 h0 a1 h1 a2 h2 a5 h5 h3 h4 h6 h7 h8 h9 h10 h11 h12) $$ [R25 R20 R18 R26 R23 R24]
  · isplitr; · iexact HC
    isplitl [R25]; · iexact R25
    isplitl [R20]; · iexact R20
    isplitl [R18]; · iexact R18
    isplitl [R26]; · iexact R26
    isplitl [R23]; · iexact R23
    iexact R24
  iintro %_ ⟨R27, R28, R29, R30, R31⟩
  try dsimp only
  iapply (part5 I K c a0 h0 a1 h1 a2 h2 a5 h5 h3 h4 h6 h7 h8 h9 h10 h11 h12) $$ [R32 R21 R27 R33 R30]
  · isplitr; · iexact HC
    isplitl [R32]; · iexact R32
    isplitl [R21]; · iexact R21
    isplitl [R27]; · iexact R27
    isplitl [R33]; · iexact R33
    iexact R30
  iintro %_ ⟨R34, R35, R36, R37⟩
  try dsimp only
  iapply (part6 I K c a0 h0 a1 h1 a2 h2 a5 h5 h3 h4 h6 h7 h8 h9 h10 h11 h12) $$ [R38 R22 R34 R39 R37 R31 R40]
  · isplitr; · iexact HC
    isplitl [R38]; · iexact R38
    isplitl [R22]; · iexact R22
    isplitl [R34]; · iexact R34
    isplitl [R39]; · iexact R39
    isplitl [R37]; · iexact R37
    isplitl [R31]; · iexact R31
    iexact R40
  iintro ⟨R41, R42, R43, R44, R45, R46⟩
  try dsimp only
  iapply (part7 I K c a0 h0 a1 h1 a2 h2 a5 h5 h3 h4 h6 h7 h8 h9 h10 h11 h12) $$ [R4 R5 R41 R47 R46]
  · isplitr; · iexact HC
    isplitl [R4]; · iexact R4
    isplitl [R5]; · iexact R5
    isplitl [R41]; · iexact R41
    isplitl [R47]; · iexact R47
    iexact R46
  iintro ⟨R48, R49, R50, R51, R52⟩
  try dsimp only
  iapply (part8 I K c a0 h0 a1 h1 a2 h2 a5 h5 h3 h4 h6 h7 h8 h9 h10 h11 h12) $$ [R49 R6 R50 R51]
  · isplitr; · iexact HC
    isplitl [R49]; · iexact R49
    isplitl [R6]; · iexact R6
    isplitl [R50]; · iexact R50
    iexact R51
  iintro ⟨R53, R54, R55, R56⟩
  try dsimp only
  iapply (part9 I K c a0 h0 a1 h1 a2 h2 a5 h5 h3 h4 h6 h7 h8 h9 h10 h11 h12) $$ [R48 R54 R11 R55 R56]
  · isplitr; · iexact HC
    isplitl [R48]; · iexact R48
    isplitl [R54]; · iexact R54
    isplitl [R11]; · iexact R11
    isplitl [R55]; · iexact R55
    iexact R56
  iintro ⟨R57, R58, R59, R60, R61⟩
  try dsimp only
  iapply (part10 I K c a0 h0 a1 h1 a2 h2 a5 h5 h3 h4 h6 h7 h8 h9 h10 h11 h12) $$ [R57 R53 R60 R62]
  · isplitr; · iexact HC
    isplitl [R57]; · iexact R57
    isplitl [R53]; · iexact R53
    isplitl [R60]; · iexact R60
    iexact R62
  iintro ⟨R63, R64, R65, R66⟩
  try dsimp only
  iapply (part11 I K c a0 h0 a1 h1 a2 h2 a5 h5 h3 h4 h6 h7 h8 h9 h10 h11 h12) $$ [R64 R58 R65 R66]
  · isplitr; · iexact HC
    isplitl [R64]; · iexact R64
    isplitl [R58]; · iexact R58
    isplitl [R65]; · iexact R65
    iexact R66
  iintro ⟨R67, R68, R69, R70⟩
  try dsimp only
  iapply (part12 I K c a0 h0 a1 h1 a2 h2 a5 h5 h3 h4 h6 h7 h8 h9 h10 h11 h12) $$ [R63 R59 R69 R70]
  · isplitr; · iexact HC
    isplitl [R63]; · iexact R63
    isplitl [R59]; · iexact R59
    isplitl [R69]; · iexact R69
    iexact R70
  iintro ⟨R71, R72, R73, R74⟩
  try dsimp only
  iapply (part13 I K c a0 h0 a1 h1 a2 h2 a5 h5 h3 h4 h6 h7 h8 h9 h10 h11 h12) $$ [R71 R67 R73 R74]
  · isplitr; · iexact HC
    isplitl [R71]; · iexact R71
    isplitl [R67]; · iexact R67
    isplitl [R73]; · iexact R73
    iexact R74
  iintro ⟨R75, R76, R77, R78⟩
  try dsimp only
  iapply (part14 I K c a0 h0 a1 h1 a2 h2 a5 h5 h3 h4 h6 h7 h8 h9 h10 h11 h12) $$ [R68 R72 R77 R78]
  · isplitr; · iexact HC
    isplitl [R68]; · iexact R68
    isplitl [R72]; · iexact R72
    isplitl [R77]; · iexact R77
    iexact R78
  iintro ⟨R79, R80, R81, R82⟩
  try dsimp only
  iapply (part15 I c a0 h0 a1 h1 a2 h2 a5 h5 h3 h4 h6 h7 h8 h9 h10 h11 h12) $$ [R80 R61 R82 R52 R83]
  · isplitl [R80]; · iexact R80
    isplitl [R61]; · iexact R61
    isplitl [R82]; · iexact R82
    isplitl [R52]; · iexact R52
    iexact R83
  iintro ⟨R84, R85, R86, R87, R88⟩
  try dsimp only
  iapply (part16 I K c a0 h0 a1 h1 a2 h2 a5 h5 h3 h4 h6 h7 h8 h9 h10 h11 h12) $$ [R75 R76 R81 R85]
  · isplitr; · iexact HC
    isplitl [R75]; · iexact R75
    isplitl [R76]; · iexact R76
    isplitl [R81]; · iexact R81
    iexact R85
  iintro ⟨R89, R90, R91, R92⟩
  try dsimp only
  iapply (part17 I K c a0 h0 a1 h1 a2 h2 a5 h5 h3 h4 h6 h7 h8 h9 h10 h11 h12) $$ [R90 R79 R91 R92]
  · isplitr; · iexact HC
    isplitl [R90]; · iexact R90
    isplitl [R79]; · iexact R79
    isplitl [R91]; · iexact R91
    iexact R92
  iintro ⟨R93, R94, R95, R96⟩
  try dsimp only
  iapply (part18 I K c a0 h0 a1 h1 a2 h2 a5 h5 h3 h4 h6 h7 h8 h9 h10 h11 h12) $$ [R89 R84 R95 R96 R86]
  · isplitr; · iexact HC
    isplitl [R89]; · iexact R89
    isplitl [R84]; · iexact R84
    isplitl [R95]; · iexact R95
    isplitl [R96]; · iexact R96
    iexact R86
  iintro ⟨R97, R98, R99, R100, R101⟩
  try dsimp only
  iapply (part19 I K c a0 h0 a1 h1 a2 h2 a5 h5 h3 h4 h6 h7 h8 h9 h10 h11 h12) $$ [R97 R93 R99 R101]
  · isplitr; · iexact HC
    isplitl [R97]; · iexact R97
    isplitl [R93]; · iexact R93
    isplitl [R99]; · iexact R99
    iexact R101
  iintro ⟨R102, R103, R104, R105⟩
  try dsimp only
  iapply (part20 I K c a0 h0 a1 h1 a2 h2 a5 h5 h3 h4 h6 h7 h8 h9 h10 h11 h12) $$ [R94 R98 R104 R105]
  · isplitr; · iexact HC
    isplitl [R94]; · iexact R94
    isplitl [R98]; · iexact R98
    isplitl [R104]; · iexact R104
    iexact R105
  iintro ⟨R106, R107, R108, R109⟩
  try dsimp only
  iapply (part21 I K c a0 h0 a1 h1 a2 h2 a5 h5 h3 h4 h6 h7 h8 h9 h10 h11 h12) $$ [R102 R103 R107 R108 R109]
  · isplitr; · iexact HC
    isplitl [R102]; · iexact R102
    isplitl [R103]; · iexact R103
    isplitl [R107]; · iexact R107
    isplitl [R108]; · iexact R108
    iexact R109
  iintro ⟨R110, R111, R112, R113, R114⟩
  try dsimp only
  iapply (part22 I K c a0 h0 a1 h1 a2 h2 a5 h5 h3 h4 h6 h7 h8 h9 h10 h11 h12) $$ [R111 R106 R112 R113 R114]
  · isplitr; · iexact HC
    isplitl [R111]; · iexact R111
    isplitl [R106]; · iexact R106
    isplitl [R112]; · iexact R112
    isplitl [R113]; · iexact R113
    iexact R114
  iintro ⟨R115, R116, R117, R118, R119⟩
  try dsimp only
  iapply (part23 I c a0 h0 a1 h1 a2 h2 a5 h5 h3 h4 h6 h7 h8 h9 h10 h11 h12) $$ [R100 R119 R87 R88 R120]
  · isplitl [R100]; · iexact R100
    isplitl [R119]; · iexact R119
    isplitl [R87]; · iexact R87
    isplitl [R88]; · iexact R88
    iexact R120
  iintro ⟨R121, R122, R123, R124, R125⟩
  try dsimp only
  iapply (part24 I K c a0 h0 a1 h1 a2 h2 a5 h5 h3 h4 h6 h7 h8 h9 h10 h11 h12) $$ [R118 R126 R127 R121 R122]
  · isplitr; · iexact HC
    isplitl [R118]; · iexact R118
    isplitl [R126]; · iexact R126
    isplitl [R127]; · iexact R127
    isplitl [R121]; · iexact R121
    iexact R122
  iintro %_ ⟨R128, R129, R130, R131, R132, R133⟩
  try dsimp only
  iapply (part25 I c a0 h0 a1 h1 a2 h2 a5 h5 h3 h4 h6 h7 h8 h9 h10 h11 h12) $$ [R134 R131 R132 R133]
  · isplitl [R134]; · iexact R134
    isplitl [R131]; · iexact R131
    isplitl [R132]; · iexact R132
    iexact R133
  iintro ⟨R135, R136, R137, R138⟩
  try dsimp only
  iapply (part26 I K c a0 h0 a1 h1 a2 h2 a5 h5 h3 h4 h6 h7 h8 h9 h10 h11 h12) $$ [R135 R43 R128 R139 R140 R137 R138]
  · isplitr; · iexact HC
    isplitl [R135]; · iexact R135
    isplitl [R43]; · iexact R43
    isplitl [R128]; · iexact R128
    isplitl [R139]; · iexact R139
    isplitl [R140]; · iexact R140
    isplitl [R137]; · iexact R137
    iexact R138
  iintro %_ ⟨R141, R142, R143, R144, R145, R146⟩
  try dsimp only
  iapply (part27 I c a0 h0 a1 h1 a2 h2 a5 h5 h3 h4 h6 h7 h8 h9 h10 h11 h12) $$ [R147 R144 R145 R146]
  · isplitl [R147]; · iexact R147
    isplitl [R144]; · iexact R144
    isplitl [R145]; · iexact R145
    iexact R146
  iintro ⟨R148, R149, R150, R151⟩
  try dsimp only
  iapply (part28 I K c a0 h0 a1 h1 a2 h2 a5 h5 h3 h4 h6 h7 h8 h9 h10 h11 h12) $$ [R148 R36 R141 R152 R153 R150 R151]
  · isplitr; · iexact HC
    isplitl [R148]; · iexact R148
    isplitl [R36]; · iexact R36
    isplitl [R141]; · iexact R141
    isplitl [R152]; · iexact R152
    isplitl [R153]; · iexact R153
    isplitl [R150]; · iexact R150
    iexact R151
  iintro %_ ⟨R154, R155, R156, R157, R158, R159⟩
  try dsimp only
  iapply (part29 I K c a0 h0 a1 h1 a2 h2 a5 h5 h3 h4 h6 h7 h8 h9 h10 h11 h12) $$ [R160 R157 R158 R159 R29 R154 R161]
  · isplitr; · iexact HC
    isplitl [R160]; · iexact R160
    isplitl [R157]; · iexact R157
    isplitl [R158]; · iexact R158
    isplitl [R159]; · iexact R159
    isplitl [R29]; · iexact R29
    isplitl [R154]; · iexact R154
    iexact R161
  iintro ⟨R162, R163, R164, R165, R166⟩
  try dsimp only
  iapply (part30 I K c a0 h0 a1 h1 a2 h2 a5 h5 h3 h4 h6 h7 h8 h9 h10 h11 h12) $$ [R162 R167 R129 R125]
  · isplitr; · iexact HC
    isplitl [R162]; · iexact R162
    isplitl [R167]; · iexact R167
    isplitl [R129]; · iexact R129
    iexact R125
  iintro ⟨R168, R169, R170, R171, R172⟩
  try dsimp only
  iapply (part31 I K c a0 h0 a1 h1 a2 h2 a5 h5 h3 h4 h6 h7 h8 h9 h10 h11 h12) $$ [R168 R173 R170 R171]
  · isplitr; · iexact HC
    isplitl [R168]; · iexact R168
    isplitl [R173]; · iexact R173
    isplitl [R170]; · iexact R170
    iexact R171
  iintro ⟨R174, R175, R176, R177, R178⟩
  try dsimp only
  iapply (part32 I K c a0 h0 a1 h1 a2 h2 a5 h5 h3 h4 h6 h7 h8 h9 h10 h11 h12) $$ [R174 R179 R176 R177]
  · isplitr; · iexact HC
    isplitl [R174]; · iexact R174
    isplitl [R179]; · iexact R179
    isplitl [R176]; · iexact R176
    iexact R177
  iintro ⟨R180, R181, R182, R183, R184⟩
  try dsimp only
  iapply (part33 I K c a0 h0 a1 h1 a2 h2 a5 h5 h3 h4 h6 h7 h8 h9 h10 h11 h12) $$ [R180 R182 R184 R28 R185 R35 R186 R42 R187 R142 R188 R155 R189]
  · isplitr; · iexact HC
    isplitl [R180]; · iexact R180
    isplitl [R182]; · iexact R182
    isplitl [R184]; · iexact R184
    isplitl [R28 R185]
    · isplitl [R28]; · iexact R28
      iexact R185
    isplitl [R35 R186]
    · isplitl [R35]; · iexact R35
      iexact R186
    isplitl [R42 R187]
    · isplitl [R42]; · iexact R42
      iexact R187
    isplitl [R142 R188]
    · isplitl [R142]; · iexact R142
      iexact R188
    isplitl [R155]; · iexact R155
    iexact R189
  iintro ⟨R190, R191, R192, R193, R194, R195, R196, R197, R198, R199, R200, R201, R202⟩
  try dsimp only
  simp only [Prog.lift, Prog.bind_op, Prog.bind_ret, Prog.pure_eq_ret, Prog.bind_assoc]
  iapply (wait_p8 I K c 2 1 (duty3 c 1 (by decide)) (sem3 1 rfl) (above_zero _)) $$ [R190 R163 R203]
  · isplitr; · iexact HC
    isplitl [R190]; · iexact R190
    isplitl [R163]; · iexact R163
    iexact R203
  iintro ⟨R190, D31, H81⟩
  ihave H81 := (Entails.of_eq (pay3 I c 1)) $$ H81
  unfold WP; rw [wp_ret]; imodintro
  iapply Hk
  isplitl [R110]; · iapply (idle_of_has2 I c 0 1 4); iexact R110
  isplitl [R115]; · iapply (idle_of_has2 I c 1 1 5); iexact R115
  isplitl [R116]; · iapply (idle_of_has2 I c 2 1 6); iexact R116
  isplitl [R117]; · iapply (idle_of_has2 I c 3 1 7); iexact R117
  isplitl [R190]; · iexact R190
  isplitl [R193 R156 D31 R169 R198 R164 R172 H81]
  · isplitl [R193]; · iexact R193
    isplitl [R156]; · iexact R156
    isplitl [D31]; · iexact D31
    isplitl [R169]; · iexact R169
    isplitl [R198]; · iexact R198
    isplitl [R164]; · iexists _; iexact R164
    isplitl [R172]; · iexists _; iexact R172
    iexact H81
  isplitl [R194 R143 R197 R175 R199 R149 R178 R202]
  · isplitl [R194]; · iexact R194
    isplitl [R143]; · iexact R143
    isplitl [R197]; · iexact R197
    isplitl [R175]; · iexact R175
    isplitl [R199]; · iexact R199
    isplitl [R149]; · iexists _; iexact R149
    isplitl [R178]; · iexists _; iexact R178
    iexact R202
  isplitl [R195 R130 R196 R181 R200 R136 R192 R201]
  · isplitl [R195]; · iexact R195
    isplitl [R130]; · iexact R130
    isplitl [R196]; · iexact R196
    isplitl [R181]; · iexact R181
    isplitl [R200]; · iexact R200
    isplitl [R136]; · iexists _; iexact R136
    isplitl [R192]; · iexists _; iexact R192
    iexact R201
  isplitl [R19]; · iexact R19
  isplitl [R45]; · iexact R45
  isplitl [R44]; · iexact R44
  isplitl [R183]; · iexact R183
  isplitl [R191]; · iexact R191
  isplitl [R123]; · iexists _; iexact R123
  isplitl [R124]; · iexists _; iexact R124
  isplitl [R165]; · iexact R165
  iexact R166

end

end Cert.KernelIdeal.Run

end
-- ==== Proof.Pieces.lean ====
module

public import proofs.«01_k».proof.Proof.Body4
public import Idealize.ShloMosaic.Lib.MemrefSat
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-! # The scratch buffers cut into the parts the devices hand around, and put together again -/

/-- A product over the devices, or over the four numbers of a family: the device itself and its three peers. -/
theorem around {M : Type} [URA M] (c : Dev nD) (Φ : Dev nD → sProp M) :
    bigSep Finset.univ Φ = iprop(Φ c ∗ Φ (sh c 1) ∗ Φ (sh c 2) ∗ Φ (sh c 3)) :=
  bigSep_univ_eq_bigSepL [c, sh c 1, sh c 2, sh c 3] (by revert c; decide +kernel) (by revert c; decide +kernel) Φ

/-- A product over four, written out. -/
theorem four {M : Type} [URA M] (Φ : Fin 4 → sProp M) :
    bigSep Finset.univ Φ = iprop(Φ 0 ∗ Φ 1 ∗ Φ 2 ∗ Φ 3) :=
  bigSep_univ_eq_bigSepL [0, 1, 2, 3] (by decide) (by decide) Φ

/-- A product over three, written out. -/
theorem three {M : Type} [URA M] (Φ : Fin 3 → sProp M) :
    bigSep Finset.univ Φ = iprop(Φ 0 ∗ Φ 1 ∗ Φ 2) :=
  bigSep_univ_eq_bigSepL [0, 1, 2] (by decide) (by decide) Φ

/-- The elements of a buffer, whole: its elements at some contents, or the buffer owned at some contents. -/
theorem some_whole (b : Ref sig .tc) :
    (iprop(∃ f, ((c : Thread nD τ).loc b) ↦{fullShare} f) : sProp 𝕄)
      = iprop(∃ X, owns (c : Thread nD τ) (Memref.whole b) fullShare X) := by
  congr 1; funext f; rw [owns_whole]

/-- A buffer at some contents is a covering family of disjoint parts, each at some contents, and conversely. -/
theorem cut {T : Type} [Fintype T] [DecidableEq T] {sp : Space} {s : Shape} {e : EltTy} (m : Memref sig .tc sp s e)
    (r : T → Rect s) (hr : ∀ t a, (r t).stride a = 1) (hd : ∀ t t', t ≠ t' → Disjoint (r t).set (r t').set)
    (hcov : (Finset.univ : Finset T).biUnion (fun t => (r t).set) = Finset.univ) :
    (iprop(∃ X, owns (c : Thread nD τ) m fullShare X) : sProp 𝕄)
      ⊣⊢ bigSep Finset.univ fun t => iprop(∃ X, owns (c : Thread nD τ) (m.slice (r t) (hr t)) fullShare X) := by
  constructor
  · refine (ownsSat_true (c : Thread nD τ) m fullShare).2.trans ?_
    refine (ownsSat_mono (c : Thread nD τ) m fullShare fun X _ t => trivial).trans
      ((ownsSat_rects (c : Thread nD τ) m fullShare r hr hd hcov (fun _ _ => True)).trans ?_)
    exact bigSep_mono fun t _ => (ownsSat_true (c : Thread nD τ) (m.slice (r t) (hr t)) fullShare).1
  · refine (bigSep_mono fun t _ => (ownsSat_true (c : Thread nD τ) (m.slice (r t) (hr t)) fullShare).2).trans ?_
    exact (ownsSat_of_rects (c : Thread nD τ) m fullShare r hr hd hcov (fun _ _ => True)).trans
      (ownsSat_any (c : Thread nD τ) m fullShare)

/-- Parts of a buffer in which the coordinate of one axis runs through equal, adjoining ranges are disjoint and cover
    the buffer. -/
theorem bands {s : Shape} {n : ℕ} (r : Fin n → Rect s) (a₀ : Fin s.rank) (k : ℕ) (hk : 0 < k)
    (h : ∀ t i, i ∈ (r t).set ↔ k * t.val ≤ (i a₀ : ℕ) ∧ (i a₀ : ℕ) < k * t.val + k) (hn : s.size a₀ = k * n) :
    (∀ t t', t ≠ t' → Disjoint (r t).set (r t').set)
      ∧ (Finset.univ : Finset (Fin n)).biUnion (fun t => (r t).set) = Finset.univ := by
  have hq (t : Fin n) (i : s.Idx) : i ∈ (r t).set ↔ (i a₀ : ℕ) / k = t.val := by
    rw [h, Nat.div_eq_iff hk, Nat.mul_comm k]; omega
  refine ⟨fun t t' hne => Finset.disjoint_left.mpr fun i hi hi' => hne (Fin.ext ?_), ?_⟩
  · rw [← (hq t i).mp hi, (hq t' i).mp hi']
  · ext i
    simp only [Finset.mem_biUnion, Finset.mem_univ, true_and, iff_true]
    have hb : (i a₀ : ℕ) / k < n := Nat.div_lt_of_lt_mul (by have := (i a₀).isLt; omega)
    exact ⟨⟨_, hb⟩, (hq _ i).mpr rfl⟩

theorem row_bands : (∀ t t', t ≠ t' → Disjoint (rowR t).set (rowR t').set)
    ∧ (Finset.univ : Finset (Fin 4)).biUnion (fun t => (rowR t).set) = Finset.univ :=
  bands (n := 4) (fun t => rowR t) (0 : Fin 2) 320 (by decide) (fun t i => by
    rw [Rect.mem_set_unit]
    refine ⟨fun h => h 0, fun h a => ?_⟩
    match a with
    | ⟨0, _⟩ => exact h
    | ⟨1, _⟩ => exact ⟨Nat.zero_le _, by have := (i 1).isLt; show (i 1 : ℕ) < 0 + 1024; simpa using this⟩) rfl

theorem part_bands : (∀ t t' : Fin 3, t ≠ t' → Disjoint (pR t.succ).set (pR t'.succ).set)
    ∧ (Finset.univ : Finset (Fin 3)).biUnion (fun t => (pR t.succ).set) = Finset.univ :=
  bands (n := 3) (fun t => pR t.succ) (0 : Fin 3) 1 (by decide) (fun t i => by
    rw [Rect.mem_set_unit, Nat.one_mul]
    refine ⟨fun h => h 0, fun h a => ?_⟩
    match a with
    | ⟨0, _⟩ => exact h
    | ⟨1, _⟩ => exact ⟨Nat.zero_le _, by have := (i 1).isLt; show (i 1 : ℕ) < 0 + 320; simpa using this⟩
    | ⟨2, _⟩ => exact ⟨Nat.zero_le _, by have := (i 2).isLt; show (i 2 : ℕ) < 0 + 1024; simpa using this⟩) rfl

theorem slot_bands : (∀ t t' : Fin 4, t ≠ t' → Disjoint (slotR t).set (slotR t').set)
    ∧ (Finset.univ : Finset (Fin 4)).biUnion (fun t => (slotR t).set) = Finset.univ :=
  bands (n := 4) (fun t => slotR t) (0 : Fin 3) 1 (by decide) (fun t i => by
    rw [Rect.mem_set_unit, Nat.one_mul]
    refine ⟨fun h => h 0, fun h a => ?_⟩
    match a with
    | ⟨0, _⟩ => exact h
    | ⟨1, _⟩ => exact ⟨Nat.zero_le _, by have := (i 1).isLt; show (i 1 : ℕ) < 0 + 256; simpa using this⟩
    | ⟨2, _⟩ => exact ⟨Nat.zero_le _, by have := (i 2).isLt; show (i 2 : ℕ) < 0 + 2048; simpa using this⟩) rfl

/-- A bucket buffer: the rows of the device itself and of its three peers. -/
theorem cut_rows (m : Memref sig .tc .vmem S1280x1024 .bf16) :
    (iprop(∃ X, owns (c : Thread nD τ) m fullShare X) : sProp 𝕄)
      ⊣⊢ iprop(rows c m c ∗ rows c m (sh c 1) ∗ rows c m (sh c 2) ∗ rows c m (sh c 3)) := by
  have h := cut (F := F) c m (fun t : Dev nD => rowR t) (fun _ _ => rfl) row_bands.1 row_bands.2
  rw [around c] at h
  exact h

/-- The buffer the results are sent from: its three parts. -/
theorem cut_parts : (iprop(∃ X, owns (c : Thread nD τ) A8 fullShare X) : sProp 𝕄)
      ⊣⊢ iprop((∃ X, P8 c 1 X) ∗ (∃ X, P8 c 2 X) ∗ (∃ X, P8 c 3 X)) := by
  have h := cut (F := F) c A8 (fun t : Fin 3 => pR t.succ) (fun _ _ => rfl) part_bands.1 part_bands.2
  rw [three] at h
  exact h

/-- One staging slot at some contents, as owned elements and as a buffer's part. -/
theorem slot_some (k : Fin 4) :
    (iprop(∃ X, owns (c : Thread nD τ) (A12.slice (slotR k) (fun _ => rfl)) fullShare X) : sProp 𝕄)
      ⊣⊢ iprop(∃ f, A12.view.loc (c : Thread nD τ) ↦[Slot c k]{fullShare} f) := by
  constructor
  · unfold owns; iintro ⟨%X, %f, -, H⟩; iexists f; iexact H
  · iintro ⟨%f, H⟩
    iexists ((A12.slice (slotR k) (fun _ => rfl)).view.read (Elt F) f)
    iapply (owns_intro (c : Thread nD τ) (A12.slice (slotR k) (fun _ => rfl)) fullShare f)
    iexact H

/-- The staging buffer: its four slots. -/
theorem cut_slots : (iprop(∃ X, owns (c : Thread nD τ) A12 fullShare X) : sProp 𝕄)
      ⊣⊢ iprop((∃ f, A12.view.loc (c : Thread nD τ) ↦[Slot c 0]{fullShare} f) ∗ (∃ f, A12.view.loc (c : Thread nD τ) ↦[Slot c 1]{fullShare} f)
        ∗ (∃ f, A12.view.loc (c : Thread nD τ) ↦[Slot c 2]{fullShare} f) ∗ (∃ f, A12.view.loc (c : Thread nD τ) ↦[Slot c 3]{fullShare} f)) := by
  have h := cut (F := F) c A12 (fun t : Fin 4 => slotR t) (fun _ _ => rfl) slot_bands.1 slot_bands.2
  rw [four] at h
  refine ⟨h.1.trans ?_, .trans ?_ h.2⟩
  · exact BIClass.sep_mono (slot_some c 0).1 (BIClass.sep_mono (slot_some c 1).1 (BIClass.sep_mono (slot_some c 2).1 (slot_some c 3).1))
  · exact BIClass.sep_mono (slot_some c 0).2 (BIClass.sep_mono (slot_some c 1).2 (BIClass.sep_mono (slot_some c 2).2 (slot_some c 3).2))

/-- A weight array: a quarter share of it for each staging slot. -/
theorem quarters {s : Shape} {e : EltTy} (m : Memref sig .tc .hbm s e) (X : Vec F s e) :
    (owns (c : Thread nD τ) m fullShare X : sProp 𝕄)
      ⊣⊢ iprop(owns (c : Thread nD τ) m (qs 0) X ∗ owns (c : Thread nD τ) m (qs 1) X ∗ owns (c : Thread nD τ) m (qs 2) X ∗ owns (c : Thread nD τ) m (qs 3) X) := by
  have h : (owns (c : Thread nD τ) m fullShare X : sProp 𝕄) ⊣⊢ _ := owns_halves (c : Thread nD τ) m fullShare X
  have hl : (owns (c : Thread nD τ) m fullShare.left X : sProp 𝕄) ⊣⊢ _ := owns_halves (c : Thread nD τ) m fullShare.left X
  have hr : (owns (c : Thread nD τ) m fullShare.right X : sProp 𝕄) ⊣⊢ _ := owns_halves (c : Thread nD τ) m fullShare.right X
  constructor
  · refine h.1.trans ?_
    refine (BIClass.sep_mono hl.1 hr.1).trans ?_
    show _ ⊢ iprop(owns (c : Thread nD τ) m fullShare.left.left X ∗ owns (c : Thread nD τ) m fullShare.left.right X ∗ owns (c : Thread nD τ) m fullShare.right.left X ∗ owns (c : Thread nD τ) m fullShare.right.right X)
    iintro ⟨⟨H1, H2⟩, H3, H4⟩
    isplitl [H1]; · iexact H1
    isplitl [H2]; · iexact H2
    isplitl [H3]; · iexact H3
    iexact H4
  · refine .trans ?_ h.2
    refine .trans ?_ (BIClass.sep_mono hl.2 hr.2)
    show iprop(owns (c : Thread nD τ) m fullShare.left.left X ∗ owns (c : Thread nD τ) m fullShare.left.right X ∗ owns (c : Thread nD τ) m fullShare.right.left X ∗ owns (c : Thread nD τ) m fullShare.right.right X) ⊢ _
    iintro ⟨H1, H2, H3, H4⟩
    isplitl [H1 H2]
    · isplitl [H1]; · iexact H1
      iexact H2
    isplitl [H3]; · iexact H3
    iexact H4

/-- The staging buffer, its semaphores at rest and the weight arrays: the four idle slots. -/
theorem idles : (iprop((∃ X, owns (c : Thread nD τ) A12 fullShare X) ∗ owns (c : Thread nD τ) A3 fullShare (I.w1 c) ∗ owns (c : Thread nD τ) A4 fullShare (I.w2 c)
        ∗ semVal (dCell c 5 0) 0 ∗ semVal (dCell c 5 1) 0 ∗ semVal (dCell c 5 2) 0 ∗ semVal (dCell c 5 3) 0) : sProp 𝕄)
      ⊣⊢ iprop(Idle I c 0 ∗ Idle I c 1 ∗ Idle I c 2 ∗ Idle I c 3) := by
  unfold Idle Toks
  constructor
  · iintro ⟨HA, H3, H4, S0, S1, S2, S3⟩
    ihave HB := (cut_slots c).1 $$ HA
    icases HB with ⟨B0, B1, B2, B3⟩
    ihave H3' := (quarters c A3 (I.w1 c)).1 $$ H3
    icases H3' with ⟨C0, C1, C2, C3⟩
    ihave H4' := (quarters c A4 (I.w2 c)).1 $$ H4
    icases H4' with ⟨D0, D1, D2, D3⟩
    isplitl [B0 S0 C0 D0]
    · iframe
    isplitl [B1 S1 C1 D1]
    · iframe
    isplitl [B2 S2 C2 D2]
    · iframe
    iframe
  · iintro ⟨⟨B0, S0, C0, D0⟩, ⟨B1, S1, C1, D1⟩, ⟨B2, S2, C2, D2⟩, ⟨B3, S3, C3, D3⟩⟩
    isplitl [B0 B1 B2 B3]
    · iapply (cut_slots c).2; iframe
    isplitl [C0 C1 C2 C3]
    · iapply (quarters c A3 (I.w1 c)).2; iframe
    isplitl [D0 D1 D2 D3]
    · iapply (quarters c A4 (I.w2 c)).2; iframe
    iframe

/-- The buffers of the rounded weights, before anything is written: nothing is known of them. -/
theorem wb1_start : (iprop(∃ X, owns (c : Thread nD τ) A10 fullShare X) : sProp 𝕄) ⊢ WB1 I c 0 := by
  unfold WB1; iintro ⟨%X, H⟩; iexists X; isplitr
  · ipureintro; exact fun i h => absurd h (Nat.not_lt_zero _)
  iexact H
theorem wb2_start : (iprop(∃ X, owns (c : Thread nD τ) A11 fullShare X) : sProp 𝕄) ⊢ WB2 I c 0 := by
  unfold WB2; iintro ⟨%X, H⟩; iexists X; isplitr
  · ipureintro; exact fun i h => absurd h (Nat.not_lt_zero _)
  iexact H
/-- And what they hold afterwards, forgotten. -/
theorem wb1_end (n : ℕ) : WB1 I c n ⊢ (iprop(∃ X, owns (c : Thread nD τ) A10 fullShare X) : sProp 𝕄) := by
  unfold WB1; iintro ⟨%X, -, H⟩; iexists X; iexact H
theorem wb2_end (n : ℕ) : WB2 I c n ⊢ (iprop(∃ X, owns (c : Thread nD τ) A11 fullShare X) : sProp 𝕄) := by
  unfold WB2; iintro ⟨%X, -, H⟩; iexists X; iexact H

end Cert.KernelIdeal.Run
-- ==== Proof.Ghost.lean ====
module

public import proofs.«01_k».proof.Proof.Pieces
public import Idealize.ShloMosaic.Lib.Pipeline.RegionTalk
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)

/-! # What the devices hold of the protocol when the kernel is entered and when it is left -/

/-- The invariants of all the cells, and that every barrier cell has begun. -/
def records : sProp 𝕄 :=
  iprop((bigSep (barCells ∪ scCells) fun g => cellInv ER (Rd I) (K g) g) ∗ bigSep barCells fun g => reached ER g 0)

instance records_persistent : BI.Persistent (records I K) := by unfold records; infer_instance

/-- The tokens of the duties a device pays towards one place of the ring: the signal, both exchanges. -/
def pays (i : Fin 4) : sProp 𝕄 :=
  iprop(dutyTok ER (barCell (sh c i)) 0 c ∗ dutyTok ER (dCell c 1 i) 0 i ∗ dutyTok ER (dCell (sh c i) 2 c) 0 c
    ∗ dutyTok ER (dCell c 3 i) 0 i ∗ dutyTok ER (dCell (sh c i) 4 c) 0 c)

/-- The right to open each of the device's own sixteen cells. -/
def opens : sProp 𝕄 := bigSep Finset.univ fun p : Fin 4 × Fin 4 => openTok ER (dCell c (fam4 p.1) p.2)

/-- The credit of the data coming from one peer. -/
def owedBy (i : Fin 4) : sProp 𝕄 :=
  iprop(cred (tallyAt (dCell c 2 (sh c i)) () N) ∗ cred (tallyAt (dCell c 4 (sh c i)) () N))

/-- The credit of everything a device waits for. -/
def creds : sProp 𝕄 := iprop(cred (tallyAt (barCell c) () 3) ∗ owedBy c 1 ∗ owedBy c 2 ∗ owedBy c 3)

/-- What a device alone holds before the kernel: its place at the barrier, its rights to open, its tokens. -/
def linear : sProp 𝕄 := iprop(atPos ER (barCell c) 0 ∅ 0 ∗ opens c ∗ bigSep Finset.univ (pays (F := F) c))

/-- What a device brings to the kernel. -/
def Tk : sProp 𝕄 := iprop((∃ K, records I K ∗ linear c) ∗ creds c)

/-- The same once the device's own cells are open. -/
def Xk : sProp 𝕄 :=
  iprop(∃ K, (Ctx I K ∗ (bigSep barCells fun g => reached ER g 0)
      ∗ bigSep Finset.univ (fun p : Fin 4 × Fin 4 => reached ER (dCell c (fam4 p.1) p.2) 0))
    ∗ bigSep Finset.univ (fun p : Fin 4 × Fin 4 => atPos ER (dCell c (fam4 p.1) p.2) 0 ∅ 0)
    ∗ atPos ER (barCell c) 0 ∅ 0 ∗ bigSep Finset.univ (pays (F := F) c) ∗ creds c)

/-- The semaphores of the kernel's own families, as numbered at its entry. -/
def osem (p : Fin 5 × Fin 4) : SemLoc sig := .dma (ds ⟨p.1.val + 1, by have := p.1.isLt; omega⟩ p.2)

theorem regroup (a b d e g : sProp 𝕄) : iprop(a ∗ b ∗ d ∗ e ∗ g) = iprop((a ∗ b ∗ d ∗ e) ∗ g) := by
  have h : iprop(a ∗ b ∗ d ∗ e ∗ g) ⊢ iprop((a ∗ b ∗ d ∗ e) ∗ g) := by iintro ⟨A, B, D, E, G⟩; iframe
  have h' : iprop((a ∗ b ∗ d ∗ e) ∗ g) ⊢ iprop(a ∗ b ∗ d ∗ e ∗ g) := by iintro ⟨⟨A, B, D, E⟩, G⟩; iframe
  exact BI.equiv_iff.mp ⟨h, h'⟩

/-- The own semaphores: the sixteen cells' and the four of the weight chunks. -/
theorem ownSems_eq : (Pipeline.ownSems0 osem c : sProp 𝕄)
    = iprop((bigSep Finset.univ fun p : Fin 4 × Fin 4 => semVal (dCell c (fam4 p.1) p.2) 0)
      ∗ semVal (dCell c 5 0) 0 ∗ semVal (dCell c 5 1) 0 ∗ semVal (dCell c 5 2) 0 ∗ semVal (dCell c 5 3) 0) := by
  have h5 (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  unfold Pipeline.ownSems0
  rw [bigSep_univ_prod, bigSep_univ_prod, h5, four (fun a : Fin 4 => bigSep Finset.univ fun b : Fin 4 => (semVal (dCell c (fam4 a) b) 0 : sProp 𝕄)),
    four (fun b : Fin 4 => (semVal ((c : Thread nD τ), osem (4, b)) 0 : sProp 𝕄))]
  exact regroup _ _ _ _ _

/-- Opening the device's own cells. -/
theorem hopen : iprop(Tk I c ∗ Pipeline.ownSems0 osem c ∗ levAts L lv)
    ⊢ (|={Set.univ}=> iprop(Xk I c ∗ semVal (dCell c 5 0) 0 ∗ semVal (dCell c 5 1) 0 ∗ semVal (dCell c 5 2) 0 ∗ semVal (dCell c 5 3) 0) : sProp 𝕄) := by
  rw [ownSems_eq]
  unfold Tk Xk records linear opens Ctx
  iintro ⟨⟨⟨%K, ⟨#HI, #HR⟩, Hat, Hop, Hpay⟩, Hcr⟩, ⟨Hs, Hw⟩, #Hlev⟩
  ihave H := (Entails.of_eq (bigSep_sep' _ _ _).symm) $$ [Hop Hs]
  · isplitl [Hop]; · iexact Hop
    iexact Hs
  ihave H' := (bigSep_with_persistent (R := bigSep (barCells ∪ scCells) fun g => (cellInv ER (Rd I) (K g) g : sProp 𝕄))
      (Ψ := fun p : Fin 4 × Fin 4 => iprop(|={Set.univ}=> (atPos ER (dCell c (fam4 p.1) p.2) 0 ∅ 0 ∗ reached ER (dCell c (fam4 p.1) p.2) 0)))
      (fun p _ => (BIClass.sep_mono (bigSep_elim (mem_d c p.1 p.2)) .rfl).trans
        (Rounds.cell_open ER (Rd I) (g := dCell c (fam4 p.1) p.2) (Set.mem_univ (K (dCell c (fam4 p.1) p.2)))))) $$ [H]
  · isplitr; · iexact HI
    iexact H
  imod (bigSep_fupd _ _) $$ H' with H'
  ihave H2 := (Entails.of_eq (bigSep_sep' _ _ _)) $$ H'
  icases H2 with ⟨Hp, #Hre⟩
  imodintro
  isplitr [Hw]
  · iexists K
    isplitr
    · isplitr
      · isplitr; · iexact Hlev
        iexact HI
      isplitr; · iexact HR
      iexact Hre
    isplitl [Hp]; · iexact Hp
    isplitl [Hat]; · iexact Hat
    isplitl [Hpay]; · iexact Hpay
    iexact Hcr
  iexact Hw

/-- Closing a cell whose round is over. -/
theorem close_one (g : GSem nD τ sig) (hg : g ∈ barCells ∪ scCells) :
    iprop(Ctx I K ∗ atPos ER g (0 + 1) ∅ 0) ⊢ (|={Set.univ}=> semVal g 0 : sProp 𝕄) :=
  (BIClass.sep_mono (ctx_inv I K hg) .rfl).trans (Rounds.cell_close ER (Rd I) (Set.mem_univ (K g)) id (duties_later I g))

/-- Closing a cell of the exchanges in which nothing was due. -/
theorem close_idle (f : Fin 4) (i : Fin 4) (h : dutyD c (f.val + 1) i = ∅) :
    iprop(Ctx I K ∗ atPos ER (dCell c (fam4 f) i) 0 ∅ 0) ⊢ (|={Set.univ}=> semVal (dCell c (fam4 f) i) 0 : sProp 𝕄) :=
  (BIClass.sep_mono (ctx_inv I K (mem_d c f i)) .rfl).trans
    (Rounds.cell_close ER (Rd I) (Set.mem_univ (K (dCell c (fam4 f) i))) id fun r hr => by
      rcases Nat.eq_zero_or_pos r with rfl | hp
      · rw [duties_d]; exact h
      · exact duties_later I _ r hp)

/-! ## The tokens -/

/-- The semaphore of a family's number, the barrier's at family 0. -/
def tsem (p : Fin 5 × Fin 4) : SemLoc sig := if p.1 = 0 then .reg barS else .dma (ds ⟨p.1.val, by have := p.1.isLt; omega⟩ p.2)

theorem tsem_inj : Function.Injective (fun p : Fin 5 × Fin 4 => (tsem p, p.2)) := by decide +kernel

/-- Every duty's token: of each barrier cell one for every device, of each other cell the one of its own number. -/
def allToks : Finset (GSem nD τ sig × ℕ × Dev nD) :=
  Finset.univ.map ⟨fun q : Dev nD × (Fin 5 × Fin 4) => (((q.1 : Thread nD τ), tsem q.2), 0, q.2.2), fun q q' h =>
    Prod.ext (congrArg (fun t : GSem nD τ sig × ℕ × Dev nD => t.1.1.1) h)
      (tsem_inj (Prod.ext (congrArg (fun t : GSem nD τ sig × ℕ × Dev nD => t.1.2) h) (congrArg (fun t : GSem nD τ sig × ℕ × Dev nD => t.2.2) h)))⟩

/-- The pairs of a device and a number, each seen from the peer it points to. -/
def flip : Dev nD × Fin 4 ≃ Dev nD × Fin 4 := Equiv.ofBijective (fun q => (sh q.1 q.2, q.1)) (by decide +kernel)

/-- A product over devices and numbers, taken from the peers' side. -/
theorem bigSep_flip (Φ : Dev nD → Fin 4 → sProp 𝕄) :
    bigSep Finset.univ (fun c => bigSep Finset.univ (Φ c)) = bigSep Finset.univ (fun c => bigSep Finset.univ fun i => Φ (sh c i) c) := by
  rw [← bigSep_univ_prod (fun q : Dev nD × Fin 4 => Φ q.1 q.2), ← bigSep_univ_prod (fun q : Dev nD × Fin 4 => Φ (sh q.1 q.2) q.1)]
  exact bigSep_univ_equiv flip _

/-- The tokens, each handed to the device that pays the duty. -/
theorem toks_dealt : bigSep allToks (fun x => (dutyTok ER x.1 x.2.1 x.2.2 : sProp 𝕄))
    = bigSep Finset.univ fun c : Dev nD => bigSep Finset.univ (pays (F := F) c) := by
  have h5 (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  have hl (c : Dev nD) : bigSep Finset.univ (fun p : Fin 5 × Fin 4 => (dutyTok ER ((c : Thread nD τ), tsem p) 0 p.2 : sProp 𝕄))
      = iprop((bigSep Finset.univ fun i => dutyTok ER (barCell c) 0 i) ∗ (bigSep Finset.univ fun i : Fin 4 => dutyTok ER (dCell c 1 i) 0 i)
        ∗ (bigSep Finset.univ fun i : Fin 4 => dutyTok ER (dCell c 2 i) 0 i) ∗ (bigSep Finset.univ fun i : Fin 4 => dutyTok ER (dCell c 3 i) 0 i)
        ∗ (bigSep Finset.univ fun i : Fin 4 => dutyTok ER (dCell c 4 i) 0 i)) := by
    rw [bigSep_univ_prod, h5]; rfl
  unfold allToks pays
  rw [bigSep_map, bigSep_univ_prod]
  refine (bigSep_congr fun c _ => hl c).trans ?_
  simp only [bigSep_sep']
  rw [bigSep_flip (fun c i => dutyTok ER (barCell c) 0 i), bigSep_flip (fun c i => dutyTok ER (dCell c 2 i) 0 i),
    bigSep_flip (fun c i => dutyTok ER (dCell c 4 i) 0 i)]

/-! ## The credit of what is owed at the launch -/

/-- What every device owes to its peer `i` places on is, seen from a device, what its peer `j` places on owes it. -/
theorem launch_one {i j : Fin 4} (hij : ∀ d e : Dev nD, sh d i = e ↔ d = sh e j) (s : Dev nD → SemLoc sig) (n : ℕ)  :
    (Pipeline.launchCred (fun d => tallyAt ((sh d i : Thread nD τ), s d) () n) c : sProp 𝕄)
      ⊢ cred (tallyAt ((c : Thread nD τ), s (sh c j)) () n) := by
  refine (Pipeline.launchCred_elim _ c (s (sh c j))).trans (Entails.of_eq (congrArg cred ?_))
  unfold tallyAt
  refine congrArg _ (Finsupp.ext fun u => ?_)
  cases u
  rw [Pipeline.launchCredit_owing, Finsupp.single_eq_same, Finset.sum_eq_single (sh c j)]
  · rw [← tallyAt.eq_1, (hij (sh c j) c).mpr rfl, tallyAt_apply, if_pos ⟨rfl, rfl⟩]
  · intro d _ hd
    rw [← tallyAt.eq_1, tallyAt_apply, if_neg]
    exact fun h => hd ((hij d c).mp (congrArg (fun g : GSem nD τ sig => g.1.1) h.1).symm)
  · exact fun h => absurd (Finset.mem_univ _) h

theorem turn1 : ∀ d e : Dev nD, sh d 1 = e ↔ d = sh e 3 := by decide +kernel
theorem turn2 : ∀ d e : Dev nD, sh d 2 = e ↔ d = sh e 2 := by decide +kernel
theorem turn3 : ∀ d e : Dev nD, sh d 3 = e ↔ d = sh e 1 := by decide +kernel

/-- What all devices owe at the launch gives each device the credit it waits with. -/
theorem launch_creds : (Pipeline.launchCred O₀ c : sProp 𝕄) ⊢ creds c := by
  have e : (O₀ : Dev nD → CellTallies nD τ sig Unit)
      = fun d => 0 + OP d 1 + OP d 2 + OP d 3 + OX d 3 + OX d 2 + OX d 1 + OB d 3 + OB d 2 + OB d 1 := rfl
  have hB {i j : Fin 4} (h : ∀ d e : Dev nD, sh d i = e ↔ d = sh e j) :
      (Pipeline.launchCred (fun d => OB d i) c : sProp 𝕄) ⊢ cred (tallyAt (barCell c) () 1) := launch_one c h (fun _ => .reg barS) 1
  have hX {i j : Fin 4} (h : ∀ d e : Dev nD, sh d i = e ↔ d = sh e j) :
      (Pipeline.launchCred (fun d => OX d i) c : sProp 𝕄) ⊢ cred (tallyAt (dCell c 2 (sh c j)) () N) := launch_one c h (fun d => .dma (ds 2 d)) N
  have hP {i j : Fin 4} (h : ∀ d e : Dev nD, sh d i = e ↔ d = sh e j) :
      (Pipeline.launchCred (fun d => OP d i) c : sProp 𝕄) ⊢ cred (tallyAt (dCell c 4 (sh c j)) () N) := launch_one c h (fun d => .dma (ds 4 d)) N
  have h3 : (tallyAt (barCell c) () 3 : CellTallies nD τ sig Unit) = tallyAt (barCell c) () 1 + (tallyAt (barCell c) () 1 + tallyAt (barCell c) () 1) := by
    rw [tallyAt_add, tallyAt_add]
  rw [e]
  simp only [Pipeline.launchCred_add]
  unfold creds owedBy
  rw [h3]
  iintro ⟨⟨⟨⟨⟨⟨⟨⟨⟨Z, P1⟩, P2⟩, P3⟩, X3⟩, X2⟩, X1⟩, B3⟩, B2⟩, B1⟩
  iclear Z
  isplitl [B1 B2 B3]
  · iapply (cred_add _ _).2
    isplitl [B1]; · iapply (hB turn1) $$ B1
    iapply (cred_add _ _).2
    isplitl [B2]; · iapply (hB turn2) $$ B2
    iapply (hB turn3) $$ B3
  isplitl [X3 P3]
  · isplitl [X3]; · iapply (hX turn3) $$ X3
    iapply (hP turn3) $$ P3
  isplitl [X2 P2]
  · isplitl [X2]; · iapply (hX turn2) $$ X2
    iapply (hP turn2) $$ P2
  isplitl [X1]; · iapply (hX turn1) $$ X1
  iapply (hP turn1) $$ P1

end Cert.KernelIdeal.Run
-- ==== Proof.Enter.lean ====
module

public import proofs.«01_k».proof.Proof.Ghost
public import Idealize.ShloMosaic.Lib.Pipeline.RegionTalk
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : GSem nD τ sig → ℕ) (c : Dev nD)

/-! # Entering and leaving the kernel: the launch's resources as the body's, and back -/

/-- A product over the sixteen cells of a device: the families of the sends by number, those of the arrivals by peer. -/
theorem cells (Φ : Fin 6 → Fin 4 → sProp 𝕄) :
    bigSep Finset.univ (fun p : Fin 4 × Fin 4 => Φ (fam4 p.1) p.2)
      = iprop((Φ 1 0 ∗ Φ 1 1 ∗ Φ 1 2 ∗ Φ 1 3) ∗ (Φ 2 c ∗ Φ 2 (sh c 1) ∗ Φ 2 (sh c 2) ∗ Φ 2 (sh c 3))
        ∗ (Φ 3 0 ∗ Φ 3 1 ∗ Φ 3 2 ∗ Φ 3 3) ∗ (Φ 4 c ∗ Φ 4 (sh c 1) ∗ Φ 4 (sh c 2) ∗ Φ 4 (sh c 3))) := by
  rw [bigSep_univ_prod, four]
  show iprop(bigSep Finset.univ (Φ 1) ∗ bigSep Finset.univ (Φ 2) ∗ bigSep Finset.univ (Φ 3) ∗ bigSep Finset.univ (Φ 4)) = _
  rw [four (Φ 1), around c (Φ 2), four (Φ 3), around c (Φ 4)]

/-- The scratch buffers, each at some contents. -/
theorem scratch_eq : (Pipeline.scopedRest spec0 c : sProp 𝕄)
    = iprop((∃ X, owns (c : Thread nD τ) A6 fullShare X) ∗ (∃ X, owns (c : Thread nD τ) A7 fullShare X) ∗ (∃ X, owns (c : Thread nD τ) A8 fullShare X)
      ∗ (∃ X, owns (c : Thread nD τ) A9 fullShare X) ∗ (∃ X, owns (c : Thread nD τ) A10 fullShare X) ∗ (∃ X, owns (c : Thread nD τ) A11 fullShare X)
      ∗ (∃ X, owns (c : Thread nD τ) A12 fullShare X)) := by
  rw [scopedRest0_eq, some_whole c cc0_scratch0, some_whole c cc0_scratch1, some_whole c cc0_scratch2, some_whole c cc0_scratch3,
    some_whole c cc0_scratch4, some_whole c cc0_scratch5, some_whole c cc0_scratch6]
  rfl

/-- What the body leaves alone: the device's own rows of the first buffer, and the cells with nothing due. -/
def Spare : sProp 𝕄 :=
  iprop(rows c A6 c ∗ atPos ER (dCell c 1 0) 0 ∅ 0 ∗ atPos ER (dCell c 2 c) 0 ∅ 0 ∗ atPos ER (dCell c 3 0) 0 ∅ 0 ∗ atPos ER (dCell c 4 c) 0 ∅ 0)

/-- The weight chunks' semaphores at rest. -/
def still : sProp 𝕄 := iprop(semVal (dCell c 5 0) 0 ∗ semVal (dCell c 5 1) 0 ∗ semVal (dCell c 5 2) 0 ∗ semVal (dCell c 5 3) 0)

/-- What goes with one peer, put together. -/
theorem peer_intro (i : Fin 4) :
    iprop((Ctx I K ∗ (bigSep barCells fun g => reached ER g 0) ∗ bigSep Finset.univ (fun p : Fin 4 × Fin 4 => reached ER (dCell c (fam4 p.1) p.2) 0))
      ∗ pays c i ∗ owedBy c i ∗ rows c A6 (sh c i) ∗ rows c A7 (sh c i) ∗ (∃ X, P8 c i X) ∗ rows c A9 (sh c i)
      ∗ atPos ER (dCell c 1 i) 0 ∅ 0 ∗ atPos ER (dCell c 2 (sh c i)) 0 ∅ 0 ∗ atPos ER (dCell c 3 i) 0 ∅ 0 ∗ atPos ER (dCell c 4 (sh c i)) 0 ∅ 0)
      ⊢ (Peer c i : sProp 𝕄) := by
  have hre (f : Fin 4) (j : Fin 4) : bigSep Finset.univ (fun p : Fin 4 × Fin 4 => (reached ER (dCell c (fam4 p.1) p.2) 0 : sProp 𝕄))
      ⊢ reached ER (dCell c (fam4 f) j) 0 :=
    bigSep_elim (Φ := fun p : Fin 4 × Fin 4 => (reached ER (dCell c (fam4 p.1) p.2) 0 : sProp 𝕄)) (Finset.mem_univ (f, j))
  have hrb (d : Dev nD) : (bigSep barCells fun g => (reached ER g 0 : sProp 𝕄)) ⊢ reached ER (barCell d) 0 :=
    bigSep_elim (Finset.mem_map_of_mem barEmb (Finset.mem_univ d))
  unfold Peer Sig XTok PTok Tick pays owedBy
  iintro ⟨⟨-, #HR, #HE⟩, ⟨T0, T1, T2, T3, T4⟩, ⟨C2, C4⟩, R6, R7, R8, R9, A1, A2, A3', A4'⟩
  ihave #E1 := (hre 0 i) $$ HE
  ihave #E2 := (hre 1 (sh c i)) $$ HE
  ihave #E3 := (hre 2 i) $$ HE
  ihave #E4 := (hre 3 (sh c i)) $$ HE
  ihave #EB := (hrb (sh c i)) $$ HR
  isplitl [T0 R7 R9]
  · isplitl [T0]; · iexact T0
    isplitl [R7]; · iexact R7
    isplitl [R9]; · iexact R9
    isplitr; · iexact E2
    isplitr; · iexact E4
    iexact EB
  isplitl [T1 T2]
  · isplitl [T1]; · iexact T1
    isplitr; · iexact E1
    iexact T2
  isplitl [T3 T4]
  · isplitl [T3]; · iexact T3
    isplitr; · iexact E3
    iexact T4
  isplitl [C2 A2]
  · isplitl [C2] <;> iassumption
  isplitl [C4 A4']
  · isplitl [C4] <;> iassumption
  isplitl [A1]; · iexact A1
  isplitl [A3']; · iexact A3'
  isplitl [R6]; · iexact R6
  iexact R8

/-- Entering: the scratch buffers, the weights and the opened cells are what the body starts from. -/
theorem enter : iprop(Pipeline.scopedRest spec0 c ∗ owns (c : Thread nD τ) A3 fullShare (I.w1 c) ∗ owns (c : Thread nD τ) A4 fullShare (I.w2 c)
      ∗ Xk I c ∗ still c)
    ⊢ (iprop(∃ K, Ctx I K ∗ (Idle I c 0 ∗ Idle I c 1 ∗ Idle I c 2 ∗ Idle I c 3) ∗ Peer c 1 ∗ Peer c 2 ∗ Peer c 3
      ∗ cred (tallyAt (barCell c) () 3) ∗ atPos ER (barCell c) 0 ∅ 0 ∗ rows c A7 c ∗ rows c A9 c ∗ WB1 I c 0 ∗ WB2 I c 0 ∗ Spare c) : sProp 𝕄) := by
  rw [scratch_eq]
  unfold Xk still creds
  rw [four, cells c (fun f i => atPos ER (dCell c f i) 0 ∅ 0)]
  iintro ⟨⟨S6, S7, S8, S9, S10, S11, S12⟩, H3, H4, ⟨%K, ⟨#HC, #HR, #HE⟩,
    ⟨⟨a10, a11, a12, a13⟩, ⟨a20, a21, a22, a23⟩, ⟨a30, a31, a32, a33⟩, ⟨a40, a41, a42, a43⟩⟩, Hat, ⟨P0, P1, P2, P3⟩, CB, C1, C2, C3⟩, Hw⟩
  iclear P0
  ihave S6 := (cut_rows c A6).1 $$ S6
  icases S6 with ⟨R60, R61, R62, R63⟩
  ihave S7 := (cut_rows c A7).1 $$ S7
  icases S7 with ⟨R70, R71, R72, R73⟩
  ihave S9 := (cut_rows c A9).1 $$ S9
  icases S9 with ⟨R90, R91, R92, R93⟩
  ihave S8 := (cut_parts c).1 $$ S8
  icases S8 with ⟨R81, R82, R83⟩
  iexists K
  isplitr; · iexact HC
  isplitl [S12 H3 H4 Hw]
  · iapply (idles I c).1
    isplitl [S12]; · iexact S12
    isplitl [H3]; · iexact H3
    isplitl [H4]; · iexact H4
    iexact Hw
  isplitl [P1 C1 R61 R71 R81 R91 a11 a21 a31 a41]
  · iapply (peer_intro I K c 1)
    isplitr
    · isplitr; · iexact HC
      isplitr; · iexact HR
      iexact HE
    iframe
  isplitl [P2 C2 R62 R72 R82 R92 a12 a22 a32 a42]
  · iapply (peer_intro I K c 2)
    isplitr
    · isplitr; · iexact HC
      isplitr; · iexact HR
      iexact HE
    iframe
  isplitl [P3 C3 R63 R73 R83 R93 a13 a23 a33 a43]
  · iapply (peer_intro I K c 3)
    isplitr
    · isplitr; · iexact HC
      isplitr; · iexact HR
      iexact HE
    iframe
  isplitl [CB]; · iexact CB
  isplitl [Hat]; · iexact Hat
  isplitl [R70]; · iexact R70
  isplitl [R90]; · iexact R90
  isplitl [S10]; · iapply (wb1_start I c) $$ S10
  isplitl [S11]; · iapply (wb2_start I c) $$ S11
  unfold Spare
  isplitl [R60]; · iexact R60
  isplitl [a10]; · iexact a10
  isplitl [a20]; · iexact a20
  isplitl [a30]; · iexact a30
  iexact a40

theorem dutyD_own (f : Fin 4) : dutyD c (f.val + 1) (if f.val % 2 = 0 then 0 else c) = ∅ := by
  revert c f; decide +kernel

/-- Closing the four cells towards one peer. -/
theorem close_peer (i : Fin 4) : iprop(Ctx I K ∗ Past c i)
    ⊢ (|={Set.univ}=> iprop((semVal (dCell c 1 i) 0 ∗ semVal (dCell c 2 (sh c i)) 0 ∗ semVal (dCell c 3 i) 0 ∗ semVal (dCell c 4 (sh c i)) 0)
      ∗ rows c A6 (sh c i) ∗ rows c A7 (sh c i) ∗ rows c A9 (sh c i) ∗ (∃ X, P8 c i X)) : sProp 𝕄) := by
  unfold Past Done
  iintro ⟨#HC, D1, D2, D3, D4, R6, R7, R9, R8⟩
  imod (close_one I K _ (mem_d c 0 i)) $$ [D1] with S1
  · isplitr; · iexact HC
    iexact D1
  imod (close_one I K _ (mem_d c 1 (sh c i))) $$ [D2] with S2
  · isplitr; · iexact HC
    iexact D2
  imod (close_one I K _ (mem_d c 2 i)) $$ [D3] with S3
  · isplitr; · iexact HC
    iexact D3
  imod (close_one I K _ (mem_d c 3 (sh c i))) $$ [D4] with S4
  · isplitr; · iexact HC
    iexact D4
  imodintro
  isplitl [S1 S2 S3 S4]
  · isplitl [S1]; · iexact S1
    isplitl [S2]; · iexact S2
    isplitl [S3]; · iexact S3
    iexact S4
  iframe

/-- Leaving: all cells closed, the buffers whole again. -/
theorem leave : iprop(Ctx I K ∗ (Idle I c 0 ∗ Idle I c 1 ∗ Idle I c 2 ∗ Idle I c 3) ∗ Past c 1 ∗ Past c 2 ∗ Past c 3
      ∗ atPos ER (barCell c) (0 + 1) ∅ 0 ∗ rows c A7 c ∗ rows c A9 c ∗ WB1 I c 8 ∗ WB2 I c 16 ∗ Spare c)
    ⊢ (|={Set.univ}=> iprop(Pipeline.scopedRest spec0 c ∗ owns (c : Thread nD τ) A3 fullShare (I.w1 c) ∗ owns (c : Thread nD τ) A4 fullShare (I.w2 c)
      ∗ Pipeline.ownSems0 osem c ∗ semVal (barCell c) 0) : sProp 𝕄) := by
  rw [scratch_eq, ownSems_eq, cells c (fun f i => semVal (dCell c f i) 0)]
  unfold Spare
  iintro ⟨#HC, HI, Q1, Q2, Q3, HB, R70, R90, S10, S11, R60, a10, a20, a30, a40⟩
  imod (close_peer I K c 1) $$ [Q1] with ⟨⟨s11, s21, s31, s41⟩, R61, R71, R91, R81⟩
  · isplitr; · iexact HC
    iexact Q1
  imod (close_peer I K c 2) $$ [Q2] with ⟨⟨s12, s22, s32, s42⟩, R62, R72, R92, R82⟩
  · isplitr; · iexact HC
    iexact Q2
  imod (close_peer I K c 3) $$ [Q3] with ⟨⟨s13, s23, s33, s43⟩, R63, R73, R93, R83⟩
  · isplitr; · iexact HC
    iexact Q3
  imod (close_one I K _ (mem_bar c)) $$ [HB] with HB
  · isplitr; · iexact HC
    iexact HB
  imod (close_idle I K c 0 0 (dutyD_own c 0)) $$ [a10] with s10
  · isplitr; · iexact HC
    iexact a10
  imod (close_idle I K c 1 c (dutyD_own c 1)) $$ [a20] with s20
  · isplitr; · iexact HC
    iexact a20
  imod (close_idle I K c 2 0 (dutyD_own c 2)) $$ [a30] with s30
  · isplitr; · iexact HC
    iexact a30
  imod (close_idle I K c 3 c (dutyD_own c 3)) $$ [a40] with s40
  · isplitr; · iexact HC
    iexact a40
  ihave HJ := (idles I c).2 $$ HI
  icases HJ with ⟨S12, H3, H4, Hw⟩
  imodintro
  isplitl [R60 R61 R62 R63 R70 R71 R72 R73 R81 R82 R83 R90 R91 R92 R93 S10 S11 S12]
  · isplitl [R60 R61 R62 R63]; · iapply (cut_rows c A6).2; iframe
    isplitl [R70 R71 R72 R73]; · iapply (cut_rows c A7).2; iframe
    isplitl [R81 R82 R83]; · iapply (cut_parts c).2; iframe
    isplitl [R90 R91 R92 R93]; · iapply (cut_rows c A9).2; iframe
    isplitl [S10]; · iapply (wb1_end I c 8) $$ S10
    isplitl [S11]; · iapply (wb2_end I c 16) $$ S11
    iexact S12
  isplitl [H3]; · iexact H3
  isplitl [H4]; · iexact H4
  isplitr [HB]
  · isplitr [Hw]
    · isplitl [s10 s11 s12 s13]
      · isplitl [s10]; · iexact s10
        isplitl [s11]; · iexact s11
        isplitl [s12]; · iexact s12
        iexact s13
      isplitl [s20 s21 s22 s23]
      · isplitl [s20]; · iexact s20
        isplitl [s21]; · iexact s21
        isplitl [s22]; · iexact s22
        iexact s23
      isplitl [s30 s31 s32 s33]
      · isplitl [s30]; · iexact s30
        isplitl [s31]; · iexact s31
        isplitl [s32]; · iexact s32
        iexact s33
      isplitl [s40]; · iexact s40
      isplitl [s41]; · iexact s41
      isplitl [s42]; · iexact s42
      iexact s43
    iexact Hw
  iexact HB

end Cert.KernelIdeal.Run
-- ==== Proof.Region.lean ====
module

public import proofs.«01_k».proof.Proof.Enter
public import Idealize.ShloMosaic.Lib.Pipeline.RegionTalk
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! # The kernel as one region of the program -/

/-- A device's buffers as the program starts, and as the kernel is entered. -/
def V₀ : Valuation τ sig (Elt F) := fun b => m (c, b)
def V₁ : Valuation τ sig (Elt F) := StableHlo.after (List.flatten [hostOps0, hostOps0_1, hostOps0_2]) (V₀ m c)

/-- What every device's kernel is given. -/
def ins : Ins F where
  x c := iblk m c 0 t0_0
  kr c := iblk m c 1 t0_0
  kc c := iblk m c 2 t0_0
  w1 c := V₁ m c (Proc.devRef .tc main_arg2)
  w2 c := V₁ m c (Proc.devRef .tc main_arg3)

/-- The weight arrays, which the kernel reads where they are. -/
def Hs : Finset (DevRef τ sig) := {Proc.devRef .tc main_arg2, Proc.devRef .tc main_arg3}

theorem held_weights (W : Valuation τ sig (Elt F)) : (StableHlo.held (c : Thread nD τ) Hs W : sProp 𝕄)
    = iprop(owns (c : Thread nD τ) A3 fullShare (W (Proc.devRef .tc main_arg2)) ∗ owns (c : Thread nD τ) A4 fullShare (W (Proc.devRef .tc main_arg3))) := by
  unfold StableHlo.held
  rw [bigSep_eq_bigSepL_of_eq [Proc.devRef .tc main_arg2, Proc.devRef .tc main_arg3] (by decide) (by decide), owns_whole, owns_whole]
  rfl

/-- What the kernel holds beside its windows before it runs, and after. -/
def Pre : sProp 𝕄 := iprop(Pipeline.scopedRest spec0 c ∗ (∃ r, prngReg c r) ∗ StableHlo.held (c : Thread nD τ) Hs (V₁ m c) ∗ Xk (ins m) c ∗ still c)
def Post : sProp 𝕄 :=
  iprop(Pipeline.scopedRest spec0 c ∗ (∃ r, prngReg c r) ∗ StableHlo.held (c : Thread nD τ) Hs (V₁ m c) ∗ Pipeline.ownSems0 osem c ∗ semVal (barCell c) 0)

/-- The kernel's one step: the three operands unchanged, the result written. -/
def dat0 : Dat τ (Elt F) Unit ℕ UU ℕ cfg0 c where
  A w := V₁ m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => out3 (ins m) c
  Φ t := if t.val = 0 then Pre m c else Post m c
  q _ := fullShare
  owed t := if t.val = 0 then O₀ c else 0

theorem owed_first : (dat0 m c).owed t0_0.castSucc = O₀ c := by
  show (if (t0_0.castSucc : Fin (cfg0.N + 1)).val = 0 then O₀ c else 0) = O₀ c
  exact if_pos rfl
theorem at_first : (dat0 m c).Φ t0_0.castSucc = Pre m c := by
  show (if (t0_0.castSucc : Fin (cfg0.N + 1)).val = 0 then Pre m c else Post m c) = Pre m c
  exact if_pos rfl
theorem at_last : (dat0 m c).Φ (Fin.last cfg0.N) = Post m c := by
  show (if (Fin.last cfg0.N).val = 0 then Pre m c else Post m c) = Post m c
  rw [Fin.val_last, if_neg (by rw [show cfg0.N = 1 from N_0]; decide)]
theorem owed_last : (dat0 m c).owed (Fin.last cfg0.N) = 0 := by
  show (if (Fin.last cfg0.N).val = 0 then O₀ c else 0) = 0
  rw [Fin.val_last, if_neg (by rw [show cfg0.N = 1 from N_0]; decide)]

theorem owesAt_intro (t : Fin (cfg0.N + 1)) (O : CellTallies nD τ sig Unit) (h : (dat0 m c).owed t = O) :
    (Owes c O : sProp 𝕄) ⊢ (dat0 m c).owesAt () t := by
  unfold Owes Dat.owesAt Pipeline.owesWithin Dat.bound; rw [h]
  iintro ⟨%W, H⟩; iexists W; isplitr; · ipureintro; exact fun _ _ => Or.inl trivial
  iexact H
theorem owesAt_elim (t : Fin (cfg0.N + 1)) (O : CellTallies nD τ sig Unit) (h : (dat0 m c).owed t = O) :
    (dat0 m c).owesAt () t ⊢ (Owes c O : sProp 𝕄) := by
  unfold Owes Dat.owesAt Pipeline.owesWithin; rw [h]
  iintro ⟨%W, -, H⟩; iexists W; iexact H

/-- The operands' windows hold their blocks. -/
theorem before0 (t : Fin cfg0.N) (d) : (dat0 m c).before 0 t d = iblk m c 0 t :=
  ((dat0 m c).before_in_eq_fetched 0 rfl (fun _ => rfl) (fun _ _ _ => rfl) (fun t => rfl) t d).trans rfl
theorem before1 (t : Fin cfg0.N) (d) : (dat0 m c).before 1 t d = iblk m c 1 t :=
  ((dat0 m c).before_in_eq_fetched 1 rfl (fun _ => rfl) (fun _ _ _ => rfl) (fun t => rfl) t d).trans rfl
theorem before2 (t : Fin cfg0.N) (d) : (dat0 m c).before 2 t d = iblk m c 2 t :=
  ((dat0 m c).before_in_eq_fetched 2 rfl (fun _ => rfl) (fun _ _ _ => rfl) (fun t => rfl) t d).trans rfl

set_option maxRecDepth 16384 in
/-- The body run as the region asks. -/
theorem body0 : BodyObligation (dat0 m c) defs₀ 𝒱₀ () Set.univ := fun t => by
  obtain rfl := fin_N0 t
  rw [bigSep_W0, bigSep_W0]
  show iprop((dat0 m c).Φ t0_0.castSucc ∗ (dat0 m c).owesAt () t0_0.castSucc
      ∗ (∃ d, owns (c : Thread nD τ) (st0_0 t0_0) fullShare ((dat0 m c).before 0 t0_0 d)) ∗ (∃ d, owns (c : Thread nD τ) (st0_1 t0_0) fullShare ((dat0 m c).before 1 t0_0 d))
      ∗ (∃ d, owns (c : Thread nD τ) (st0_2 t0_0) fullShare ((dat0 m c).before 2 t0_0 d)) ∗ (∃ d, owns (c : Thread nD τ) (st0_3 t0_0) fullShare ((dat0 m c).before 3 t0_0 d)))
    ⊢ wp Idealize.ShloMosaic.frame (wpE defs₀ 𝒱₀ (c : Thread nD τ) none) Set.univ (bodyAt0 t0_0) fun _ =>
      iprop((dat0 m c).Φ (Fin.last cfg0.N) ∗ (dat0 m c).owesAt () (Fin.last cfg0.N)
      ∗ owns (c : Thread nD τ) (st0_0 t0_0) fullShare (iblk m c 0 t0_0) ∗ owns (c : Thread nD τ) (st0_1 t0_0) fullShare (iblk m c 1 t0_0)
      ∗ owns (c : Thread nD τ) (st0_2 t0_0) fullShare (iblk m c 2 t0_0) ∗ owns (c : Thread nD τ) (st0_3 t0_0) fullShare (out3 (ins m) c))
  rw [at_first, at_last]
  simp only [before0, before1, before2]
  unfold Pre Post
  rw [held_weights]
  iintro ⟨⟨HS, Hp, ⟨H3, H4⟩, HX, Hw⟩, HO, ⟨%d0, W0⟩, ⟨%d1, W1⟩, ⟨%d2, W2⟩, %d3, W3⟩
  ihave HO' := (owesAt_elim m c _ (O₀ c) (owed_first m c)) $$ HO
  ihave HE := (enter (ins m) c) $$ [HS H3 H4 HX Hw]
  · isplitl [HS]; · iexact HS
    isplitl [H3]; · iexact H3
    isplitl [H4]; · iexact H4
    isplitl [HX]; · iexact HX
    iexact Hw
  icases HE with ⟨%K, #HC, ⟨I0, I1, I2, I3⟩, P1, P2, P3, CB, HB, R7, R9, B1, B2, Hsp⟩
  iapply (wp_fupd _ _ _ (bodyAt0 t0_0) _)
  iapply (whole (ins m) K c (st0_0 t0_0) (hstage0_0 0) (st0_1 t0_0) (hstage0_1 0) (st0_2 t0_0) (hstage0_2 0) (st0_3 t0_0) (hstage0_3 0)
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)) $$ [I0 I1 I2 I3 HO' P1 P2 P3 CB HB W0 W1 W2 W3 R7 R9 B1 B2]
  · isplitr; · iexact HC
    isplitl [I0]; · iexact I0
    isplitl [I1]; · iexact I1
    isplitl [I2]; · iexact I2
    isplitl [I3]; · iexact I3
    isplitl [HO']; · iexact HO'
    isplitl [P1]; · iexact P1
    isplitl [P2]; · iexact P2
    isplitl [P3]; · iexact P3
    isplitl [CB]; · iexact CB
    isplitl [HB]; · iexact HB
    isplitl [W0]; · iexact W0
    isplitl [W1]; · iexact W1
    isplitl [W2]; · iexact W2
    isplitl [W3]; · iexists _; iexact W3
    isplitl [R7]; · iexact R7
    isplitl [R9]; · iexact R9
    isplitl [B1]; · iexact B1
    iexact B2
  iintro ⟨I0, I1, I2, I3, HO, Q1, Q2, Q3, HB, W0, W1, W2, W3, R7, R9, B1, B2⟩
  imod (leave (ins m) K c) $$ [I0 I1 I2 I3 Q1 Q2 Q3 HB R7 R9 B1 B2 Hsp] with ⟨HS, H3, H4, Hos, HB⟩
  · isplitr; · iexact HC
    isplitl [I0 I1 I2 I3]
    · isplitl [I0]; · iexact I0
      isplitl [I1]; · iexact I1
      isplitl [I2]; · iexact I2
      iexact I3
    iframe
  imodintro
  isplitl [HS Hp H3 H4 Hos HB]
  · isplitl [HS]; · iexact HS
    isplitl [Hp]; · iexact Hp
    isplitl [H3 H4]
    · isplitl [H3]; · iexact H3
      iexact H4
    isplitl [Hos]; · iexact Hos
    iexact HB
  isplitl [HO]; · iapply (owesAt_intro m c (Fin.last cfg0.N) 0 (owed_last m c)); iexact HO
  isplitl [W0]; · iexact W0
  isplitl [W1]; · iexact W1
  isplitl [W2]; · iexact W2
  iexact W3

end Cert.KernelIdeal.Run
-- ==== Proof.Segments.lean ====
module

public import proofs.«01_k».proof.Proof.Region
public import Idealize.ShloMosaic.Lib.Pipeline.RegionTalk
public import Idealize.ShloMosaic.Lib.Pipeline.RegionArraysS
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! # The program: the host's part, the kernel, and what every device starts and ends with -/

abbrev adm (p : Fin 1) : (pcfgs (F := F) p).Adm := (cfgs p).toPCfg_adm
def dats (p : Fin 1) (c : Dev nD) : Pipeline.Dat τ (Elt F) Unit ℕ UU ℕ (Pipeline.pin (pcfgs (F := F)) adm p) c := dat0 m c

/-- A device's buffers when the program ends. -/
def V₂ : Valuation τ sig (Elt F) := Pipeline.afterRegion (dat0 m c) (V₁ m c)

theorem V₂_arr (w : Fin cfg0.W) : V₂ m c (Proc.devRef .tc (Pipeline.arrRef spec0 w)) = (dat0 m c).arrAt w cfg0.N :=
  Pipeline.afterRegion_arr (dat0 m c) (V₁ m c) winFacts0.arr_inj w
theorem V₂_off {b : Ref sig .tc} (hb : ∀ w, b ≠ Pipeline.arrRef spec0 w) : V₂ m c (Proc.devRef .tc b) = V₁ m c (Proc.devRef .tc b) :=
  Pipeline.afterRegion_of_not_arr (dat0 m c) (V₁ m c) hb

theorem weights_kept : ∀ b ∈ Hs, V₂ m c b = V₁ m c b := fun b hb => by
  unfold Hs at hb
  rcases Finset.mem_insert.mp hb with rfl | hb
  · exact V₂_off m c (by decide)
  · rw [Finset.mem_singleton.mp hb]; exact V₂_off m c (by decide)

/-- What is owed lies above every staging semaphore. -/
theorem cut0 (t : Fin (cfg0.N + 1)) (g : GSem nD τ sig) (i : Unit) (h : 0 < (dat0 m c).owed t g i) : i ∈ L g ∧ 0 < lv g i := by
  have e : (dat0 m c).owed t = if t.val = 0 then O₀ c else 0 := rfl
  rw [e] at h
  split at h
  · obtain ⟨h1, h2⟩ := above_O₀ (b := 0) (by decide) c g i h
    exact ⟨by unfold L; rw [if_pos h1]; exact Finset.mem_singleton_self _, h2⟩
  · exact absurd h (Nat.lt_irrefl 0)

/-- The buffers that are no window's. -/
def rest : Finset (DevRef τ sig) := Pipeline.ucRefs τ sig \ Pipeline.arrRefs (τ := τ) spec0

theorem weights_rest : Hs ⊆ rest := by decide +kernel
theorem arrays_sub : Pipeline.arrRefs (τ := τ) spec0 ⊆ Pipeline.ucRefs τ sig := by decide +kernel

theorem held_parts (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) rest W) :=
  StableHlo.held_sub_split (c : Thread nD τ) arrays_sub W

theorem hout0 : (dat0 m c).Φ (Fin.last cfg0.N)
    ⊢ iprop(Pipeline.scopedRest spec0 c ∗ (∃ r, prngReg c r) ∗ StableHlo.held (c : Thread nD τ) Hs (V₂ m c) ∗ Pipeline.ownSems0 osem c ∗ semVal (barCell c) 0) := by
  rw [at_last, StableHlo.held_congr (c : Thread nD τ) (weights_kept m c)]
  exact .rfl

theorem kit0 (p : Fin 1) : Pipeline.PLaunchFacts (nD := nD) (τ := τ) (pcfgs (F := F)) p where
  cellOf_inj a := by rw [Subsingleton.elim a adm]; exact cellOf_inj
  win := by fin_cases p; exact winFacts0
  pre := Pipeline.PreFacts.none _
  block_pos := by fin_cases p; exact block_pos0
  arr_whole := by fin_cases p; exact arr_whole0
  stage_whole := by fin_cases p; exact stage_whole0

set_option backward.isDefEq.respectTransparency.types false in
/-- The kernel as a segment of the program. -/
def reg0 : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    Hs rest weights_rest (kit0 0) rfl (fun c => (body0 m c).loose)
    (fun _ => 0) O₀ (fun c => (owed_first m c).trans (zero_add _).symm) (owed_last m) (fun _ => rfl)
    (fun c w => Dat.share_full (dat0 m c) (fun _ => rfl) w)
    (V₁ m) (V₂ m) (fun c b hb => Pipeline.afterRegion_off (dat0 m c) (V₁ m c) (Pipeline.ucRefs τ sig) b (Finset.mem_sdiff.mp hb).1)
    (Tk (ins m)) (fun c => semVal (barCell c) 0) (fun c => iprop(Xk (ins m) c ∗ still c)) (fun c => semVal (barCell c) 0)
    (fun c => hopen (ins m) c) (fun c => Entails.of_eq (at_first m c).symm) (hout0 m)
    (fun c => by iintro H; imodintro; iexact H)
    (fun _ => 0)
    ⟨fun c w s => by rw [L_tc]; exact Finset.mem_singleton_self _,
      fun c => (by decide : ∀ (w : Fin cfg0.W) (s : Fin (cfg0.win w).nbuf), (match SemLoc.dma ((cfg0.win w).sem s) with | .reg _ => 1 | .dma j => if fam j = 2 then 2 else if fam j = 4 then 3 else 0) ≤ 0),
      fun c t g i h => cut0 m c t g i h⟩
    (fun _ => iprop(emp))
    (fun c w => rfl) (fun c w => (V₂_arr m c w).symm)

/-- What a device has beside its buffers. -/
def R₀ : sProp 𝕄 := iprop((Tk (ins m) c ∗ ∃ r, prngReg c r) ∗ ∃ W, owes (c : Thread nD τ) (O₀ c) W)

theorem host_sub : ∀ op ∈ (List.flatten [hostOps0, hostOps0_1, hostOps0_2] : List (HloOp τ sig (Elt F))), op.bufs ⊆ Pipeline.ucRefs τ sig := fun op h => by
  simp only [List.flatten_cons, List.flatten_nil, List.append_nil, List.mem_append] at h
  refine Pipeline.sub_ucRefs op ?_
  rcases h with h | h | h
  · exact List.forall_iff_forall_mem.mp hostOps0_sub op h
  · exact List.forall_iff_forall_mem.mp hostOps0_1_sub op h
  · exact List.forall_iff_forall_mem.mp hostOps0_2_sub op h
theorem host_fresh : ∀ op ∈ (List.flatten [hostOps0, hostOps0_1, hostOps0_2] : List (HloOp τ sig (Elt F))), op.fresh = ∅ := fun op h => by
  simp only [List.flatten_cons, List.flatten_nil, List.append_nil, List.mem_append] at h
  rcases h with h | h | h
  · exact List.forall_iff_forall_mem.mp hostOps0_fresh op h
  · exact List.forall_iff_forall_mem.mp hostOps0_1_fresh op h
  · exact List.forall_iff_forall_mem.mp hostOps0_2_fresh op h

/-- The host's part. -/
def seg0 : Pipeline.HostSeg (Ix := Unit) (Name := ℕ) (U := UU) (pcfgs (F := F)) defs₀ 𝒱₀ L lv :=
  Pipeline.HostSeg.ofOps (pcfgs (F := F)) defs₀ 𝒱₀ L lv (Pipeline.ucRefs τ sig) (List.flatten [hostOps0, hostOps0_1, hostOps0_2]) host_sub host_fresh (V₀ m) (R₀ m)

/-- The program: the host's part, then the kernel. -/
def segs : List (Pipeline.Seg (pcfgs (F := F)) adm (dats m) () defs₀ 𝒱₀ L lv) := [.host (seg0 m), .region (reg0 m)]

theorem main_eq : main (F := F) c = Pipeline.Seg.run (segs m) := by
  rw [main_chain]
  simp only [segs, Pipeline.Seg.run, seg0, Pipeline.HostSeg.ofOps, List.flatten_cons, List.flatten_nil, List.append_nil, StableHlo.seq_append]
  rfl

theorem pre0 : iprop(StableHlo.held (c : Thread nD τ) (Pipeline.ucRefs τ sig) (V₁ m c) ∗ R₀ m c) ⊢ (reg0 m).pre c := by
  show _ ⊢ iprop(StableHlo.held (c : Thread nD τ) (Pipeline.arrRefs spec0) (V₁ m c) ∗ (∃ r, prngReg c r)
    ∗ (StableHlo.held (c : Thread nD τ) rest (V₁ m c) ∗ emp) ∗ Tk (ins m) c ∗ ∃ Wd, owes (c : Thread nD τ) (0 + O₀ c) Wd)
  rw [held_parts, zero_add]
  unfold R₀
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ : sProp 𝕄 := iprop(StableHlo.held (c : Thread nD τ) (Pipeline.ucRefs τ sig) (V₂ m c) ∗ semVal (barCell c) 0)

theorem post0 : (reg0 m).post c ⊢ iprop(Tₙ m c ∗ ∃ W, owes (c : Thread nD τ) (0 : CellTallies nD τ sig Unit) W) := by
  show iprop(StableHlo.held (c : Thread nD τ) (Pipeline.arrRefs spec0) (V₂ m c) ∗ (∃ r, prngReg c r)
    ∗ (StableHlo.held (c : Thread nD τ) rest (V₂ m c) ∗ emp) ∗ semVal (barCell c) 0 ∗ ∃ Wd, owes (c : Thread nD τ) (0 : CellTallies nD τ sig Unit) Wd) ⊢ _
  unfold Tₙ
  rw [held_parts]
  iintro ⟨Ha, -, ⟨Hr, -⟩, Hb, HO⟩
  isplitr [HO]
  · isplitl [Ha Hr]
    · isplitl [Ha] <;> iassumption
    iexact Hb
  iexact HO

end Cert.KernelIdeal.Run
-- ==== Proof.Launch.lean ====
module

public import proofs.«01_k».proof.Proof.Segments
public import Idealize.ShloMosaic.Lib.Pipeline.RegionTalk
public import Idealize.ShloMosaic.Lib.Pipeline.ValueKit.Geometry
public import Idealize.ShloMosaic.Harness.Basic

@[expose] public section

noncomputable section

namespace Cert.KernelIdeal.Run

open Cert.KernelIdeal Cert.KernelIdeal.Gen Cert.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! # The launch and the run -/

theorem disjoint_cells : Disjoint (barCells : Finset (GSem nD τ sig)) scCells := by
  rw [Finset.disjoint_left]
  rintro g h₁ h₂
  obtain ⟨c, -, rfl⟩ := Finset.mem_map.mp h₁
  obtain ⟨q, -, h⟩ := Finset.mem_map.mp h₂
  have h2 : (SemLoc.dma (ds (fam4 q.2.1) q.2.2) : SemLoc sig) = .reg barS := congrArg (fun g : GSem nD τ sig => g.2) h
  cases h2

/-- The launch element of the protocol, and the whole one. -/
def u₁ : UB := launchOf barCells scCells allToks
def u₀ : UU :=
  (initOf (Pipeline.cells (Pipeline.pin (pcfgs (F := F)) adm) cellOf_inj) (Pipeline.launchToks (Pipeline.pin (pcfgs (F := F)) adm) cellOf_inj), (u₁, 1))

/-- The protocol's element, held by device 0 until everything is dealt. -/
def G (c : Dev nD) : sProp 𝕄 := if c = 0 then BI.own (ER u₁) else iprop(emp)
theorem bigSep_G : bigSep Finset.univ (G (F := F)) = BI.own (ER u₁) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem launch_split : (ownU (u₀ (F := F)) : sProp 𝕄)
    ⊢ iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  rw [bigSep_G]
  unfold u₀
  iintro Hu
  ihave H := (ownU_pair _ _) $$ Hu
  icases H with ⟨HP, HX⟩
  ihave H2 := (own_pair_emb (embR : Emb (UB × Counters) 𝕄) u₁ 1) $$ HX
  icases H2 with ⟨HX, -⟩
  isplitl [HP]; · iexact HP
  iexact HX

/-- What a device has at the launch that is not the protocol's. -/
def bundle : sProp 𝕄 :=
  iprop(StableHlo.held (c : Thread nD τ) (Pipeline.ucRefs τ sig) (V₀ m c) ∗ creds c ∗ owes (c : Thread nD τ) (O₀ c) ∅ ∗ ∃ r, prngReg c r)

/-- What a device starts with. -/
abbrev T₀ : sProp 𝕄 := iprop(StableHlo.held (c : Thread nD τ) (Pipeline.ucRefs τ sig) (V₀ m c) ∗ R₀ m c)

theorem T₀_intro (K : GSem nD τ sig → ℕ) : iprop(records (ins m) K ∗ (linear c ∗ bundle m c)) ⊢ T₀ m c := by
  unfold bundle T₀ R₀ Tk
  iintro ⟨#HR, Hl, Hh, Hc, HO, Hp⟩
  isplitl [Hh]; · iexact Hh
  isplitr [HO]
  · isplitr [Hp]
    · isplitl [Hl]
      · iexists K
        isplitr; · iexact HR
        iexact Hl
      iexact Hc
    iexact Hp
  · iexists ∅; iexact HO

theorem unscoped_sems : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- Everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V₀ m c) from
      Pipeline.unscopedBufs_held c (V₀ m c), unscoped_sems]
    unfold bundle
    iintro ⟨Hh, Hus, HO, Hcr, Hp, HG⟩
    ihave Hc := (launch_creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => opens c) :=
    Entails.of_eq (by unfold scCells; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (bigSep_G (F := F))) $$ HG
  imod (Rounds.fund_launch ER (Rd (ins m)) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records (ins m) K) (Φ := fun c => iprop(linear c ∗ bundle m c)) fun c _ => T₀_intro m c K)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hop $$ Hopen
    iapply (Entails.of_eq (toks_dealt (F := F))) $$ Htok
  · iexact HB

theorem unscoped_eq : ∀ sm : SemLoc sig, sm.isScoped .tc = false → sm = .reg barS := by decide

/-- The buffers a claim speaks of. -/
def spoken : Finset (DevRef τ sig) :=
  {Proc.devRef .tc main_arg0, Proc.devRef .tc main_arg1, Proc.devRef .tc main_arg2, Proc.devRef .tc main_arg3, Proc.devRef .tc main_v19}

theorem spoken_sub : spoken ⊆ Pipeline.ucRefs τ sig := by decide +kernel

theorem held_spoken (W : Valuation τ sig (Elt F)) : (StableHlo.held (c : Thread nD τ) spoken W : sProp 𝕄)
    = iprop(((c, Proc.devRef .tc main_arg0) ↦{fullShare} W (Proc.devRef .tc main_arg0)) ∗ ((c, Proc.devRef .tc main_arg1) ↦{fullShare} W (Proc.devRef .tc main_arg1))
      ∗ ((c, Proc.devRef .tc main_arg2) ↦{fullShare} W (Proc.devRef .tc main_arg2)) ∗ ((c, Proc.devRef .tc main_arg3) ↦{fullShare} W (Proc.devRef .tc main_arg3))
      ∗ ((c, Proc.devRef .tc main_v19) ↦{fullShare} W (Proc.devRef .tc main_v19))) := by
  unfold StableHlo.held
  rw [bigSep_eq_bigSepL_of_eq [Proc.devRef .tc main_arg0, Proc.devRef .tc main_arg1, Proc.devRef .tc main_arg2, Proc.devRef .tc main_arg3, Proc.devRef .tc main_v19]
    (by decide) (by decide)]
  rfl

/-- The arguments end as they were, and the result's array holds what the kernel leaves. -/
theorem V₂_arg0 : V₂ m c (Proc.devRef .tc main_arg0) = m (c, Proc.devRef .tc main_arg0) := (V₂_off m c (by decide)).trans (V_main_arg0 m c)
theorem V₂_arg1 : V₂ m c (Proc.devRef .tc main_arg1) = m (c, Proc.devRef .tc main_arg1) := (V₂_off m c (by decide)).trans (V_main_arg1 m c)
theorem V₂_arg2 : V₂ m c (Proc.devRef .tc main_arg2) = m (c, Proc.devRef .tc main_arg2) := (V₂_off m c (by decide)).trans (V_main_arg2 m c)
theorem V₂_arg3 : V₂ m c (Proc.devRef .tc main_arg3) = m (c, Proc.devRef .tc main_arg3) := (V₂_off m c (by decide)).trans (V_main_arg3 m c)
theorem V₂_out : V₂ m c (Proc.devRef .tc main_v19) = out3 (ins m) c := by
  refine (V₂_arr m c 3).trans ?_
  refine (dat0 m c).arrAt_eq_of_after_last 3 t0_0 (by decide +kernel) _ fun j => ?_
  rfl

set_option backward.isDefEq.respectTransparency.types false in
/-- Every fair execution of the program on the four devices terminates; every device's arguments end as they were and its
    result is what the kernel leaves; and every semaphore ends at zero. -/
theorem run_main : θ_run defs (onTc (τ := τ) (main (F := F))) ⟨m, fun _ => 0, ρ⟩
    (fun r => (∀ c : Dev nD, r.2.mem ((c : Thread nD τ).loc main_v19) = out3 (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (dats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      iintro Hu
      ihave H := launch_split $$ Hu
      icases H with ⟨HP, HX⟩
      imodintro
      isplitl [HP]; · iexact HP
      iexact HX)
    (T₀ := T₀ m) (Tₙ := Tₙ m)
    (hch := ⟨fun c => .rfl, fun c => pre0 m c, fun c => post0 m c⟩)
    (hinit := init m ρ)
    (QY := fun c s => (s.mem (c, Proc.devRef .tc main_arg0) = V₂ m c (Proc.devRef .tc main_arg0) ∧ s.mem (c, Proc.devRef .tc main_arg1) = V₂ m c (Proc.devRef .tc main_arg1)
        ∧ s.mem (c, Proc.devRef .tc main_arg2) = V₂ m c (Proc.devRef .tc main_arg2) ∧ s.mem (c, Proc.devRef .tc main_arg3) = V₂ m c (Proc.devRef .tc main_arg3)
        ∧ s.mem (c, Proc.devRef .tc main_v19) = V₂ m c (Proc.devRef .tc main_v19))
      ∧ s.sem (barCell c) = 0)
    (hfin := fun c s' => by
      unfold Tₙ
      rw [StableHlo.held_sub_split (c : Thread nD τ) spoken_sub, held_spoken]
      iintro ⟨⟨⟨⟨H0, H1, H2, H3, H4⟩, -⟩, Hb0⟩, HSI⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        rw [V₂_arg0] at h0; rw [V₂_arg1] at h1; rw [V₂_arg2] at h2; rw [V₂_arg3] at h3; rw [V₂_out] at h4
        exact ⟨h4, h0, h1, h2, h3⟩,
      sem_eq_zero hs fun c sm hsm => by
        obtain rfl := unscoped_eq sm hsm
        exact (h c).2⟩)

end Cert.KernelIdeal.Run
-- ==== Proof.Frames.lean ====
module

public import proofs.«01_k».proof.Defs
public import proofs.«01_k».proof.Proof.Gen.ReferenceIdeal
public import proofs.«01_k».proof.Proof.Launch
public import proofs.«01_k».proof.Proof.Bits.Launch
public import Idealize.ShloMosaic.Lib.StableHlo.RunHlo

@[expose] public section

noncomputable section

namespace Cert.Proof

open Idealize.ShloMosaic Idealize.SL.Sem

/-- The kernel as it is runs, leaves its arguments alone, and ends with every semaphore at zero. -/
theorem frame_Kernel : Cert.quiescent_Kernel (hKernel := Cert.Kernel.Gen.facts) := fun m g _ =>
  θ_run_mono (Cert.Kernel.Run.run_main m g) fun r h => ⟨fun c => (h.1 c).2, h.2⟩

/-- The same of the kernel over the extended reals. -/
theorem frame_KernelIdeal : Cert.quiescent_KernelIdeal (hKernelIdeal := Cert.KernelIdeal.Gen.facts) := fun m g _ =>
  θ_run_mono (Cert.KernelIdeal.Run.run_main m g) fun r h => ⟨fun c => (h.1 c).2, h.2⟩

end Cert.Proof
-- ==== Proof.RefFrame.lean ====
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.StableHlo.RunHlo

@[expose] public section

noncomputable section

namespace Cert.Proof

open Idealize.ShloMosaic Idealize.SL.Sem

open Cert.ReferenceIdeal Cert.ReferenceIdeal.Facts₀ in
/-- What the reference does for one expert: the tokens assigned to it take its two products, the others keep what they have. -/
def refLeg (x : Vec Ideal S4096x1024 .f32) (a : Vec Ideal S4096 .i32) (e : BitVec 32) (u : Vec Ideal S1x1024x2048 .f32) (v : Vec Ideal S1x2048x1024 .f32)
    (prev : Vec Ideal S4096x1024 .f32) : Vec Ideal S4096x1024 .f32 :=
  letI := Cert.ReferenceIdeal.Gen.facts
  select (broadcastInDim S4096x1024 ![0, 1] bcast_S4096x1_S4096x1024_0_1 (broadcastInDim S4096x1 ![0] bcast_S4096_S4096x1_0
      (cmpi .eq a (broadcastInDim S4096 ![] bcast_S_S4096 (constantI S_ 32 e)))))
    (Host.dotGeneral (F := Ideal) (φ₁ := .f32) (φ₂ := .f32) dot_S4096x2048_S2048x1024_S4096x1024_1_0_0_1_n_n none
      (maximumf (F := Ideal) (Host.dotGeneral (F := Ideal) (φ₁ := .f32) (φ₂ := .f32) dot_S4096x1024_S1024x2048_S4096x2048_1_0_0_1_n_n none x (shapeCast S1024x2048 u shapeCasts_S1x1024x2048_S1024x2048))
        (broadcastInDim S4096x2048 ![] bcast_S_S4096x2048 (constant (F := Ideal) S_ .f32 0x00000000#32)))
      (shapeCast S2048x1024 v shapeCasts_S1x2048x1024_S2048x1024))
    prev

open Cert.ReferenceIdeal Cert.ReferenceIdeal.Facts₀ in
/-- What the reference computes. -/
def refOut (x : Vec Ideal S4096x1024 .f32) (a : Vec Ideal S4096 .i32) (w1 : Vec Ideal S8x1024x2048 .f32) (w2 : Vec Ideal S8x2048x1024 .f32) : Vec Ideal S4096x1024 .f32 :=
  letI := Cert.ReferenceIdeal.Gen.facts
  refLeg x a 7#32 (extractStridedSlice S1x1024x2048 ![7, 0, 0] w1 slices_S8x1024x2048_S1x1024x2048_7_0_0) (extractStridedSlice S1x2048x1024 ![7, 0, 0] w2 slices_S8x2048x1024_S1x2048x1024_7_0_0) <|
  refLeg x a 6#32 (extractStridedSlice S1x1024x2048 ![6, 0, 0] w1 slices_S8x1024x2048_S1x1024x2048_6_0_0) (extractStridedSlice S1x2048x1024 ![6, 0, 0] w2 slices_S8x2048x1024_S1x2048x1024_6_0_0) <|
  refLeg x a 5#32 (extractStridedSlice S1x1024x2048 ![5, 0, 0] w1 slices_S8x1024x2048_S1x1024x2048_5_0_0) (extractStridedSlice S1x2048x1024 ![5, 0, 0] w2 slices_S8x2048x1024_S1x2048x1024_5_0_0) <|
  refLeg x a 4#32 (extractStridedSlice S1x1024x2048 ![4, 0, 0] w1 slices_S8x1024x2048_S1x1024x2048_4_0_0) (extractStridedSlice S1x2048x1024 ![4, 0, 0] w2 slices_S8x2048x1024_S1x2048x1024_4_0_0) <|
  refLeg x a 3#32 (extractStridedSlice S1x1024x2048 ![3, 0, 0] w1 slices_S8x1024x2048_S1x1024x2048_3_0_0) (extractStridedSlice S1x2048x1024 ![3, 0, 0] w2 slices_S8x2048x1024_S1x2048x1024_3_0_0) <|
  refLeg x a 2#32 (extractStridedSlice S1x1024x2048 ![2, 0, 0] w1 slices_S8x1024x2048_S1x1024x2048_2_0_0) (extractStridedSlice S1x2048x1024 ![2, 0, 0] w2 slices_S8x2048x1024_S1x2048x1024_2_0_0) <|
  refLeg x a 1#32 (extractStridedSlice S1x1024x2048 ![1, 0, 0] w1 slices_S8x1024x2048_S1x1024x2048_1_0_0) (extractStridedSlice S1x2048x1024 ![1, 0, 0] w2 slices_S8x2048x1024_S1x2048x1024_1_0_0) <|
  refLeg x a 0#32 (extractStridedSlice S1x1024x2048 ![0, 0, 0] w1 slices_S8x1024x2048_S1x1024x2048_0_0_0) (extractStridedSlice S1x2048x1024 ![0, 0, 0] w2 slices_S8x2048x1024_S1x2048x1024_0_0_0) <|
  broadcastInDim S4096x1024 ![] bcast_S_S4096x1024 (constant (F := Ideal) S_ .f32 0x00000000#32)

open Cert.ReferenceIdeal Cert.ReferenceIdeal.Facts₀ in
/-- The reference runs, leaves its arguments alone, computes that, and ends with every semaphore at zero. -/
theorem run_reference (m : (ℓ : Loc nD τ sig) → Buf (Elt Ideal) ℓ) (g : Dev nD → PrngReg) :
    letI := Cert.ReferenceIdeal.Gen.facts
    θ_run (defs (F := Ideal)) (onTc (τ := τ) (main (F := Ideal))) ⟨m, fun _ => 0, g⟩ (fun r => (∀ c : Dev nD,
      r.2.mem ((c.tc : Thread nD τ).loc main_v96) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  letI := Cert.ReferenceIdeal.Gen.facts
  hlo_run
  · intro c
    refine ⟨?_, trivial, trivial, trivial, trivial⟩
    simp only [StableHlo.TRef.ofBuf_toBuf, StableHlo.TRef.ofBuf, StableHlo.TRef.toBuf, cast_eq]
    unfold refOut
    unfold refLeg
    rfl
  · refine funext fun g => ?_
    obtain ⟨_, sm⟩ := g
    cases sm with
    | reg s => exact s.elim0
    | dma s => exact s.elim0

/-- The reference runs, leaves its arguments alone, and ends with every semaphore at zero. -/
theorem frame_ReferenceIdeal : Cert.quiescent_ReferenceIdeal (hReferenceIdeal := Cert.ReferenceIdeal.Gen.facts) := fun m g _ =>
  θ_run_mono (run_reference m g) fun r h => ⟨fun c => (h.1 c).2, h.2⟩

end Cert.Proof
-- ==== Proof.Keys.lean ====
module

public import proofs.«01_k».proof.Proof.Region
public import Idealize.ShloMosaic.Lib.Routing.OpsOne
public import Idealize.ShloMosaic.Lib.Routing.Words
public import Idealize.ShloMosaic.Lib.Pointwise

@[expose] public section

noncomputable section

namespace Cert.KernelIdeal.Run

open Cert.KernelIdeal Cert.KernelIdeal.Gen
open Idealize.ShloMosaic hiding ix1 ix2
open Idealize.ShloMosaic.Routing Idealize.ShloMosaic.ValueIdx

/-! # Which slot the program gives to a token -/

/-- Whether a token goes to an expert, as a matrix of zeros and ones. -/
def hotOf (a : IVec S1024 32) : IVec S1024x8 32 :=
  extui 32 (cmpi .eq (broadcastInDim S1024x8 ![0, 1] bcast_S1024x1_S1024x8_0_1 (broadcastInDim S1024x1 ![0] bcast_S1024_S1024x1_0 a))
    (broadcastInDim S1024x8 ![0, 1] bcast_S1x8_S1024x8_0_1 (broadcastInDim S1x8 ![1] bcast_S8_S1x8_1 (iotaInDim S8 32 0)))) natLt_1_32

/-- How many tokens up to a given one go to an expert. -/
def cumOf (a : IVec S1024 32) : IVec S1024x8 32 :=
  Host.reduceWindow IntOp.addi ![1024, 1] ![1, 1] ![1023, 0] ![0, 0] (hotOf a) (broadcastInDim S_ ![] bcast_S_S_ (constantI S_ 32 0#32))
    reduceWindows_S1024x8_S1024x8_w1024s1p1023_0_w1s1p0_0 h_S_

/-- The slot of every token: its expert's first slot, and as many more as earlier tokens go there. -/
def keyOf (a : IVec S1024 32) : IVec S1024 32 :=
  addi (muli a (broadcastInDim S1024 ![] bcast_S_S1024 (constantI S_ 32 160#32)))
    (subi (Host.reduce IntOp.addi (muli (hotOf a) (cumOf a)) (constantI S_ 32 0#32) reducesTo_S1024x8_S1024_d1 h_S_)
      (broadcastInDim S1024 ![] bcast_S_S1024 (constantI S_ 32 1#32)))

variable (a : IVec S1024 32)

/-- The tokens up to `t` that go to expert `e`. -/
def upTo (t : Fin 1024) (e : ℕ) : Finset (Fin 1024) := Finset.univ.filter fun s => s ≤ t ∧ a (ix1 s) = BitVec.ofNat 32 e

/-- The slot of a token, as a number. -/
def slot (t : Fin 1024) : ℕ := (a (ix1 t)).toNat * 160 + ((upTo a t (a (ix1 t)).toNat).card - 1)

theorem hot_apply (t : Fin 1024) (e : Fin 8) : hotOf a (ix2 t e) = if a (ix1 t) = BitVec.ofNat 32 e.val then 1 else 0 := by
  have h1 := bcRows (n := 1024) (m := 8) bcast_S1024_S1024x1_0 bcast_S1024x1_S1024x8_0_1 a t e
  have h2 := bcCols (n := 1024) (m := 8) bcast_S8_S1x8_1 bcast_S1x8_S1024x8_0_1 (iotaInDim S8 32 0) t e
  refine (congrArg₂ (fun p q : BitVec 32 => (IntOp.cmpi .eq p q).setWidth 32) h1 h2).trans ?_
  show (BitVec.ofBool (decide (a (ix1 t) = BitVec.ofNat 32 e.val))).setWidth 32 = _
  rw [setWidth_ofBool]
  split <;> rfl

theorem cum_apply (t : Fin 1024) (e : Fin 8) : cumOf a (ix2 t e) = BitVec.ofNat 32 (upTo a t e.val).card := by
  unfold cumOf
  rw [cumsum_rows_sum (A := 1024) (Am1 := 1023) (N := 8) rfl _ _ (by rw [bc0]; rfl)]
  simp only [hot_apply, ← ite_and]
  rw [Finset.sum_boole]
  rfl

theorem pos_apply (t : Fin 1024) (h : (a (ix1 t)).toNat < 8) :
    Host.reduce IntOp.addi (muli (hotOf a) (cumOf a)) (constantI S_ 32 0#32) reducesTo_S1024x8_S1024_d1 h_S_ (ix1 t)
      = BitVec.ofNat 32 (upTo a t (a (ix1 t)).toNat).card := by
  rw [Host.reduce_eq_fold, Shape.ReducesTo.fold_fiber_r2_a1]
  show Finset.fold (· + ·) (0 : BitVec 32) (fun k : Fin 8 => hotOf a (ix2 t k) * cumOf a (ix2 t k)) Finset.univ = _
  rw [← Finset.sum_eq_fold]
  rw [Finset.sum_eq_single (⟨(a (ix1 t)).toNat, h⟩ : Fin 8)]
  · rw [hot_apply, cum_apply, if_pos (by simp), one_mul]
  · intro e _ he
    rw [hot_apply, if_neg, zero_mul]
    intro q
    apply he
    apply Fin.ext
    have h3 := e.isLt
    have h4 := congrArg BitVec.toNat q
    rw [BitVec.toNat_ofNat, Nat.mod_eq_of_lt (by omega)] at h4
    exact h4.symm
  · intro q
    exact absurd (Finset.mem_univ _) q

/-- A token is among those up to itself that go where it goes. -/
theorem mem_upTo (t : Fin 1024) : t ∈ upTo a t (a (ix1 t)).toNat := by
  unfold upTo
  rw [Finset.mem_filter]
  exact ⟨Finset.mem_univ _, le_refl _, by simp⟩

theorem upTo_pos (t : Fin 1024) : 0 < (upTo a t (a (ix1 t)).toNat).card := Finset.card_pos.mpr ⟨t, mem_upTo a t⟩

theorem upTo_le (t : Fin 1024) (e : ℕ) : (upTo a t e).card ≤ 1024 :=
  (Finset.card_le_univ _).trans (le_of_eq (Fintype.card_fin 1024))

/-- The slot the program gives to a token. -/
theorem key_apply (t : Fin 1024) (h : (a (ix1 t)).toNat < 8) : keyOf a (ix1 t) = BitVec.ofNat 32 (slot a t) := by
  have h1 := upTo_pos a t
  have h2 := upTo_le a t (a (ix1 t)).toNat
  show a (ix1 t) * broadcastInDim S1024 ![] bcast_S_S1024 (constantI S_ 32 160#32) (ix1 t)
    + (Host.reduce IntOp.addi (muli (hotOf a) (cumOf a)) (constantI S_ 32 0#32) reducesTo_S1024x8_S1024_d1 h_S_ (ix1 t)
      - broadcastInDim S1024 ![] bcast_S_S1024 (constantI S_ 32 1#32) (ix1 t)) = _
  rw [pos_apply a t h, bc0, bc0]
  show a (ix1 t) * 160#32 + (BitVec.ofNat 32 _ - 1#32) = _
  rw [StableHlo.Predicate.sub_one_ofNat _ h1 (by omega)]
  unfold slot
  apply BitVec.eq_of_toNat_eq
  simp only [BitVec.toNat_add, BitVec.toNat_mul, BitVec.toNat_ofNat]
  omega

/-- What the precondition says of the experts a device's tokens are assigned. -/
structure Fits : Prop where
  lt : ∀ t : Fin 1024, (a (ix1 t)).toNat < 8
  le : ∀ e : ℕ, e < 8 → (Finset.univ.filter fun s : Fin 1024 => a (ix1 s) = BitVec.ofNat 32 e).card ≤ 160

variable {a}

theorem Fits.upTo_le (h : Fits a) (t : Fin 1024) : (upTo a t (a (ix1 t)).toNat).card ≤ 160 := by
  refine le_trans (Finset.card_le_card ?_) (h.le _ (h.lt t))
  intro s hs
  unfold upTo at hs
  rw [Finset.mem_filter] at hs ⊢
  exact ⟨hs.1, hs.2.2⟩

/-- A token's slot is one of its expert's 160. -/
theorem Fits.slot_div (h : Fits a) (t : Fin 1024) : slot a t / 160 = (a (ix1 t)).toNat := by
  have h1 := upTo_pos a t
  have h2 := h.upTo_le t
  unfold slot
  omega

theorem Fits.slot_lt (h : Fits a) (t : Fin 1024) : slot a t < 1280 := by
  have h1 := h.slot_div t
  have h2 := h.lt t
  omega

/-- No two tokens have the same slot. -/
theorem Fits.slot_inj (h : Fits a) {s t : Fin 1024} (e : slot a s = slot a t) : s = t := by
  have e1 : (a (ix1 s)).toNat = (a (ix1 t)).toNat := by rw [← h.slot_div s, ← h.slot_div t, e]
  have key : ∀ u v : Fin 1024, (a (ix1 u)).toNat = (a (ix1 v)).toNat → slot a u = slot a v → ¬ u < v := by
    intro u v e1 e2 hlt
    have hs : upTo a u (a (ix1 u)).toNat ⊂ upTo a v (a (ix1 v)).toNat := by
      rw [Finset.ssubset_iff_of_subset]
      · refine ⟨v, mem_upTo a v, fun q => ?_⟩
        unfold upTo at q
        rw [Finset.mem_filter] at q
        exact absurd q.2.1 (not_le.mpr hlt)
      · intro w hw
        unfold upTo at hw ⊢
        rw [Finset.mem_filter] at hw ⊢
        exact ⟨hw.1, hw.2.1.trans hlt.le, e1 ▸ hw.2.2⟩
    have hc := Finset.card_lt_card hs
    have h1 := upTo_pos a u
    unfold slot at e2
    omega
  exact le_antisymm (not_lt.mp (key t s e1.symm e.symm)) (not_lt.mp (key s t e1 e))

end Cert.KernelIdeal.Run
-- ==== Proof.Given.lean ====
module

public import proofs.«01_k».proof.Defs
public import proofs.«01_k».proof.Proof.Keys
public import proofs.«01_k».proof.Proof.Gen.Pre_pre_KernelIdeal
public import Idealize.ShloMosaic.Lib.ReduceAll
public import Idealize.ShloMosaic.Lib.Claim
public import Idealize.ShloMosaic.Lib.Pipeline.ValueKit.Geometry

@[expose] public section

noncomputable section

namespace Cert.KernelIdeal.Run

open Cert.KernelIdeal Cert.KernelIdeal.Gen
open Idealize.ShloMosaic hiding ix0 ix1 ix2
open Idealize.ShloMosaic.TcCoe
open Idealize.ShloMosaic.Routing Idealize.ShloMosaic.ValueIdx

/-! # What the kernel is given -/

section
variable (m : (ℓ : Loc nD τ sig) → Buf (Elt Ideal) ℓ) (c : Dev nD)

/-- The tokens, as the kernel gets them. -/
theorem V₁_x : V₁ m c (Proc.devRef .tc main_v1) = truncf (F := Ideal) .bf16 (m (c, Proc.devRef .tc main_arg0)) bitsLt_bf16_f32 := by
  unfold V₁ V₀
  simp only [hostOps0, hostOps0_1, hostOps0_2, List.flatten_cons, List.flatten_nil, List.append_nil, List.cons_append, List.nil_append]
  after_results

/-- The tokens' slots, as a row. -/
theorem V₁_kr : V₁ m c (Proc.devRef .tc main_v17) = shapeCast S1x1024 (keyOf (m (c, Proc.devRef .tc main_arg1))) shapeCasts_S1024_S1x1024 := by
  unfold V₁ V₀
  simp only [hostOps0, hostOps0_1, hostOps0_2, List.flatten_cons, List.flatten_nil, List.append_nil, List.cons_append, List.nil_append]
  after_results
  simp only [StableHlo.TRef.ofBuf_toBuf, StableHlo.TRef.ofBuf, StableHlo.TRef.toBuf, cast_eq]
  unfold keyOf cumOf hotOf
  rfl

/-- The tokens' slots, as a column. -/
theorem V₁_kc : V₁ m c (Proc.devRef .tc main_v18) = shapeCast S1024x1 (keyOf (m (c, Proc.devRef .tc main_arg1))) shapeCasts_S1024_S1024x1 := by
  unfold V₁ V₀
  simp only [hostOps0, hostOps0_1, hostOps0_2, List.flatten_cons, List.flatten_nil, List.append_nil, List.cons_append, List.nil_append]
  after_results
  simp only [StableHlo.TRef.ofBuf_toBuf, StableHlo.TRef.ofBuf, StableHlo.TRef.toBuf, cast_eq]
  unfold keyOf cumOf hotOf
  rfl

theorem ins_x : (ins m).x c = V₁ m c (Proc.devRef .tc main_v1) := by
  funext j
  show V₁ m c (Proc.devRef .tc main_v1) (((cfg0.win 0).blk t0_0).view.emb j) = V₁ m c (Proc.devRef .tc main_v1) j
  refine congrArg _ ?_
  have h0 : win0_0.index t0_0 0 = 0 := by decide
  have h1 : win0_0.index t0_0 1 = 0 := by decide
  blk_ext [h0, h1]
theorem ins_kr : (ins m).kr c = V₁ m c (Proc.devRef .tc main_v17) := by
  funext j
  show V₁ m c (Proc.devRef .tc main_v17) (((cfg0.win 1).blk t0_0).view.emb j) = V₁ m c (Proc.devRef .tc main_v17) j
  refine congrArg _ ?_
  have h0 : win0_1.index t0_0 0 = 0 := by decide
  have h1 : win0_1.index t0_0 1 = 0 := by decide
  blk_ext [h0, h1]
theorem ins_kc : (ins m).kc c = V₁ m c (Proc.devRef .tc main_v18) := by
  funext j
  show V₁ m c (Proc.devRef .tc main_v18) (((cfg0.win 2).blk t0_0).view.emb j) = V₁ m c (Proc.devRef .tc main_v18) j
  refine congrArg _ ?_
  have h0 : win0_2.index t0_0 0 = 0 := by decide
  have h1 : win0_2.index t0_0 1 = 0 := by decide
  blk_ext [h0, h1]
theorem ins_w1 : (ins m).w1 c = m (c, Proc.devRef .tc main_arg2) := V_main_arg2 m c
theorem ins_w2 : (ins m).w2 c = m (c, Proc.devRef .tc main_arg3) := V_main_arg3 m c

end

/-! # What the precondition says -/

theorem fits_of_pre (x : FVec Ideal S1024x1024 .f32) (a : IVec S1024 32) (u : FVec Ideal S2x1024x2048 .f32) (v : FVec Ideal S2x2048x1024 .f32)
    (h : letI := Cert.Pre_pre_KernelIdeal.Gen.facts; Cert.Pre_pre_KernelIdeal.fn (F := Ideal) x a u v = fun _ => 1#1) : Fits a := by
  letI := Cert.Pre_pre_KernelIdeal.Gen.facts
  have h0 := congrFun h ix0
  have both : ∀ p q : BitVec 1, p &&& q = 1#1 → p = 1#1 ∧ q = 1#1 := by decide
  obtain ⟨h1, h2⟩ := both _ _ h0
  constructor
  · intro t
    have h3 := Host.reduce_andi_all _ _ _ _ _ h1 (ix1 t)
    obtain ⟨h4, h5⟩ := both _ _ h3
    have h6 : IntOp.cmpi .sge (a (ix1 t)) 0#32 = 1#1 := h4
    have h7 : IntOp.cmpi .slt (a (ix1 t)) 8#32 = 1#1 := h5
    have small : ∀ w : BitVec 32, IntOp.cmpi .sge w 0#32 = 1#1 → IntOp.cmpi .slt w 8#32 = 1#1 → w.toNat < 8 := by
      intro w p q
      have p' := (StableHlo.Predicate.ofBool_eq_one_iff _).mp p
      have q' := (StableHlo.Predicate.ofBool_eq_one_iff _).mp q
      simp only [BitVec.sle, BitVec.slt, decide_eq_true_eq, BitVec.toInt_eq_toNat_cond, BitVec.toNat_ofNat] at p' q'
      split at p' <;> split at q' <;> omega
    exact small _ h6 h7
  · intro e he
    have h3 := Host.reduce_andi_all _ _ _ _ _ h2 (ix1 (⟨e, he⟩ : Fin 8))
    have h4 : IntOp.cmpi .sle (Host.reduce IntOp.addi (hotOf a) (constantI S_ 32 0#32) Cert.Pre_pre_KernelIdeal.Facts.reducesTo_S1024x8_S8_d0 h_S_
        (ix1 (⟨e, he⟩ : Fin 8))) 160#32 = 1#1 := h3
    have h5 := StableHlo.Predicate.toNat_reduce_count_rows (n := 1024) (m := 8) (by norm_num)
      (cmpi .eq (broadcastInDim S1024x8 ![0, 1] bcast_S1024x1_S1024x8_0_1 (broadcastInDim S1024x1 ![0] bcast_S1024_S1024x1_0 a))
        (broadcastInDim S1024x8 ![0, 1] bcast_S1x8_S1024x8_0_1 (broadcastInDim S1x8 ![1] bcast_S8_S1x8_1 (iotaInDim S8 32 0))))
      natLt_1_32 Cert.Pre_pre_KernelIdeal.Facts.reducesTo_S1024x8_S8_d0 h_S_ (ix1 (⟨e, he⟩ : Fin 8))
    have h6 : ∀ s : Fin 1024, cmpi .eq (broadcastInDim S1024x8 ![0, 1] bcast_S1024x1_S1024x8_0_1 (broadcastInDim S1024x1 ![0] bcast_S1024_S1024x1_0 a))
        (broadcastInDim S1024x8 ![0, 1] bcast_S1x8_S1024x8_0_1 (broadcastInDim S1x8 ![1] bcast_S8_S1x8_1 (iotaInDim S8 32 0)))
        (StableHlo.Predicate.ij s (⟨e, he⟩ : Fin 8)) = 1#1 ↔ a (ix1 s) = BitVec.ofNat 32 e := by
      intro s
      rw [ij_eq_ix2]
      have q1 := bcRows (n := 1024) (m := 8) bcast_S1024_S1024x1_0 bcast_S1024x1_S1024x8_0_1 a s ⟨e, he⟩
      have q2 := bcCols (n := 1024) (m := 8) bcast_S8_S1x8_1 bcast_S1x8_S1024x8_0_1 (iotaInDim S8 32 0) s ⟨e, he⟩
      have q3 : IntOp.cmpi .eq (a (ix1 s)) (BitVec.ofNat 32 e) = 1#1 ↔ a (ix1 s) = BitVec.ofNat 32 e := StableHlo.Predicate.cmpi_eq_iff
      refine Iff.trans (Eq.to_iff (congrArg (· = 1#1) ?_)) q3
      exact congrArg₂ (fun p q : BitVec 32 => IntOp.cmpi .eq p q) q1 q2
    have h7 : (Finset.univ.filter fun s : Fin 1024 => a (ix1 s) = BitVec.ofNat 32 e).card ≤ 1024 :=
      (Finset.card_le_univ _).trans (le_of_eq (Fintype.card_fin 1024))
    rw [← Finset.filter_congr fun s _ => h6 s] at h7 ⊢
    refine le_trans (le_of_eq h5.symm) ?_
    have h8 := h5.le.trans h7
    refine (StableHlo.Predicate.sle_iff_toNat (b := 160#32) (lt_of_le_of_lt h8 (by norm_num)) (by decide)).mp h4

end Cert.KernelIdeal.Run
-- ==== Proof.Rows.lean ====
module

public import proofs.«01_k».proof.Proof.Body3
public import Idealize.ShloMosaic.Lib.Pointwise

@[expose] public section

noncomputable section

namespace Cert.KernelIdeal.Run

open Cert.KernelIdeal Cert.KernelIdeal.Gen
open Idealize.ShloMosaic

/-! # What the one-hot products pick -/

/-- An equality of words, as the number that the one-hot matrices hold. -/
theorem bit_apply (p q : BitVec 32) : FloatOps.sitofp (F := Ideal) .f32 ((IntOp.cmpi .eq p q).setWidth 32) = if p = q then 1 else 0 := by
  show (((((BitVec.ofBool (decide (p = q))).setWidth 32).toInt : ℝ)) : EReal) = _
  by_cases h : p = q
  · rw [if_pos h, decide_eq_true h]
    have : ((BitVec.ofBool true).setWidth 32).toInt = 1 := by decide
    rw [this]
    norm_num
  · rw [if_neg h, decide_eq_false h]
    have : ((BitVec.ofBool false).setWidth 32).toInt = 0 := by decide
    rw [this]
    norm_num

theorem wd_eq (d : Dev nD) : wd d = BitVec.ofNat 32 d.val := by
  revert d; decide +kernel

/-- Row `r` of device `d` is the slot `320 * d + r`. -/
theorem word_eq (d : Dev nD) (r : Fin 320) {k : ℕ} (hk : k < 1280) :
    BitVec.ofNat 32 r.val + wd d * 320#32 = BitVec.ofNat 32 k ↔ k = 320 * d.val + r.val := by
  have hr := r.isLt
  have hd : d.val < 4 := d.isLt
  rw [wd_eq, ← BitVec.toNat_inj]
  simp only [BitVec.toNat_add, BitVec.toNat_mul, BitVec.toNat_ofNat]
  omega

/-- One expert applied to one row. -/
def mlp (y : Fin 1024 → EReal) (u : Fin 1024 → Fin 2048 → EReal) (v : Fin 2048 → Fin 1024 → EReal) (j : Fin 1024) : EReal :=
  ∑ f : Fin 2048, max (∑ i : Fin 1024, y i * u i f) 0 * v f j

variable (I : Ins Ideal) (c d s : Dev nD)

/-- What the slots of the tokens are. -/
structure Slots (K : Dev nD → Fin 1024 → ℕ) : Prop where
  kr : ∀ c t, I.kr c (ix2 0 t) = BitVec.ofNat 32 (K c t)
  kc : ∀ c t, I.kc c (ix2 t 0) = BitVec.ofNat 32 (K c t)
  lt : ∀ c t, K c t < 1280
  inj : ∀ c t t', K c t = K c t' → t = t'

theorem disp_apply (r : Fin 320) (j : Fin 1024) : disp I c d (ix2 r j)
    = ∑ t : Fin 1024, (if BitVec.ofNat 32 r.val + wd d * 320#32 = I.kr c (ix2 0 t) then 1 else 0) * I.x c (ix2 t j) := by
  unfold disp
  pointwise [k0_pay9, k0_pay8]
  exact Finset.sum_congr rfl fun t _ => congrArg (· * _) (bit_apply _ _)

/-- Expert `x` of device `s`, one row at a time. -/
theorem expert_apply (x : Fin 2) (y : Vec Ideal S160x1024 .bf16) (r : Fin 160) (j : Fin 1024) : expert I s x y (ix2 r j)
    = mlp (fun i => y (ix2 r i)) (fun i f => I.w1 s (ix3 x i f)) (fun f j => I.w2 s (ix3 x f j)) j := by
  unfold expert w1f w2f mlp
  pointwise [k0_pay22]
  have e1 : ∀ (i : Fin 1024) (f : Fin 2048), (ex1 x).emb (ix3 0 i f) = ix3 x i f := by
    intro i f
    funext a
    apply Fin.ext
    match a with
    | ⟨0, _⟩ => show x.val + 1 * 0 = x.val; omega
    | ⟨1, _⟩ => show 0 + 1 * i.val = i.val; omega
    | ⟨2, _⟩ => show 0 + 1 * f.val = f.val; omega
  have e2 : ∀ (f : Fin 2048) (i : Fin 1024), (ex2 x).emb (ix3 0 f i) = ix3 x f i := by
    intro f i
    funext a
    apply Fin.ext
    match a with
    | ⟨0, _⟩ => show x.val + 1 * 0 = x.val; omega
    | ⟨1, _⟩ => show 0 + 1 * f.val = f.val; omega
    | ⟨2, _⟩ => show 0 + 1 * i.val = i.val; omega
  refine Finset.sum_congr rfl fun f _ => ?_
  rw [e2]
  refine congrArg (fun z => max z 0 * _) (Finset.sum_congr rfl fun i _ => ?_)
  rw [e1]

/-- What is added to token `t`'s row for device `s`. -/
def term (t j : Fin 1024) : EReal :=
  ∑ r : Fin 320, (if BitVec.ofNat 32 r.val + wd s * 320#32 = I.kc c (ix2 t 0) then 1 else 0) * ret I s c (ix2 r j)

theorem out0_apply (t j : Fin 1024) : out0 I c (ix2 t j) = term I c c t j := by
  unfold out0 term
  pointwise [k0_pay39, k0_pay38]
  exact Finset.sum_congr rfl fun t _ => congrArg (· * _) (bit_apply _ _)

theorem out1_apply (t j : Fin 1024) : out1 I c (ix2 t j) = term I c c t j + term I c (sh c 1) t j := by
  rw [← out0_apply]
  unfold out1 term
  rw [← show wdp (wd c) 1#32 = wd (sh c 1) from wdp_eq c 0]
  pointwise [k0_pay50]
  exact congrArg _ (Finset.sum_congr rfl fun t _ => congrArg (· * _) (bit_apply _ _))

theorem out2_apply (t j : Fin 1024) : out2 I c (ix2 t j) = term I c c t j + term I c (sh c 1) t j + term I c (sh c 2) t j := by
  rw [← out1_apply]
  unfold out2 term
  rw [← show wdp (wd c) 2#32 = wd (sh c 2) from wdp_eq c 1]
  pointwise [k0_pay51, k0_pay52, k0_pay53]
  exact congrArg _ (Finset.sum_congr rfl fun t _ => congrArg (· * _) (bit_apply _ _))

/-- A row of the result: what every device sent back for it. -/
theorem out3_apply (t j : Fin 1024) :
    out3 I c (ix2 t j) = term I c c t j + term I c (sh c 1) t j + term I c (sh c 2) t j + term I c (sh c 3) t j := by
  rw [← out2_apply]
  unfold out3 term
  rw [← show wdp (wd c) 3#32 = wd (sh c 3) from wdp_eq c 2]
  pointwise [k0_pay54, k0_pay55, k0_pay56]
  exact congrArg _ (Finset.sum_congr rfl fun t _ => congrArg (· * _) (bit_apply _ _))

variable {I} {K : Dev nD → Fin 1024 → ℕ} (h : Slots I K)
include h

/-- The row of a token in the bucket that it goes to. -/
theorem Slots.disp (t : Fin 1024) (r : Fin 320) (e : K c t = 320 * d.val + r.val) (j : Fin 1024) : disp I c d (ix2 r j) = I.x c (ix2 t j) := by
  rw [disp_apply, Finset.sum_eq_single t]
  · rw [if_pos (by rw [h.kr, word_eq _ _ (h.lt c t)]; exact e), one_mul]
  · intro t' _ ht
    rw [if_neg, zero_mul]
    rw [h.kr, word_eq _ _ (h.lt c t')]
    exact fun e' => ht (h.inj c _ _ (e'.trans e.symm))
  · exact fun q => absurd (Finset.mem_univ _) q

/-- What a token's device of experts sends back in its slot. -/
theorem Slots.ret (t : Fin 1024) (r : Fin 320) (e : K c t = 320 * s.val + r.val) (x : Fin 2) (hx : x.val = r.val / 160) (j : Fin 1024) :
    ret I s c (ix2 r j) = mlp (fun i => I.x c (ix2 t i)) (fun i f => I.w1 s (ix3 x i f)) (fun f j => I.w2 s (ix3 x f j)) j := by
  have hr := r.isLt
  have half_at : ∀ (y : Fin 2) (q : Fin 160) (i : Fin 1024), r.val = 160 * y.val + q.val → Run.disp I c s ((half y).emb (ix2 q i)) = I.x c (ix2 t i) := by
    intro y q i hq
    rw [← h.disp c s t r e i]
    refine congrArg _ ?_
    funext a
    apply Fin.ext
    match a with
    | ⟨0, _⟩ => show 160 * y.val + 1 * q.val = r.val; omega
    | ⟨1, _⟩ => show 0 + 1 * i.val = i.val; omega
  unfold Run.ret cat
  by_cases hlt : r.val < 160
  · obtain rfl : x = 0 := Fin.ext (by rw [hx]; show _ = 0; omega)
    rw [dif_pos (show ((ix2 r j : S320x1024.Idx) 0).val < 160 from hlt)]
    refine Eq.trans (congrArg _ ?_) ((expert_apply I s 0 _ ⟨r.val, hlt⟩ j).trans ?_)
    · funext a
      match a with
      | ⟨0, _⟩ => rfl
      | ⟨1, _⟩ => rfl
    · refine congrArg (fun y => mlp y _ _ j) (funext fun i => half_at 0 ⟨r.val, hlt⟩ i ?_)
      show r.val = 160 * 0 + r.val; omega
  · obtain rfl : x = 1 := Fin.ext (by rw [hx]; show _ = 1; omega)
    rw [dif_neg (show ¬ ((ix2 r j : S320x1024.Idx) 0).val < 160 from hlt)]
    refine Eq.trans (congrArg _ ?_) ((expert_apply I s 1 _ ⟨r.val - 160, by omega⟩ j).trans ?_)
    · funext a
      match a with
      | ⟨0, _⟩ => rfl
      | ⟨1, _⟩ => rfl
    · refine congrArg (fun y => mlp y _ _ j) (funext fun i => half_at 1 ⟨r.val - 160, by omega⟩ i ?_)
      show r.val = 160 * 1 + (r.val - 160)
      omega

/-- The device that a token goes to adds what it sent back. -/
theorem Slots.term_hit (t : Fin 1024) (r : Fin 320) (e : K c t = 320 * s.val + r.val) (j : Fin 1024) : term I c s t j = Run.ret I s c (ix2 r j) := by
  unfold term
  rw [Finset.sum_eq_single r]
  · rw [if_pos (by rw [h.kc, word_eq _ _ (h.lt c t)]; exact e), one_mul]
  · intro r' _ hr
    rw [if_neg, zero_mul]
    rw [h.kc, word_eq _ _ (h.lt c t)]
    exact fun e' => hr (Fin.ext (by omega))
  · exact fun q => absurd (Finset.mem_univ _) q

/-- The other devices add nothing. -/
theorem Slots.term_miss (t : Fin 1024) (e : K c t / 320 ≠ s.val) (j : Fin 1024) : term I c s t j = 0 := by
  unfold term
  refine Finset.sum_eq_zero fun r _ => ?_
  rw [if_neg, zero_mul]
  rw [h.kc, word_eq _ _ (h.lt c t)]
  have := r.isLt
  omega

/-- A row of the result: the expert in whose slots the token lies, applied to the token. -/
theorem Slots.out (t j : Fin 1024) (s : Dev nD) (x : Fin 2) (e : K c t / 160 = 2 * s.val + x.val) :
    out3 I c (ix2 t j) = mlp (fun i => I.x c (ix2 t i)) (fun i f => I.w1 s (ix3 x i f)) (fun f j => I.w2 s (ix3 x f j)) j := by
  have hx := x.isLt
  have hc : c.val < 4 := c.isLt
  have hs : s.val < 4 := s.isLt
  have hit : term I c s t j = _ := (h.term_hit c s t ⟨K c t - 320 * s.val, by omega⟩ (by show _ = _ + (_ - _); omega) j).trans
    (h.ret c s t ⟨K c t - 320 * s.val, by omega⟩ (by show _ = _ + (_ - _); omega) x (by show _ = (_ - _) / 160; omega) j)
  have miss : ∀ s' : Dev nD, s'.val ≠ s.val → term I c s' t j = 0 := fun s' q => h.term_miss c s' t (by omega) j
  have shv : ∀ i : Fin 4, (sh c i).val = (c.val + i.val) % 4 := fun i => rfl
  have v1 : (sh c 1).val = (c.val + 1) % 4 := rfl
  have v2 : (sh c 2).val = (c.val + 2) % 4 := rfl
  have v3 : (sh c 3).val = (c.val + 3) % 4 := rfl
  rw [out3_apply, ← hit]
  have four : s.val = c.val ∨ s.val = (c.val + 1) % 4 ∨ s.val = (c.val + 2) % 4 ∨ s.val = (c.val + 3) % 4 := by omega
  rcases four with q | q | q | q
  · obtain rfl : s = c := Fin.ext q
    rw [miss (sh s 1) (by omega), miss (sh s 2) (by omega), miss (sh s 3) (by omega), add_zero, add_zero, add_zero]
  · obtain rfl : s = sh c 1 := Fin.ext q
    rw [miss c (by omega), miss (sh c 2) (by omega), miss (sh c 3) (by omega), zero_add, add_zero, add_zero]
  · obtain rfl : s = sh c 2 := Fin.ext q
    rw [miss c (by omega), miss (sh c 1) (by omega), miss (sh c 3) (by omega), zero_add, zero_add, add_zero]
  · obtain rfl : s = sh c 3 := Fin.ext q
    rw [miss c (by omega), miss (sh c 1) (by omega), miss (sh c 2) (by omega), zero_add, zero_add, zero_add]

end Cert.KernelIdeal.Run
-- ==== Proof.RefRows.lean ====
module

public import proofs.«01_k».proof.Proof.RefFrame
public import proofs.«01_k».proof.Proof.Rows
public import Idealize.ShloMosaic.Lib.StableHlo.Predicate

@[expose] public section

noncomputable section

namespace Cert.Proof

open Idealize.ShloMosaic Cert.KernelIdeal.Run

/-! # The reference, one row at a time -/

open Cert.ReferenceIdeal in
/-- One expert's part of the reference at one place. -/
theorem refLeg_apply (x : Vec Ideal S4096x1024 .f32) (a : Vec Ideal S4096 .i32) (e : BitVec 32) (u : Vec Ideal S1x1024x2048 .f32) (v : Vec Ideal S1x2048x1024 .f32)
    (prev : Vec Ideal S4096x1024 .f32) (t : Fin 4096) (j : Fin 1024) : refLeg x a e u v prev (ix2 t j)
      = if a (ix1 t) = e then mlp (fun i => x (ix2 t i)) (fun i f => u (ix3 0 i f)) (fun f j => v (ix3 0 f j)) j else prev (ix2 t j) := by
  unfold mlp
  pointwise [refLeg]
  by_cases h : a (ix1 t) = e
  · rw [if_pos h, StableHlo.Predicate.cmpi_eq_iff.mpr h]
    rfl
  · rw [if_neg h]
    have h0 : IntOp.cmpi .eq (a (ix1 t)) e = 0#1 := by
      show BitVec.ofBool (decide (a (ix1 t) = e)) = 0#1
      rw [decide_eq_false h]
      rfl
    rw [h0]
    rfl

open Cert.ReferenceIdeal in
/-- One expert's first weights, cut out of all of them. -/
theorem cut1_apply (k : ℕ) (hk : k < 8) (w : Vec Ideal S8x1024x2048 .f32) (h : S8x1024x2048.Slices ![k, 0, 0] S1x1024x2048) (i : Fin 1024) (f : Fin 2048) :
    extractStridedSlice S1x1024x2048 ![k, 0, 0] w h (ix3 0 i f) = w (ix3 ⟨k, hk⟩ i f) := by
  pointwise

open Cert.ReferenceIdeal in
/-- One expert's second weights, cut out of all of them. -/
theorem cut2_apply (k : ℕ) (hk : k < 8) (w : Vec Ideal S8x2048x1024 .f32) (h : S8x2048x1024.Slices ![k, 0, 0] S1x2048x1024) (f : Fin 2048) (j : Fin 1024) :
    extractStridedSlice S1x2048x1024 ![k, 0, 0] w h (ix3 0 f j) = w (ix3 ⟨k, hk⟩ f j) := by
  pointwise

open Cert.ReferenceIdeal in
/-- A row of the reference's result: the assigned expert applied to the token. -/
theorem refOut_apply (x : Vec Ideal S4096x1024 .f32) (a : Vec Ideal S4096 .i32) (w1 : Vec Ideal S8x1024x2048 .f32) (w2 : Vec Ideal S8x2048x1024 .f32)
    (t : Fin 4096) (j : Fin 1024) (e : Fin 8) (he : a (ix1 t) = BitVec.ofNat 32 e.val) :
    refOut x a w1 w2 (ix2 t j) = mlp (fun i => x (ix2 t i)) (fun i f => w1 (ix3 e i f)) (fun f j => w2 (ix3 e f j)) j := by
  unfold refOut
  simp only [refLeg_apply, he]
  rw [funext₂ (cut1_apply 7 (by decide) w1 _), funext₂ (cut2_apply 7 (by decide) w2 _), funext₂ (cut1_apply 6 (by decide) w1 _), funext₂ (cut2_apply 6 (by decide) w2 _),
    funext₂ (cut1_apply 5 (by decide) w1 _), funext₂ (cut2_apply 5 (by decide) w2 _), funext₂ (cut1_apply 4 (by decide) w1 _), funext₂ (cut2_apply 4 (by decide) w2 _),
    funext₂ (cut1_apply 3 (by decide) w1 _), funext₂ (cut2_apply 3 (by decide) w2 _), funext₂ (cut1_apply 2 (by decide) w1 _), funext₂ (cut2_apply 2 (by decide) w2 _),
    funext₂ (cut1_apply 1 (by decide) w1 _), funext₂ (cut2_apply 1 (by decide) w2 _), funext₂ (cut1_apply 0 (by decide) w1 _), funext₂ (cut2_apply 0 (by decide) w2 _)]
  clear he
  fin_cases e <;> rfl

end Cert.Proof
-- ==== Proof.Match.lean ====
module

public import proofs.«01_k».proof.Defs
public import proofs.«01_k».proof.Proof.Given
public import proofs.«01_k».proof.Proof.RefRows
public import proofs.«01_k».proof.Proof.Launch
public import Idealize.ShloMosaic.Lib.StableHlo.RunHlo

@[expose] public section

noncomputable section

namespace Cert.Proof

open Idealize.ShloMosaic Idealize.ShloMosaic.TcCoe Idealize.SL.Sem Cert.KernelIdeal.Run

/-! # The kernel computes what the reference computes -/

section
open Cert.KernelIdeal Cert.KernelIdeal.Gen

variable (m : (ℓ : Loc nD τ sig) → Buf (Elt Ideal) ℓ)

/-- The experts that device `c`'s tokens are assigned. -/
def assigned (c : Dev nD) : IVec S1024 32 := m (c, Proc.devRef .tc main_arg1)

/-- The slots that the program computes are the tokens' slots. -/
theorem slots_ins (h : ∀ c, Fits (assigned m c)) : Slots (ins m) fun c t => slot (assigned m c) t where
  kr c t := by
    rw [ins_kr, V₁_kr, ← key_apply _ t ((h c).lt t), ← ix1_eq_valueIdx]
    pointwise
    rfl
  kc c t := by
    rw [ins_kc, V₁_kc, ← key_apply _ t ((h c).lt t), ← ix1_eq_valueIdx]
    pointwise
    rfl
  lt c t := (h c).slot_lt t
  inj c t t' e := (h c).slot_inj e

theorem ins_x_apply (c : Dev nD) (t i : Fin 1024) : (ins m).x c (ix2 t i) = m (c, Proc.devRef .tc main_arg0) (ix2 t i) := by
  rw [ins_x, V₁_x]
  rfl

/-- A row of the kernel's result, from its arguments: token `t` goes to expert `x` of device `s`. -/
theorem kernel_row (h : ∀ c, Fits (assigned m c)) (c s : Dev nD) (x : Fin 2) (t j : Fin 1024)
    (e : (assigned m c (ix1 t)).toNat = 2 * s.val + x.val) : out3 (ins m) c (ix2 t j)
      = mlp (fun i => m (c, Proc.devRef .tc main_arg0) (ix2 t i)) (fun i f => m (s, Proc.devRef .tc main_arg2) (ix3 x i f))
          (fun f j => m (s, Proc.devRef .tc main_arg3) (ix3 x f j)) j := by
  have q := (slots_ins m h).out c t j s x (by
    show slot (assigned m c) t / 160 = _
    rw [(h c).slot_div t, ← ix1_eq_valueIdx, e])
  rw [q, ins_w1, ins_w2]
  exact congrArg (fun y => mlp y _ _ j) (funext fun i => ins_x_apply m c t i)

end

/-! ## Where a device's block lies -/

variable {α : Type}

theorem rows_apply (c : Fin 4) (y : (⟨2, ![4096, 1024]⟩ : Shape).Idx → α) (t i : Fin 1024) :
    (Layout.block ⟨2, ![1024, 1024]⟩ ⟨2, ![4096, 1024]⟩ 0 4 c y) (ix2 t i) = y (ix2 ⟨c.val * 1024 + t.val, by omega⟩ i) := by
  refine congrArg y (funext fun b => Fin.ext ?_)
  match b with
  | ⟨0, _⟩ => rfl
  | ⟨1, _⟩ => rfl

theorem words_apply (c : Fin 4) (y : (⟨1, ![4096]⟩ : Shape).Idx → α) (t : Fin 1024) :
    (Layout.block ⟨1, ![1024]⟩ ⟨1, ![4096]⟩ 0 4 c y) (ix1 t) = y (ix1 ⟨c.val * 1024 + t.val, by omega⟩) := by
  refine congrArg y (funext fun b => Fin.ext ?_)
  match b with
  | ⟨0, _⟩ => rfl

theorem first_apply (c : Fin 4) (y : (⟨3, ![8, 1024, 2048]⟩ : Shape).Idx → α) (x : Fin 2) (i : Fin 1024) (f : Fin 2048) :
    (Layout.block ⟨3, ![2, 1024, 2048]⟩ ⟨3, ![8, 1024, 2048]⟩ 0 4 c y) (ix3 x i f) = y (ix3 ⟨c.val * 2 + x.val, by omega⟩ i f) := by
  refine congrArg y (funext fun b => Fin.ext ?_)
  match b with
  | ⟨0, _⟩ => rfl
  | ⟨1, _⟩ => rfl
  | ⟨2, _⟩ => rfl

theorem second_apply (c : Fin 4) (y : (⟨3, ![8, 2048, 1024]⟩ : Shape).Idx → α) (x : Fin 2) (f : Fin 2048) (j : Fin 1024) :
    (Layout.block ⟨3, ![2, 2048, 1024]⟩ ⟨3, ![8, 2048, 1024]⟩ 0 4 c y) (ix3 x f j) = y (ix3 ⟨c.val * 2 + x.val, by omega⟩ f j) := by
  refine congrArg y (funext fun b => Fin.ext ?_)
  match b with
  | ⟨0, _⟩ => rfl
  | ⟨1, _⟩ => rfl
  | ⟨2, _⟩ => rfl

/-- Device `c`'s block of the reference's result is what the kernel leaves there. -/
theorem out_eq (m : (ℓ : Loc Cert.KernelIdeal.nD Cert.KernelIdeal.τ Cert.KernelIdeal.sig) → Buf (Elt Ideal) ℓ)
    (h : ∀ c, Fits (assigned m c))
    (x : Vec Ideal Cert.ReferenceIdeal.S4096x1024 .f32) (a : Vec Ideal Cert.ReferenceIdeal.S4096 .i32)
    (w1 : Vec Ideal Cert.ReferenceIdeal.S8x1024x2048 .f32) (w2 : Vec Ideal Cert.ReferenceIdeal.S8x2048x1024 .f32)
    (hx : ∀ c : Dev Cert.KernelIdeal.nD, m (c, Proc.devRef .tc Cert.KernelIdeal.main_arg0) = Layout.block ⟨2, ![1024, 1024]⟩ ⟨2, ![4096, 1024]⟩ 0 4 c x)
    (ha : ∀ c : Dev Cert.KernelIdeal.nD, m (c, Proc.devRef .tc Cert.KernelIdeal.main_arg1) = Layout.block ⟨1, ![1024]⟩ ⟨1, ![4096]⟩ 0 4 c a)
    (h1 : ∀ c : Dev Cert.KernelIdeal.nD, m (c, Proc.devRef .tc Cert.KernelIdeal.main_arg2) = Layout.block ⟨3, ![2, 1024, 2048]⟩ ⟨3, ![8, 1024, 2048]⟩ 0 4 c w1)
    (h2 : ∀ c : Dev Cert.KernelIdeal.nD, m (c, Proc.devRef .tc Cert.KernelIdeal.main_arg3) = Layout.block ⟨3, ![2, 2048, 1024]⟩ ⟨3, ![8, 2048, 1024]⟩ 0 4 c w2)
    (c : Dev Cert.KernelIdeal.nD) :
    out3 (ins m) c = Layout.block ⟨2, ![1024, 1024]⟩ ⟨2, ![4096, 1024]⟩ 0 4 c (refOut x a w1 w2) := by
  funext ι
  obtain ⟨t, j, rfl⟩ : ∃ (t j : Fin 1024), ι = ix2 t j := ⟨ι 0, ι 1, eq_ix2 ι⟩
  have hlt : (assigned m c (ix1 t)).toNat < 8 := by
    rw [ix1_eq_valueIdx]
    exact (h c).lt t
  have hw : assigned m c (ix1 t) = a (ix1 ⟨c.val * 1024 + t.val, by have : c.val < 4 := c.isLt; omega⟩) := by
    unfold assigned
    rw [ha]
    exact words_apply c a t
  generalize hn : (assigned m c (ix1 t)).toNat = n at hlt
  have he : a (ix1 ⟨c.val * 1024 + t.val, by have : c.val < 4 := c.isLt; omega⟩) = BitVec.ofNat 32 n := by
    rw [← hw, ← hn, BitVec.ofNat_toNat, BitVec.setWidth_eq]
  have hs : n / 2 < 4 := by omega
  rw [kernel_row m h c (⟨n / 2, hs⟩ : Fin 4) ⟨n % 2, by omega⟩ t j (by rw [hn]; show n = 2 * (n / 2) + n % 2; omega), hx, h1, h2]
  refine Eq.trans ?_ ((rows_apply c _ t j).trans (refOut_apply x a w1 w2 _ j ⟨n, hlt⟩ he)).symm
  have hn2 : n / 2 * 2 + n % 2 = n := by omega
  have e1 : ∀ i : Fin 1024, _ = _ := fun i => rows_apply c x t i
  have e2 : ∀ (i : Fin 1024) (f : Fin 2048), _ = w1 (ix3 ⟨n, hlt⟩ i f) := fun i f =>
    (first_apply (⟨n / 2, hs⟩ : Fin 4) w1 ⟨n % 2, by omega⟩ i f).trans (congrArg (fun k => w1 (ix3 k i f)) (Fin.ext hn2))
  have e3 : ∀ (f : Fin 2048) (j : Fin 1024), _ = w2 (ix3 ⟨n, hlt⟩ f j) := fun f j =>
    (second_apply (⟨n / 2, hs⟩ : Fin 4) w2 ⟨n % 2, by omega⟩ f j).trans (congrArg (fun k => w2 (ix3 k f j)) (Fin.ext hn2))
  rw [← funext e1, ← funext₂ e2, ← funext₂ e3]

/-- The kernel's claim on values: every device ends with its block of what the reference computes. -/
theorem values : Cert.algebraic_KernelIdeal_ReferenceIdeal_pre_pre_KernelIdeal (hKernelIdeal := Cert.KernelIdeal.Gen.facts)
    (hReferenceIdeal := Cert.ReferenceIdeal.Gen.facts) (hPre_pre_KernelIdeal := Cert.Pre_pre_KernelIdeal.Gen.facts) := by
  intro m g m' g' hpre harg
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine θ_run_mono (run_main m g) fun r hr c => ⟨(hr.1 c).1.trans ?_, (hr.1 c).2⟩
    exact out_eq m (fun c => fits_of_pre _ _ _ _ (hpre c)) _ _ _ _ (fun c => (harg c).1) (fun c => (harg c).2.1) (fun c => (harg c).2.2.1) (fun c => (harg c).2.2.2) c
  · exact θ_run_mono (run_reference m' g') fun r hr => hr.1 0

end Cert.Proof
-- ==== Proof.lean ====
module

public import proofs.«01_k».proof.Defs
public import proofs.«01_k».proof.Proof.Frames
public import proofs.«01_k».proof.Proof.RefFrame
public import proofs.«01_k».proof.Proof.Match
public import proofs.«01_k».proof.Proof.Gen.Pre_pre_KernelIdeal
public import proofs.«01_k».proof.Proof.Gen.Pre_pre_ReferenceIdeal

@[expose] public section

noncomputable section

namespace Cert.Proof

open Idealize.ShloMosaic Idealize.SL.Sem

/-- The five claims: the three programs run, leave their arguments alone and end with every semaphore at zero; the idealization replaces nothing; and every
    device ends with its block of what the reference computes. -/
theorem claim : Cert.Claim := ⟨Cert.Kernel.Gen.facts, Cert.KernelIdeal.Gen.facts, Cert.ReferenceIdeal.Gen.facts,
  Cert.Pre_pre_KernelIdeal.Gen.facts, Cert.Pre_pre_ReferenceIdeal.Gen.facts,
  frame_Kernel, frame_KernelIdeal, fun m g _ => frame_KernelIdeal m g trivial, frame_ReferenceIdeal, fun m g _ => frame_ReferenceIdeal m g trivial,
  trivial, values⟩

end Cert.Proof
